-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_table_KernelIdeal [hPre_in_table_KernelIdeal : Cert.Pre_in_table_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_in_table_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_table_ReferenceIdeal [hPre_in_table_ReferenceIdeal : Cert.Pre_in_table_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_table_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_in_table_KernelIdeal [hKernelIdeal : Cert.KernelIdeal.Facts] [hPre_in_table_KernelIdeal : Cert.Pre_in_table_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_table_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_table_ReferenceIdeal [hReferenceIdeal : Cert.ReferenceIdeal.Facts] [hPre_in_table_ReferenceIdeal : Cert.Pre_in_table_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_table_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_in_table_KernelIdeal [hKernelIdeal : Cert.KernelIdeal.Facts] [hReferenceIdeal : Cert.ReferenceIdeal.Facts] [hPre_in_table_KernelIdeal : Cert.Pre_in_table_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_table_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![8192, 1024]⟩ ⟨2, ![16384, 1024]⟩ (Layout.meshBlock [2, 2, 4] ![[0], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_table_KernelIdeal : Cert.Pre_in_table_KernelIdeal.Facts) (hPre_in_table_ReferenceIdeal : Cert.Pre_in_table_ReferenceIdeal.Facts),
    quiescent_Kernel (hKernel := hKernel)
    ∧ quiescent_KernelIdeal (hKernelIdeal := hKernelIdeal)
    ∧ quiescent_KernelIdeal_pre_in_table_KernelIdeal (hKernelIdeal := hKernelIdeal) (hPre_in_table_KernelIdeal := hPre_in_table_KernelIdeal)
    ∧ quiescent_ReferenceIdeal (hReferenceIdeal := hReferenceIdeal)
    ∧ quiescent_ReferenceIdeal_pre_in_table_ReferenceIdeal (hReferenceIdeal := hReferenceIdeal) (hPre_in_table_ReferenceIdeal := hPre_in_table_ReferenceIdeal)
    ∧ preserves_Kernel_KernelIdeal
    ∧ algebraic_KernelIdeal_ReferenceIdeal_pre_in_table_KernelIdeal (hKernelIdeal := hKernelIdeal) (hReferenceIdeal := hReferenceIdeal) (hPre_in_table_KernelIdeal := hPre_in_table_KernelIdeal)
-- ==== Pre_in_table_KernelIdeal.lean ====
abbrev S1024 : Shape := ⟨1, ![1024]⟩
abbrev S8192x1024 : Shape := ⟨2, ![8192, 1024]⟩
abbrev S_ : Shape := ⟨0, ![]⟩

class Facts : Prop where
  bcast_S_S1024 : S_.BroadcastsInDim S1024 (![] : Fin 0 → Fin S1024.rank)

variable [Facts]

def fn {F : FTy → Type} [FloatOps F] (main_arg0 : IVec S1024 32) (main_arg1 : FVec F S8192x1024 .f32) : IVec S1024 1 :=
  let main_c : IVec S_ 32 := constantI S_ 32 0#32
  let main_v0 : IVec S1024 32 := broadcastInDim S1024 ![] bcast_S_S1024 main_c
  let main_v1 : IVec S1024 1 := cmpi .sge main_arg0 main_v0
  let main_c_0 : IVec S_ 32 := constantI S_ 32 16384#32
  let main_v2 : IVec S1024 32 := broadcastInDim S1024 ![] bcast_S_S1024 main_c_0
  let main_v3 : IVec S1024 1 := cmpi .slt main_arg0 main_v2
  let main_v4 : IVec S1024 1 := andi main_v1 main_v3
  main_v4
-- ==== Pre_in_table_ReferenceIdeal.lean ====
abbrev S1024 : Shape := ⟨1, ![1024]⟩
abbrev S16384x1024 : Shape := ⟨2, ![16384, 1024]⟩
abbrev S_ : Shape := ⟨0, ![]⟩

class Facts : Prop where
  bcast_S_S1024 : S_.BroadcastsInDim S1024 (![] : Fin 0 → Fin S1024.rank)

variable [Facts]

def fn {F : FTy → Type} [FloatOps F] (main_arg0 : IVec S1024 32) (main_arg1 : FVec F S16384x1024 .f32) : IVec S1024 1 :=
  let main_c : IVec S_ 32 := constantI S_ 32 0#32
  let main_v0 : IVec S1024 32 := broadcastInDim S1024 ![] bcast_S_S1024 main_c
  let main_v1 : IVec S1024 1 := cmpi .sge main_arg0 main_v0
  let main_c_0 : IVec S_ 32 := constantI S_ 32 16384#32
  let main_v2 : IVec S1024 32 := broadcastInDim S1024 ![] bcast_S_S1024 main_c_0
  let main_v3 : IVec S1024 1 := cmpi .slt main_arg0 main_v2
  let main_v4 : IVec S1024 1 := andi main_v1 main_v3
  main_v4
-- ==== Kernel.lean ====
abbrev S1024 : Shape := ⟨1, ![1024]⟩
abbrev S8192x1024 : Shape := ⟨2, ![8192, 1024]⟩
abbrev S1024x1024 : Shape := ⟨2, ![1024, 1024]⟩
abbrev S8192x256 : Shape := ⟨2, ![8192, 256]⟩
abbrev S1024x256 : Shape := ⟨2, ![1024, 256]⟩
abbrev S512x256 : Shape := ⟨2, ![512, 256]⟩
abbrev S4 : Shape := ⟨1, ![4]⟩
abbrev S8 : Shape := ⟨1, ![8]⟩
abbrev S1 : Shape := ⟨1, ![1]⟩
abbrev S_ : Shape := ⟨0, ![]⟩
abbrev S2048x256 : Shape := ⟨2, ![2048, 256]⟩
abbrev S1x256 : Shape := ⟨2, ![1, 256]⟩
abbrev S8x256 : Shape := ⟨2, ![8, 256]⟩
abbrev S128x256 : Shape := ⟨2, ![128, 256]⟩

abbrev nBuf : Space → Nat
  | .hbm => 3
  | .vmem => 9
  | .smem => 1
  | _ => 0

abbrev bufTy : (tb : Table) → Fin (tcTables nBuf tb) → BufTy
  | .hbm, ⟨0, _⟩ => ⟨S1024, .i32⟩
  | .hbm, ⟨1, _⟩ => ⟨S8192x1024, .f32⟩
  | .hbm, ⟨2, _⟩ => ⟨S1024x1024, .bf16⟩
  | .local _ .vmem, ⟨0, _⟩ => ⟨S1024x1024, .bf16⟩
  | .local _ .vmem, ⟨1, _⟩ => ⟨S8192x256, .f32⟩
  | .local _ .vmem, ⟨2, _⟩ => ⟨S1024x256, .bf16⟩
  | .local _ .vmem, ⟨3, _⟩ => ⟨S1024x256, .bf16⟩
  | .local _ .vmem, ⟨4, _⟩ => ⟨S1024x256, .bf16⟩
  | .local _ .vmem, ⟨5, _⟩ => ⟨S1024x256, .bf16⟩
  | .local _ .vmem, ⟨6, _⟩ => ⟨S1024x256, .bf16⟩
  | .local _ .vmem, ⟨7, _⟩ => ⟨S512x256, .bf16⟩
  | .local _ .vmem, ⟨8, _⟩ => ⟨S512x256, .bf16⟩
  | .local _ .smem, ⟨0, _⟩ => ⟨S1024, .i32⟩
  | _, _ => ⟨S1024, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 1 → Bool
  | ⟨0, _⟩ => false
  | _ => false

abbrev dmaSemScoped : Fin 70 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | _ => false

abbrev sig : RefSig :=
  (ofTc nBuf bufTy 1 70 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg1_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_scratch5 : Ref sig .tc := ⟨.vmem, 6, rfl⟩
abbrev cc0_scratch6 : Ref sig .tc := ⟨.vmem, 7, rfl⟩
abbrev cc0_scratch7 : Ref sig .tc := ⟨.vmem, 8, rfl⟩
abbrev cc0_stg0_0 : Ref sig .tc := ⟨.smem, 0, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_mult1 (d0 : Dev nD) : BitVec 32 :=
  let c2_i32_7 : BitVec 32 := 2#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.muli c2_i32_7 v5
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v16 : BitVec 32 := Scalar.addi v15 v9
  let c256_i32 : BitVec 32 := 256#32
  let v27 : BitVec 32 := Scalar.muli v16 c256_i32
  v27
def k0_off1 (d0 : Dev nD) : Fin 2 → Nat :=
  let c0_i32_17 : BitVec 32 := 0#32
  let c2_i32_7 : BitVec 32 := 2#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.muli c2_i32_7 v5
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v16 : BitVec 32 := Scalar.addi v15 v9
  let c256_i32 : BitVec 32 := 256#32
  let v27 : BitVec 32 := Scalar.muli v16 c256_i32
  let v28 : BitVec 32 := v27
  ![0, v28.toNat]
def k0_mult2 (d0 : Dev nD) : BitVec 32 :=
  let c2_i32_7 : BitVec 32 := 2#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.muli c2_i32_7 v5
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v16 : BitVec 32 := Scalar.addi v15 v9
  let c256_i32_18 : BitVec 32 := 256#32
  let v33 : BitVec 32 := Scalar.muli v16 c256_i32_18
  v33
def k0_off2 (d0 : Dev nD) : Fin 2 → Nat :=
  let c2048_i32_21 : BitVec 32 := 2048#32
  let c2_i32_7 : BitVec 32 := 2#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.muli c2_i32_7 v5
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v16 : BitVec 32 := Scalar.addi v15 v9
  let c256_i32_18 : BitVec 32 := 256#32
  let v33 : BitVec 32 := Scalar.muli v16 c256_i32_18
  let v34 : BitVec 32 := v33
  ![2048, v34.toNat]
def k0_mult3 (d0 : Dev nD) : BitVec 32 :=
  let c2_i32_7 : BitVec 32 := 2#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.muli c2_i32_7 v5
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v16 : BitVec 32 := Scalar.addi v15 v9
  let c256_i32_22 : BitVec 32 := 256#32
  let v39 : BitVec 32 := Scalar.muli v16 c256_i32_22
  v39
def k0_off3 (d0 : Dev nD) : Fin 2 → Nat :=
  let c4096_i32_25 : BitVec 32 := 4096#32
  let c2_i32_7 : BitVec 32 := 2#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.muli c2_i32_7 v5
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v16 : BitVec 32 := Scalar.addi v15 v9
  let c256_i32_22 : BitVec 32 := 256#32
  let v39 : BitVec 32 := Scalar.muli v16 c256_i32_22
  let v40 : BitVec 32 := v39
  ![4096, v40.toNat]
def k0_mult4 (d0 : Dev nD) : BitVec 32 :=
  let c2_i32_7 : BitVec 32 := 2#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.muli c2_i32_7 v5
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v16 : BitVec 32 := Scalar.addi v15 v9
  let c256_i32_26 : BitVec 32 := 256#32
  let v45 : BitVec 32 := Scalar.muli v16 c256_i32_26
  v45
def k0_off4 (d0 : Dev nD) : Fin 2 → Nat :=
  let c6144_i32_28 : BitVec 32 := 6144#32
  let c2_i32_7 : BitVec 32 := 2#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.muli c2_i32_7 v5
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v16 : BitVec 32 := Scalar.addi v15 v9
  let c256_i32_26 : BitVec 32 := 256#32
  let v45 : BitVec 32 := Scalar.muli v16 c256_i32_26
  let v46 : BitVec 32 := v45
  ![6144, v46.toNat]
def k0_dev1 (d0 : Dev nD) : Nat :=
  let c0_i32_31 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_30 : BitVec 32 := 8#32
  let v52 : BitVec 32 := Scalar.muli v10 c8_i32_30
  let v53 : BitVec 32 := Scalar.addi c0_i32_31 v52
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_32 : BitVec 32 := 4#32
  let v54 : BitVec 32 := Scalar.muli v5 c4_i32_32
  let v55 : BitVec 32 := Scalar.addi v53 v54
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_33 : BitVec 32 := 1#32
  let v56 : BitVec 32 := Scalar.muli v8 c1_i32_33
  let v57 : BitVec 32 := Scalar.addi v55 v56
  v57.toNat
def k0_dev2 (d0 : Dev nD) : Nat :=
  let c0_i32_36 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_35 : BitVec 32 := 8#32
  let v58 : BitVec 32 := Scalar.muli v2 c8_i32_35
  let v59 : BitVec 32 := Scalar.addi c0_i32_36 v58
  let c1_i32_4 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v11 : BitVec 32 := Scalar.subi c1_i32_4 v5
  let c4_i32_37 : BitVec 32 := 4#32
  let v60 : BitVec 32 := Scalar.muli v11 c4_i32_37
  let v61 : BitVec 32 := Scalar.addi v59 v60
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_38 : BitVec 32 := 1#32
  let v62 : BitVec 32 := Scalar.muli v8 c1_i32_38
  let v63 : BitVec 32 := Scalar.addi v61 v62
  v63.toNat
def k0_dev3 (d0 : Dev nD) : Nat :=
  let c0_i32_41 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_40 : BitVec 32 := 8#32
  let v64 : BitVec 32 := Scalar.muli v2 c8_i32_40
  let v65 : BitVec 32 := Scalar.addi c0_i32_41 v64
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_42 : BitVec 32 := 4#32
  let v66 : BitVec 32 := Scalar.muli v5 c4_i32_42
  let v67 : BitVec 32 := Scalar.addi v65 v66
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v12 : BitVec 32 := Scalar.addi v8 c1_i32_5
  let c2_i32_6 : BitVec 32 := 2#32
  let c2_i32_2 : BitVec 32 := 2#32
  let v9 : BitVec 32 := Scalar.remsi v8 c2_i32_2
  let v13 : BitVec 32 := Scalar.muli c2_i32_6 v9
  let v14 : BitVec 32 := Scalar.subi v12 v13
  let c1_i32_43 : BitVec 32 := 1#32
  let v68 : BitVec 32 := Scalar.muli v14 c1_i32_43
  let v69 : BitVec 32 := Scalar.addi v67 v68
  v69.toNat
@[reducible] def k0_t1_loop : Scf.Loop 32 :=
  let c0_i32_61 : BitVec 32 := 0#32
  let c16_i32 : BitVec 32 := 16#32
  let v87 : BitVec 32 := Scalar.addi c0_i32_61 c16_i32
  let c1_i32_62 : BitVec 32 := 1#32
  ⟨c0_i32_61, v87, c1_i32_62⟩
def k0_off5 (k0_t1 : Fin k0_t1_loop.trips) : Fin 1 → Nat :=
  let c0_i32_1116 : BitVec 32 := 0#32
  let c0_i32_61 : BitVec 32 := 0#32
  let c1_i32_62 : BitVec 32 := 1#32
  let arg22 : BitVec 32 := Scf.iv c0_i32_61 c1_i32_62 k0_t1
  let c8_i32_1115 : BitVec 32 := 8#32
  let v1135 : BitVec 32 := Scalar.muli arg22 c8_i32_1115
  let v1136 : BitVec 32 := Scalar.addi c0_i32_1116 v1135
  let c0_i32_1117 : BitVec 32 := 0#32
  let v1137 : BitVec 32 := Scalar.addi v1136 c0_i32_1117
  let v1138 : Index := Scalar.indexCast v1137
  ![v1138.toNat]
def k0_off6 (d0 : Dev nD) (v1139 : BitVec 32) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8192_i32 : BitVec 32 := 8192#32
  let v86 : BitVec 32 := Scalar.muli v2 c8192_i32
  let v1140 : BitVec 32 := Scalar.subi v1139 v86
  let c0_i32_1118 : BitVec 32 := 0#32
  let v1141 : BitVec 1 := Scalar.cmpi .sge v1140 c0_i32_1118
  let c8192_i32_1119 : BitVec 32 := 8192#32
  let v1142 : BitVec 1 := Scalar.cmpi .slt v1140 c8192_i32_1119
  let v1143 : BitVec 1 := Scalar.andi v1141 v1142
  let c0_i32_1120 : BitVec 32 := 0#32
  let v1144 : BitVec 32 := Scalar.select v1143 v1140 c0_i32_1120
  let v1145 : Index := Scalar.indexCast v1144
  let c0_1121 : Index := 0#32
  ![v1145.toNat, 0]

def k0_chk1 (d0 : Dev nD) (v1139 : BitVec 32) : Prop :=
  (∀ a, (k0_off6 d0 v1139) a + S1x256.size a ≤ S8192x256.size a)
theorem k0_off6_inb : ∀ (d0 : Dev nD) (v1139 : BitVec 32) (k0_hw1 : k0_chk1 d0 v1139), ∀ a, (k0_off6 d0 v1139) a + S1x256.size a ≤ S8192x256.size a := fun d0 v1139 k0_hw1 => k0_hw1

def k0_off7 (k0_t1 : Fin k0_t1_loop.trips) : Fin 1 → Nat :=
  let c0_i32_1124 : BitVec 32 := 0#32
  let c0_i32_61 : BitVec 32 := 0#32
  let c1_i32_62 : BitVec 32 := 1#32
  let arg22 : BitVec 32 := Scf.iv c0_i32_61 c1_i32_62 k0_t1
  let c8_i32_1123 : BitVec 32 := 8#32
  let v1151 : BitVec 32 := Scalar.muli arg22 c8_i32_1123
  let v1152 : BitVec 32 := Scalar.addi c0_i32_1124 v1151
  let c1_i32_1125 : BitVec 32 := 1#32
  let v1153 : BitVec 32 := Scalar.addi v1152 c1_i32_1125
  let v1154 : Index := Scalar.indexCast v1153
  ![v1154.toNat]
def k0_off8 (d0 : Dev nD) (v1155 : BitVec 32) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8192_i32 : BitVec 32 := 8192#32
  let v86 : BitVec 32 := Scalar.muli v2 c8192_i32
  let v1156 : BitVec 32 := Scalar.subi v1155 v86
  let c0_i32_1126 : BitVec 32 := 0#32
  let v1157 : BitVec 1 := Scalar.cmpi .sge v1156 c0_i32_1126
  let c8192_i32_1127 : BitVec 32 := 8192#32
  let v1158 : BitVec 1 := Scalar.cmpi .slt v1156 c8192_i32_1127
  let v1159 : BitVec 1 := Scalar.andi v1157 v1158
  let c0_i32_1128 : BitVec 32 := 0#32
  let v1160 : BitVec 32 := Scalar.select v1159 v1156 c0_i32_1128
  let v1161 : Index := Scalar.indexCast v1160
  let c0_1129 : Index := 0#32
  ![v1161.toNat, 0]

def k0_chk2 (d0 : Dev nD) (v1155 : BitVec 32) : Prop :=
  (∀ a, (k0_off8 d0 v1155) a + S1x256.size a ≤ S8192x256.size a)
theorem k0_off8_inb : ∀ (d0 : Dev nD) (v1155 : BitVec 32) (k0_hw2 : k0_chk2 d0 v1155), ∀ a, (k0_off8 d0 v1155) a + S1x256.size a ≤ S8192x256.size a := fun d0 v1155 k0_hw2 => k0_hw2

def k0_off9 (k0_t1 : Fin k0_t1_loop.trips) : Fin 1 → Nat :=
  let c0_i32_1133 : BitVec 32 := 0#32
  let c0_i32_61 : BitVec 32 := 0#32
  let c1_i32_62 : BitVec 32 := 1#32
  let arg22 : BitVec 32 := Scf.iv c0_i32_61 c1_i32_62 k0_t1
  let c8_i32_1132 : BitVec 32 := 8#32
  let v1167 : BitVec 32 := Scalar.muli arg22 c8_i32_1132
  let v1168 : BitVec 32 := Scalar.addi c0_i32_1133 v1167
  let c2_i32_1134 : BitVec 32 := 2#32
  let v1169 : BitVec 32 := Scalar.addi v1168 c2_i32_1134
  let v1170 : Index := Scalar.indexCast v1169
  ![v1170.toNat]
def k0_off10 (d0 : Dev nD) (v1171 : BitVec 32) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8192_i32 : BitVec 32 := 8192#32
  let v86 : BitVec 32 := Scalar.muli v2 c8192_i32
  let v1172 : BitVec 32 := Scalar.subi v1171 v86
  let c0_i32_1135 : BitVec 32 := 0#32
  let v1173 : BitVec 1 := Scalar.cmpi .sge v1172 c0_i32_1135
  let c8192_i32_1136 : BitVec 32 := 8192#32
  let v1174 : BitVec 1 := Scalar.cmpi .slt v1172 c8192_i32_1136
  let v1175 : BitVec 1 := Scalar.andi v1173 v1174
  let c0_i32_1137 : BitVec 32 := 0#32
  let v1176 : BitVec 32 := Scalar.select v1175 v1172 c0_i32_1137
  let v1177 : Index := Scalar.indexCast v1176
  let c0_1138 : Index := 0#32
  ![v1177.toNat, 0]

def k0_chk3 (d0 : Dev nD) (v1171 : BitVec 32) : Prop :=
  (∀ a, (k0_off10 d0 v1171) a + S1x256.size a ≤ S8192x256.size a)
theorem k0_off10_inb : ∀ (d0 : Dev nD) (v1171 : BitVec 32) (k0_hw3 : k0_chk3 d0 v1171), ∀ a, (k0_off10 d0 v1171) a + S1x256.size a ≤ S8192x256.size a := fun d0 v1171 k0_hw3 => k0_hw3

def k0_off11 (k0_t1 : Fin k0_t1_loop.trips) : Fin 1 → Nat :=
  let c0_i32_1142 : BitVec 32 := 0#32
  let c0_i32_61 : BitVec 32 := 0#32
  let c1_i32_62 : BitVec 32 := 1#32
  let arg22 : BitVec 32 := Scf.iv c0_i32_61 c1_i32_62 k0_t1
  let c8_i32_1141 : BitVec 32 := 8#32
  let v1183 : BitVec 32 := Scalar.muli arg22 c8_i32_1141
  let v1184 : BitVec 32 := Scalar.addi c0_i32_1142 v1183
  let c3_i32_1143 : BitVec 32 := 3#32
  let v1185 : BitVec 32 := Scalar.addi v1184 c3_i32_1143
  let v1186 : Index := Scalar.indexCast v1185
  ![v1186.toNat]
def k0_off12 (d0 : Dev nD) (v1187 : BitVec 32) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8192_i32 : BitVec 32 := 8192#32
  let v86 : BitVec 32 := Scalar.muli v2 c8192_i32
  let v1188 : BitVec 32 := Scalar.subi v1187 v86
  let c0_i32_1144 : BitVec 32 := 0#32
  let v1189 : BitVec 1 := Scalar.cmpi .sge v1188 c0_i32_1144
  let c8192_i32_1145 : BitVec 32 := 8192#32
  let v1190 : BitVec 1 := Scalar.cmpi .slt v1188 c8192_i32_1145
  let v1191 : BitVec 1 := Scalar.andi v1189 v1190
  let c0_i32_1146 : BitVec 32 := 0#32
  let v1192 : BitVec 32 := Scalar.select v1191 v1188 c0_i32_1146
  let v1193 : Index := Scalar.indexCast v1192
  let c0_1147 : Index := 0#32
  ![v1193.toNat, 0]

def k0_chk4 (d0 : Dev nD) (v1187 : BitVec 32) : Prop :=
  (∀ a, (k0_off12 d0 v1187) a + S1x256.size a ≤ S8192x256.size a)
theorem k0_off12_inb : ∀ (d0 : Dev nD) (v1187 : BitVec 32) (k0_hw4 : k0_chk4 d0 v1187), ∀ a, (k0_off12 d0 v1187) a + S1x256.size a ≤ S8192x256.size a := fun d0 v1187 k0_hw4 => k0_hw4

def k0_off13 (k0_t1 : Fin k0_t1_loop.trips) : Fin 1 → Nat :=
  let c0_i32_1151 : BitVec 32 := 0#32
  let c0_i32_61 : BitVec 32 := 0#32
  let c1_i32_62 : BitVec 32 := 1#32
  let arg22 : BitVec 32 := Scf.iv c0_i32_61 c1_i32_62 k0_t1
  let c8_i32_1150 : BitVec 32 := 8#32
  let v1199 : BitVec 32 := Scalar.muli arg22 c8_i32_1150
  let v1200 : BitVec 32 := Scalar.addi c0_i32_1151 v1199
  let c4_i32_1152 : BitVec 32 := 4#32
  let v1201 : BitVec 32 := Scalar.addi v1200 c4_i32_1152
  let v1202 : Index := Scalar.indexCast v1201
  ![v1202.toNat]
def k0_off14 (d0 : Dev nD) (v1203 : BitVec 32) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8192_i32 : BitVec 32 := 8192#32
  let v86 : BitVec 32 := Scalar.muli v2 c8192_i32
  let v1204 : BitVec 32 := Scalar.subi v1203 v86
  let c0_i32_1153 : BitVec 32 := 0#32
  let v1205 : BitVec 1 := Scalar.cmpi .sge v1204 c0_i32_1153
  let c8192_i32_1154 : BitVec 32 := 8192#32
  let v1206 : BitVec 1 := Scalar.cmpi .slt v1204 c8192_i32_1154
  let v1207 : BitVec 1 := Scalar.andi v1205 v1206
  let c0_i32_1155 : BitVec 32 := 0#32
  let v1208 : BitVec 32 := Scalar.select v1207 v1204 c0_i32_1155
  let v1209 : Index := Scalar.indexCast v1208
  let c0_1156 : Index := 0#32
  ![v1209.toNat, 0]

def k0_chk5 (d0 : Dev nD) (v1203 : BitVec 32) : Prop :=
  (∀ a, (k0_off14 d0 v1203) a + S1x256.size a ≤ S8192x256.size a)
theorem k0_off14_inb : ∀ (d0 : Dev nD) (v1203 : BitVec 32) (k0_hw5 : k0_chk5 d0 v1203), ∀ a, (k0_off14 d0 v1203) a + S1x256.size a ≤ S8192x256.size a := fun d0 v1203 k0_hw5 => k0_hw5

def k0_off15 (k0_t1 : Fin k0_t1_loop.trips) : Fin 1 → Nat :=
  let c0_i32_1160 : BitVec 32 := 0#32
  let c0_i32_61 : BitVec 32 := 0#32
  let c1_i32_62 : BitVec 32 := 1#32
  let arg22 : BitVec 32 := Scf.iv c0_i32_61 c1_i32_62 k0_t1
  let c8_i32_1159 : BitVec 32 := 8#32
  let v1215 : BitVec 32 := Scalar.muli arg22 c8_i32_1159
  let v1216 : BitVec 32 := Scalar.addi c0_i32_1160 v1215
  let c5_i32_1161 : BitVec 32 := 5#32
  let v1217 : BitVec 32 := Scalar.addi v1216 c5_i32_1161
  let v1218 : Index := Scalar.indexCast v1217
  ![v1218.toNat]
def k0_off16 (d0 : Dev nD) (v1219 : BitVec 32) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8192_i32 : BitVec 32 := 8192#32
  let v86 : BitVec 32 := Scalar.muli v2 c8192_i32
  let v1220 : BitVec 32 := Scalar.subi v1219 v86
  let c0_i32_1162 : BitVec 32 := 0#32
  let v1221 : BitVec 1 := Scalar.cmpi .sge v1220 c0_i32_1162
  let c8192_i32_1163 : BitVec 32 := 8192#32
  let v1222 : BitVec 1 := Scalar.cmpi .slt v1220 c8192_i32_1163
  let v1223 : BitVec 1 := Scalar.andi v1221 v1222
  let c0_i32_1164 : BitVec 32 := 0#32
  let v1224 : BitVec 32 := Scalar.select v1223 v1220 c0_i32_1164
  let v1225 : Index := Scalar.indexCast v1224
  let c0_1165 : Index := 0#32
  ![v1225.toNat, 0]

def k0_chk6 (d0 : Dev nD) (v1219 : BitVec 32) : Prop :=
  (∀ a, (k0_off16 d0 v1219) a + S1x256.size a ≤ S8192x256.size a)
theorem k0_off16_inb : ∀ (d0 : Dev nD) (v1219 : BitVec 32) (k0_hw6 : k0_chk6 d0 v1219), ∀ a, (k0_off16 d0 v1219) a + S1x256.size a ≤ S8192x256.size a := fun d0 v1219 k0_hw6 => k0_hw6

def k0_off17 (k0_t1 : Fin k0_t1_loop.trips) : Fin 1 → Nat :=
  let c0_i32_1169 : BitVec 32 := 0#32
  let c0_i32_61 : BitVec 32 := 0#32
  let c1_i32_62 : BitVec 32 := 1#32
  let arg22 : BitVec 32 := Scf.iv c0_i32_61 c1_i32_62 k0_t1
  let c8_i32_1168 : BitVec 32 := 8#32
  let v1231 : BitVec 32 := Scalar.muli arg22 c8_i32_1168
  let v1232 : BitVec 32 := Scalar.addi c0_i32_1169 v1231
  let c6_i32_1170 : BitVec 32 := 6#32
  let v1233 : BitVec 32 := Scalar.addi v1232 c6_i32_1170
  let v1234 : Index := Scalar.indexCast v1233
  ![v1234.toNat]
def k0_off18 (d0 : Dev nD) (v1235 : BitVec 32) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8192_i32 : BitVec 32 := 8192#32
  let v86 : BitVec 32 := Scalar.muli v2 c8192_i32
  let v1236 : BitVec 32 := Scalar.subi v1235 v86
  let c0_i32_1171 : BitVec 32 := 0#32
  let v1237 : BitVec 1 := Scalar.cmpi .sge v1236 c0_i32_1171
  let c8192_i32_1172 : BitVec 32 := 8192#32
  let v1238 : BitVec 1 := Scalar.cmpi .slt v1236 c8192_i32_1172
  let v1239 : BitVec 1 := Scalar.andi v1237 v1238
  let c0_i32_1173 : BitVec 32 := 0#32
  let v1240 : BitVec 32 := Scalar.select v1239 v1236 c0_i32_1173
  let v1241 : Index := Scalar.indexCast v1240
  let c0_1174 : Index := 0#32
  ![v1241.toNat, 0]

def k0_chk7 (d0 : Dev nD) (v1235 : BitVec 32) : Prop :=
  (∀ a, (k0_off18 d0 v1235) a + S1x256.size a ≤ S8192x256.size a)
theorem k0_off18_inb : ∀ (d0 : Dev nD) (v1235 : BitVec 32) (k0_hw7 : k0_chk7 d0 v1235), ∀ a, (k0_off18 d0 v1235) a + S1x256.size a ≤ S8192x256.size a := fun d0 v1235 k0_hw7 => k0_hw7

def k0_off19 (k0_t1 : Fin k0_t1_loop.trips) : Fin 1 → Nat :=
  let c0_i32_1178 : BitVec 32 := 0#32
  let c0_i32_61 : BitVec 32 := 0#32
  let c1_i32_62 : BitVec 32 := 1#32
  let arg22 : BitVec 32 := Scf.iv c0_i32_61 c1_i32_62 k0_t1
  let c8_i32_1177 : BitVec 32 := 8#32
  let v1247 : BitVec 32 := Scalar.muli arg22 c8_i32_1177
  let v1248 : BitVec 32 := Scalar.addi c0_i32_1178 v1247
  let c7_i32_1179 : BitVec 32 := 7#32
  let v1249 : BitVec 32 := Scalar.addi v1248 c7_i32_1179
  let v1250 : Index := Scalar.indexCast v1249
  ![v1250.toNat]
def k0_off20 (d0 : Dev nD) (v1251 : BitVec 32) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8192_i32 : BitVec 32 := 8192#32
  let v86 : BitVec 32 := Scalar.muli v2 c8192_i32
  let v1252 : BitVec 32 := Scalar.subi v1251 v86
  let c0_i32_1180 : BitVec 32 := 0#32
  let v1253 : BitVec 1 := Scalar.cmpi .sge v1252 c0_i32_1180
  let c8192_i32_1181 : BitVec 32 := 8192#32
  let v1254 : BitVec 1 := Scalar.cmpi .slt v1252 c8192_i32_1181
  let v1255 : BitVec 1 := Scalar.andi v1253 v1254
  let c0_i32_1182 : BitVec 32 := 0#32
  let v1256 : BitVec 32 := Scalar.select v1255 v1252 c0_i32_1182
  let v1257 : Index := Scalar.indexCast v1256
  let c0_1183 : Index := 0#32
  ![v1257.toNat, 0]

def k0_chk8 (d0 : Dev nD) (v1251 : BitVec 32) : Prop :=
  (∀ a, (k0_off20 d0 v1251) a + S1x256.size a ≤ S8192x256.size a)
theorem k0_off20_inb : ∀ (d0 : Dev nD) (v1251 : BitVec 32) (k0_hw8 : k0_chk8 d0 v1251), ∀ a, (k0_off20 d0 v1251) a + S1x256.size a ≤ S8192x256.size a := fun d0 v1251 k0_hw8 => k0_hw8

def k0_mult5 (k0_t1 : Fin k0_t1_loop.trips) : BitVec 32 :=
  let c0_i32_1187 : BitVec 32 := 0#32
  let c0_i32_61 : BitVec 32 := 0#32
  let c1_i32_62 : BitVec 32 := 1#32
  let arg22 : BitVec 32 := Scf.iv c0_i32_61 c1_i32_62 k0_t1
  let c8_i32_1186 : BitVec 32 := 8#32
  let v1264 : BitVec 32 := Scalar.muli arg22 c8_i32_1186
  let v1265 : BitVec 32 := Scalar.addi c0_i32_1187 v1264
  v1265
def k0_off21 (k0_t1 : Fin k0_t1_loop.trips) : Fin 2 → Nat :=
  let c0_i32_1187 : BitVec 32 := 0#32
  let c0_i32_61 : BitVec 32 := 0#32
  let c1_i32_62 : BitVec 32 := 1#32
  let arg22 : BitVec 32 := Scf.iv c0_i32_61 c1_i32_62 k0_t1
  let c8_i32_1186 : BitVec 32 := 8#32
  let v1264 : BitVec 32 := Scalar.muli arg22 c8_i32_1186
  let v1265 : BitVec 32 := Scalar.addi c0_i32_1187 v1264
  let v1266 : BitVec 32 := v1265
  let v1267 : Index := Scalar.indexCast v1266
  let c0_1188 : Index := 0#32
  ![v1267.toNat, 0]
def k0_dev4 (d0 : Dev nD) : Nat :=
  let c0_i32_67 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_66 : BitVec 32 := 8#32
  let v88 : BitVec 32 := Scalar.muli v10 c8_i32_66
  let v89 : BitVec 32 := Scalar.addi c0_i32_67 v88
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_68 : BitVec 32 := 4#32
  let v90 : BitVec 32 := Scalar.muli v5 c4_i32_68
  let v91 : BitVec 32 := Scalar.addi v89 v90
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_69 : BitVec 32 := 1#32
  let v92 : BitVec 32 := Scalar.muli v8 c1_i32_69
  let v93 : BitVec 32 := Scalar.addi v91 v92
  v93.toNat
@[reducible] def k0_t2_loop : Scf.Loop 32 :=
  let c0_i32_74 : BitVec 32 := 0#32
  let c16_i32_75 : BitVec 32 := 16#32
  let v100 : BitVec 32 := Scalar.addi c0_i32_74 c16_i32_75
  let c1_i32_76 : BitVec 32 := 1#32
  ⟨c0_i32_74, v100, c1_i32_76⟩
def k0_off22 (k0_t2 : Fin k0_t2_loop.trips) : Fin 1 → Nat :=
  let c128_i32_1116 : BitVec 32 := 128#32
  let c0_i32_74 : BitVec 32 := 0#32
  let c1_i32_76 : BitVec 32 := 1#32
  let arg22 : BitVec 32 := Scf.iv c0_i32_74 c1_i32_76 k0_t2
  let c8_i32_1115 : BitVec 32 := 8#32
  let v1135 : BitVec 32 := Scalar.muli arg22 c8_i32_1115
  let v1136 : BitVec 32 := Scalar.addi c128_i32_1116 v1135
  let c0_i32_1117 : BitVec 32 := 0#32
  let v1137 : BitVec 32 := Scalar.addi v1136 c0_i32_1117
  let v1138 : Index := Scalar.indexCast v1137
  ![v1138.toNat]
def k0_off23 (d0 : Dev nD) (v1139 : BitVec 32) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8192_i32 : BitVec 32 := 8192#32
  let v86 : BitVec 32 := Scalar.muli v2 c8192_i32
  let v1140 : BitVec 32 := Scalar.subi v1139 v86
  let c0_i32_1118 : BitVec 32 := 0#32
  let v1141 : BitVec 1 := Scalar.cmpi .sge v1140 c0_i32_1118
  let c8192_i32_1119 : BitVec 32 := 8192#32
  let v1142 : BitVec 1 := Scalar.cmpi .slt v1140 c8192_i32_1119
  let v1143 : BitVec 1 := Scalar.andi v1141 v1142
  let c0_i32_1120 : BitVec 32 := 0#32
  let v1144 : BitVec 32 := Scalar.select v1143 v1140 c0_i32_1120
  let v1145 : Index := Scalar.indexCast v1144
  let c0_1121 : Index := 0#32
  ![v1145.toNat, 0]

def k0_chk9 (d0 : Dev nD) (v1139 : BitVec 32) : Prop :=
  (∀ a, (k0_off23 d0 v1139) a + S1x256.size a ≤ S8192x256.size a)
theorem k0_off23_inb : ∀ (d0 : Dev nD) (v1139 : BitVec 32) (k0_hw9 : k0_chk9 d0 v1139), ∀ a, (k0_off23 d0 v1139) a + S1x256.size a ≤ S8192x256.size a := fun d0 v1139 k0_hw9 => k0_hw9

def k0_off24 (k0_t2 : Fin k0_t2_loop.trips) : Fin 1 → Nat :=
  let c128_i32_1124 : BitVec 32 := 128#32
  let c0_i32_74 : BitVec 32 := 0#32
  let c1_i32_76 : BitVec 32 := 1#32
  let arg22 : BitVec 32 := Scf.iv c0_i32_74 c1_i32_76 k0_t2
  let c8_i32_1123 : BitVec 32 := 8#32
  let v1151 : BitVec 32 := Scalar.muli arg22 c8_i32_1123
  let v1152 : BitVec 32 := Scalar.addi c128_i32_1124 v1151
  let c1_i32_1125 : BitVec 32 := 1#32
  let v1153 : BitVec 32 := Scalar.addi v1152 c1_i32_1125
  let v1154 : Index := Scalar.indexCast v1153
  ![v1154.toNat]
def k0_off25 (d0 : Dev nD) (v1155 : BitVec 32) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8192_i32 : BitVec 32 := 8192#32
  let v86 : BitVec 32 := Scalar.muli v2 c8192_i32
  let v1156 : BitVec 32 := Scalar.subi v1155 v86
  let c0_i32_1126 : BitVec 32 := 0#32
  let v1157 : BitVec 1 := Scalar.cmpi .sge v1156 c0_i32_1126
  let c8192_i32_1127 : BitVec 32 := 8192#32
  let v1158 : BitVec 1 := Scalar.cmpi .slt v1156 c8192_i32_1127
  let v1159 : BitVec 1 := Scalar.andi v1157 v1158
  let c0_i32_1128 : BitVec 32 := 0#32
  let v1160 : BitVec 32 := Scalar.select v1159 v1156 c0_i32_1128
  let v1161 : Index := Scalar.indexCast v1160
  let c0_1129 : Index := 0#32
  ![v1161.toNat, 0]

def k0_chk10 (d0 : Dev nD) (v1155 : BitVec 32) : Prop :=
  (∀ a, (k0_off25 d0 v1155) a + S1x256.size a ≤ S8192x256.size a)
theorem k0_off25_inb : ∀ (d0 : Dev nD) (v1155 : BitVec 32) (k0_hw10 : k0_chk10 d0 v1155), ∀ a, (k0_off25 d0 v1155) a + S1x256.size a ≤ S8192x256.size a := fun d0 v1155 k0_hw10 => k0_hw10

def k0_off26 (k0_t2 : Fin k0_t2_loop.trips) : Fin 1 → Nat :=
  let c128_i32_1133 : BitVec 32 := 128#32
  let c0_i32_74 : BitVec 32 := 0#32
  let c1_i32_76 : BitVec 32 := 1#32
  let arg22 : BitVec 32 := Scf.iv c0_i32_74 c1_i32_76 k0_t2
  let c8_i32_1132 : BitVec 32 := 8#32
  let v1167 : BitVec 32 := Scalar.muli arg22 c8_i32_1132
  let v1168 : BitVec 32 := Scalar.addi c128_i32_1133 v1167
  let c2_i32_1134 : BitVec 32 := 2#32
  let v1169 : BitVec 32 := Scalar.addi v1168 c2_i32_1134
  let v1170 : Index := Scalar.indexCast v1169
  ![v1170.toNat]
def k0_off27 (d0 : Dev nD) (v1171 : BitVec 32) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8192_i32 : BitVec 32 := 8192#32
  let v86 : BitVec 32 := Scalar.muli v2 c8192_i32
  let v1172 : BitVec 32 := Scalar.subi v1171 v86
  let c0_i32_1135 : BitVec 32 := 0#32
  let v1173 : BitVec 1 := Scalar.cmpi .sge v1172 c0_i32_1135
  let c8192_i32_1136 : BitVec 32 := 8192#32
  let v1174 : BitVec 1 := Scalar.cmpi .slt v1172 c8192_i32_1136
  let v1175 : BitVec 1 := Scalar.andi v1173 v1174
  let c0_i32_1137 : BitVec 32 := 0#32
  let v1176 : BitVec 32 := Scalar.select v1175 v1172 c0_i32_1137
  let v1177 : Index := Scalar.indexCast v1176
  let c0_1138 : Index := 0#32
  ![v1177.toNat, 0]

def k0_chk11 (d0 : Dev nD) (v1171 : BitVec 32) : Prop :=
  (∀ a, (k0_off27 d0 v1171) a + S1x256.size a ≤ S8192x256.size a)
theorem k0_off27_inb : ∀ (d0 : Dev nD) (v1171 : BitVec 32) (k0_hw11 : k0_chk11 d0 v1171), ∀ a, (k0_off27 d0 v1171) a + S1x256.size a ≤ S8192x256.size a := fun d0 v1171 k0_hw11 => k0_hw11

def k0_off28 (k0_t2 : Fin k0_t2_loop.trips) : Fin 1 → Nat :=
  let c128_i32_1142 : BitVec 32 := 128#32
  let c0_i32_74 : BitVec 32 := 0#32
  let c1_i32_76 : BitVec 32 := 1#32
  let arg22 : BitVec 32 := Scf.iv c0_i32_74 c1_i32_76 k0_t2
  let c8_i32_1141 : BitVec 32 := 8#32
  let v1183 : BitVec 32 := Scalar.muli arg22 c8_i32_1141
  let v1184 : BitVec 32 := Scalar.addi c128_i32_1142 v1183
  let c3_i32_1143 : BitVec 32 := 3#32
  let v1185 : BitVec 32 := Scalar.addi v1184 c3_i32_1143
  let v1186 : Index := Scalar.indexCast v1185
  ![v1186.toNat]
def k0_off29 (d0 : Dev nD) (v1187 : BitVec 32) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8192_i32 : BitVec 32 := 8192#32
  let v86 : BitVec 32 := Scalar.muli v2 c8192_i32
  let v1188 : BitVec 32 := Scalar.subi v1187 v86
  let c0_i32_1144 : BitVec 32 := 0#32
  let v1189 : BitVec 1 := Scalar.cmpi .sge v1188 c0_i32_1144
  let c8192_i32_1145 : BitVec 32 := 8192#32
  let v1190 : BitVec 1 := Scalar.cmpi .slt v1188 c8192_i32_1145
  let v1191 : BitVec 1 := Scalar.andi v1189 v1190
  let c0_i32_1146 : BitVec 32 := 0#32
  let v1192 : BitVec 32 := Scalar.select v1191 v1188 c0_i32_1146
  let v1193 : Index := Scalar.indexCast v1192
  let c0_1147 : Index := 0#32
  ![v1193.toNat, 0]

def k0_chk12 (d0 : Dev nD) (v1187 : BitVec 32) : Prop :=
  (∀ a, (k0_off29 d0 v1187) a + S1x256.size a ≤ S8192x256.size a)
theorem k0_off29_inb : ∀ (d0 : Dev nD) (v1187 : BitVec 32) (k0_hw12 : k0_chk12 d0 v1187), ∀ a, (k0_off29 d0 v1187) a + S1x256.size a ≤ S8192x256.size a := fun d0 v1187 k0_hw12 => k0_hw12

def k0_off30 (k0_t2 : Fin k0_t2_loop.trips) : Fin 1 → Nat :=
  let c128_i32_1151 : BitVec 32 := 128#32
  let c0_i32_74 : BitVec 32 := 0#32
  let c1_i32_76 : BitVec 32 := 1#32
  let arg22 : BitVec 32 := Scf.iv c0_i32_74 c1_i32_76 k0_t2
  let c8_i32_1150 : BitVec 32 := 8#32
  let v1199 : BitVec 32 := Scalar.muli arg22 c8_i32_1150
  let v1200 : BitVec 32 := Scalar.addi c128_i32_1151 v1199
  let c4_i32_1152 : BitVec 32 := 4#32
  let v1201 : BitVec 32 := Scalar.addi v1200 c4_i32_1152
  let v1202 : Index := Scalar.indexCast v1201
  ![v1202.toNat]
def k0_off31 (d0 : Dev nD) (v1203 : BitVec 32) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8192_i32 : BitVec 32 := 8192#32
  let v86 : BitVec 32 := Scalar.muli v2 c8192_i32
  let v1204 : BitVec 32 := Scalar.subi v1203 v86
  let c0_i32_1153 : BitVec 32 := 0#32
  let v1205 : BitVec 1 := Scalar.cmpi .sge v1204 c0_i32_1153
  let c8192_i32_1154 : BitVec 32 := 8192#32
  let v1206 : BitVec 1 := Scalar.cmpi .slt v1204 c8192_i32_1154
  let v1207 : BitVec 1 := Scalar.andi v1205 v1206
  let c0_i32_1155 : BitVec 32 := 0#32
  let v1208 : BitVec 32 := Scalar.select v1207 v1204 c0_i32_1155
  let v1209 : Index := Scalar.indexCast v1208
  let c0_1156 : Index := 0#32
  ![v1209.toNat, 0]

def k0_chk13 (d0 : Dev nD) (v1203 : BitVec 32) : Prop :=
  (∀ a, (k0_off31 d0 v1203) a + S1x256.size a ≤ S8192x256.size a)
theorem k0_off31_inb : ∀ (d0 : Dev nD) (v1203 : BitVec 32) (k0_hw13 : k0_chk13 d0 v1203), ∀ a, (k0_off31 d0 v1203) a + S1x256.size a ≤ S8192x256.size a := fun d0 v1203 k0_hw13 => k0_hw13

def k0_off32 (k0_t2 : Fin k0_t2_loop.trips) : Fin 1 → Nat :=
  let c128_i32_1160 : BitVec 32 := 128#32
  let c0_i32_74 : BitVec 32 := 0#32
  let c1_i32_76 : BitVec 32 := 1#32
  let arg22 : BitVec 32 := Scf.iv c0_i32_74 c1_i32_76 k0_t2
  let c8_i32_1159 : BitVec 32 := 8#32
  let v1215 : BitVec 32 := Scalar.muli arg22 c8_i32_1159
  let v1216 : BitVec 32 := Scalar.addi c128_i32_1160 v1215
  let c5_i32_1161 : BitVec 32 := 5#32
  let v1217 : BitVec 32 := Scalar.addi v1216 c5_i32_1161
  let v1218 : Index := Scalar.indexCast v1217
  ![v1218.toNat]
def k0_off33 (d0 : Dev nD) (v1219 : BitVec 32) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8192_i32 : BitVec 32 := 8192#32
  let v86 : BitVec 32 := Scalar.muli v2 c8192_i32
  let v1220 : BitVec 32 := Scalar.subi v1219 v86
  let c0_i32_1162 : BitVec 32 := 0#32
  let v1221 : BitVec 1 := Scalar.cmpi .sge v1220 c0_i32_1162
  let c8192_i32_1163 : BitVec 32 := 8192#32
  let v1222 : BitVec 1 := Scalar.cmpi .slt v1220 c8192_i32_1163
  let v1223 : BitVec 1 := Scalar.andi v1221 v1222
  let c0_i32_1164 : BitVec 32 := 0#32
  let v1224 : BitVec 32 := Scalar.select v1223 v1220 c0_i32_1164
  let v1225 : Index := Scalar.indexCast v1224
  let c0_1165 : Index := 0#32
  ![v1225.toNat, 0]

def k0_chk14 (d0 : Dev nD) (v1219 : BitVec 32) : Prop :=
  (∀ a, (k0_off33 d0 v1219) a + S1x256.size a ≤ S8192x256.size a)
theorem k0_off33_inb : ∀ (d0 : Dev nD) (v1219 : BitVec 32) (k0_hw14 : k0_chk14 d0 v1219), ∀ a, (k0_off33 d0 v1219) a + S1x256.size a ≤ S8192x256.size a := fun d0 v1219 k0_hw14 => k0_hw14

def k0_off34 (k0_t2 : Fin k0_t2_loop.trips) : Fin 1 → Nat :=
  let c128_i32_1169 : BitVec 32 := 128#32
  let c0_i32_74 : BitVec 32 := 0#32
  let c1_i32_76 : BitVec 32 := 1#32
  let arg22 : BitVec 32 := Scf.iv c0_i32_74 c1_i32_76 k0_t2
  let c8_i32_1168 : BitVec 32 := 8#32
  let v1231 : BitVec 32 := Scalar.muli arg22 c8_i32_1168
  let v1232 : BitVec 32 := Scalar.addi c128_i32_1169 v1231
  let c6_i32_1170 : BitVec 32 := 6#32
  let v1233 : BitVec 32 := Scalar.addi v1232 c6_i32_1170
  let v1234 : Index := Scalar.indexCast v1233
  ![v1234.toNat]
def k0_off35 (d0 : Dev nD) (v1235 : BitVec 32) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8192_i32 : BitVec 32 := 8192#32
  let v86 : BitVec 32 := Scalar.muli v2 c8192_i32
  let v1236 : BitVec 32 := Scalar.subi v1235 v86
  let c0_i32_1171 : BitVec 32 := 0#32
  let v1237 : BitVec 1 := Scalar.cmpi .sge v1236 c0_i32_1171
  let c8192_i32_1172 : BitVec 32 := 8192#32
  let v1238 : BitVec 1 := Scalar.cmpi .slt v1236 c8192_i32_1172
  let v1239 : BitVec 1 := Scalar.andi v1237 v1238
  let c0_i32_1173 : BitVec 32 := 0#32
  let v1240 : BitVec 32 := Scalar.select v1239 v1236 c0_i32_1173
  let v1241 : Index := Scalar.indexCast v1240
  let c0_1174 : Index := 0#32
  ![v1241.toNat, 0]

def k0_chk15 (d0 : Dev nD) (v1235 : BitVec 32) : Prop :=
  (∀ a, (k0_off35 d0 v1235) a + S1x256.size a ≤ S8192x256.size a)
theorem k0_off35_inb : ∀ (d0 : Dev nD) (v1235 : BitVec 32) (k0_hw15 : k0_chk15 d0 v1235), ∀ a, (k0_off35 d0 v1235) a + S1x256.size a ≤ S8192x256.size a := fun d0 v1235 k0_hw15 => k0_hw15

def k0_off36 (k0_t2 : Fin k0_t2_loop.trips) : Fin 1 → Nat :=
  let c128_i32_1178 : BitVec 32 := 128#32
  let c0_i32_74 : BitVec 32 := 0#32
  let c1_i32_76 : BitVec 32 := 1#32
  let arg22 : BitVec 32 := Scf.iv c0_i32_74 c1_i32_76 k0_t2
  let c8_i32_1177 : BitVec 32 := 8#32
  let v1247 : BitVec 32 := Scalar.muli arg22 c8_i32_1177
  let v1248 : BitVec 32 := Scalar.addi c128_i32_1178 v1247
  let c7_i32_1179 : BitVec 32 := 7#32
  let v1249 : BitVec 32 := Scalar.addi v1248 c7_i32_1179
  let v1250 : Index := Scalar.indexCast v1249
  ![v1250.toNat]
def k0_off37 (d0 : Dev nD) (v1251 : BitVec 32) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8192_i32 : BitVec 32 := 8192#32
  let v86 : BitVec 32 := Scalar.muli v2 c8192_i32
  let v1252 : BitVec 32 := Scalar.subi v1251 v86
  let c0_i32_1180 : BitVec 32 := 0#32
  let v1253 : BitVec 1 := Scalar.cmpi .sge v1252 c0_i32_1180
  let c8192_i32_1181 : BitVec 32 := 8192#32
  let v1254 : BitVec 1 := Scalar.cmpi .slt v1252 c8192_i32_1181
  let v1255 : BitVec 1 := Scalar.andi v1253 v1254
  let c0_i32_1182 : BitVec 32 := 0#32
  let v1256 : BitVec 32 := Scalar.select v1255 v1252 c0_i32_1182
  let v1257 : Index := Scalar.indexCast v1256
  let c0_1183 : Index := 0#32
  ![v1257.toNat, 0]

def k0_chk16 (d0 : Dev nD) (v1251 : BitVec 32) : Prop :=
  (∀ a, (k0_off37 d0 v1251) a + S1x256.size a ≤ S8192x256.size a)
theorem k0_off37_inb : ∀ (d0 : Dev nD) (v1251 : BitVec 32) (k0_hw16 : k0_chk16 d0 v1251), ∀ a, (k0_off37 d0 v1251) a + S1x256.size a ≤ S8192x256.size a := fun d0 v1251 k0_hw16 => k0_hw16

def k0_mult6 (k0_t2 : Fin k0_t2_loop.trips) : BitVec 32 :=
  let c128_i32_1187 : BitVec 32 := 128#32
  let c0_i32_74 : BitVec 32 := 0#32
  let c1_i32_76 : BitVec 32 := 1#32
  let arg22 : BitVec 32 := Scf.iv c0_i32_74 c1_i32_76 k0_t2
  let c8_i32_1186 : BitVec 32 := 8#32
  let v1264 : BitVec 32 := Scalar.muli arg22 c8_i32_1186
  let v1265 : BitVec 32 := Scalar.addi c128_i32_1187 v1264
  v1265
def k0_off38 (k0_t2 : Fin k0_t2_loop.trips) : Fin 2 → Nat :=
  let c128_i32_1187 : BitVec 32 := 128#32
  let c0_i32_74 : BitVec 32 := 0#32
  let c1_i32_76 : BitVec 32 := 1#32
  let arg22 : BitVec 32 := Scf.iv c0_i32_74 c1_i32_76 k0_t2
  let c8_i32_1186 : BitVec 32 := 8#32
  let v1264 : BitVec 32 := Scalar.muli arg22 c8_i32_1186
  let v1265 : BitVec 32 := Scalar.addi c128_i32_1187 v1264
  let v1266 : BitVec 32 := v1265
  let v1267 : Index := Scalar.indexCast v1266
  let c0_1188 : Index := 0#32
  ![v1267.toNat, 0]
def k0_dev5 (d0 : Dev nD) : Nat :=
  let c0_i32_81 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_80 : BitVec 32 := 8#32
  let v101 : BitVec 32 := Scalar.muli v10 c8_i32_80
  let v102 : BitVec 32 := Scalar.addi c0_i32_81 v101
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_82 : BitVec 32 := 4#32
  let v103 : BitVec 32 := Scalar.muli v5 c4_i32_82
  let v104 : BitVec 32 := Scalar.addi v102 v103
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_83 : BitVec 32 := 1#32
  let v105 : BitVec 32 := Scalar.muli v8 c1_i32_83
  let v106 : BitVec 32 := Scalar.addi v104 v105
  v106.toNat
@[reducible] def k0_t3_loop : Scf.Loop 32 :=
  let c0_i32_87 : BitVec 32 := 0#32
  let c16_i32_88 : BitVec 32 := 16#32
  let v113 : BitVec 32 := Scalar.addi c0_i32_87 c16_i32_88
  let c1_i32_89 : BitVec 32 := 1#32
  ⟨c0_i32_87, v113, c1_i32_89⟩
def k0_off39 (k0_t3 : Fin k0_t3_loop.trips) : Fin 1 → Nat :=
  let c256_i32_1116 : BitVec 32 := 256#32
  let c0_i32_87 : BitVec 32 := 0#32
  let c1_i32_89 : BitVec 32 := 1#32
  let arg22 : BitVec 32 := Scf.iv c0_i32_87 c1_i32_89 k0_t3
  let c8_i32_1115 : BitVec 32 := 8#32
  let v1135 : BitVec 32 := Scalar.muli arg22 c8_i32_1115
  let v1136 : BitVec 32 := Scalar.addi c256_i32_1116 v1135
  let c0_i32_1117 : BitVec 32 := 0#32
  let v1137 : BitVec 32 := Scalar.addi v1136 c0_i32_1117
  let v1138 : Index := Scalar.indexCast v1137
  ![v1138.toNat]
def k0_off40 (d0 : Dev nD) (v1139 : BitVec 32) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8192_i32 : BitVec 32 := 8192#32
  let v86 : BitVec 32 := Scalar.muli v2 c8192_i32
  let v1140 : BitVec 32 := Scalar.subi v1139 v86
  let c0_i32_1118 : BitVec 32 := 0#32
  let v1141 : BitVec 1 := Scalar.cmpi .sge v1140 c0_i32_1118
  let c8192_i32_1119 : BitVec 32 := 8192#32
  let v1142 : BitVec 1 := Scalar.cmpi .slt v1140 c8192_i32_1119
  let v1143 : BitVec 1 := Scalar.andi v1141 v1142
  let c0_i32_1120 : BitVec 32 := 0#32
  let v1144 : BitVec 32 := Scalar.select v1143 v1140 c0_i32_1120
  let v1145 : Index := Scalar.indexCast v1144
  let c0_1121 : Index := 0#32
  ![v1145.toNat, 0]

def k0_chk17 (d0 : Dev nD) (v1139 : BitVec 32) : Prop :=
  (∀ a, (k0_off40 d0 v1139) a + S1x256.size a ≤ S8192x256.size a)
theorem k0_off40_inb : ∀ (d0 : Dev nD) (v1139 : BitVec 32) (k0_hw17 : k0_chk17 d0 v1139), ∀ a, (k0_off40 d0 v1139) a + S1x256.size a ≤ S8192x256.size a := fun d0 v1139 k0_hw17 => k0_hw17

def k0_off41 (k0_t3 : Fin k0_t3_loop.trips) : Fin 1 → Nat :=
  let c256_i32_1124 : BitVec 32 := 256#32
  let c0_i32_87 : BitVec 32 := 0#32
  let c1_i32_89 : BitVec 32 := 1#32
  let arg22 : BitVec 32 := Scf.iv c0_i32_87 c1_i32_89 k0_t3
  let c8_i32_1123 : BitVec 32 := 8#32
  let v1151 : BitVec 32 := Scalar.muli arg22 c8_i32_1123
  let v1152 : BitVec 32 := Scalar.addi c256_i32_1124 v1151
  let c1_i32_1125 : BitVec 32 := 1#32
  let v1153 : BitVec 32 := Scalar.addi v1152 c1_i32_1125
  let v1154 : Index := Scalar.indexCast v1153
  ![v1154.toNat]
def k0_off42 (d0 : Dev nD) (v1155 : BitVec 32) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8192_i32 : BitVec 32 := 8192#32
  let v86 : BitVec 32 := Scalar.muli v2 c8192_i32
  let v1156 : BitVec 32 := Scalar.subi v1155 v86
  let c0_i32_1126 : BitVec 32 := 0#32
  let v1157 : BitVec 1 := Scalar.cmpi .sge v1156 c0_i32_1126
  let c8192_i32_1127 : BitVec 32 := 8192#32
  let v1158 : BitVec 1 := Scalar.cmpi .slt v1156 c8192_i32_1127
  let v1159 : BitVec 1 := Scalar.andi v1157 v1158
  let c0_i32_1128 : BitVec 32 := 0#32
  let v1160 : BitVec 32 := Scalar.select v1159 v1156 c0_i32_1128
  let v1161 : Index := Scalar.indexCast v1160
  let c0_1129 : Index := 0#32
  ![v1161.toNat, 0]

def k0_chk18 (d0 : Dev nD) (v1155 : BitVec 32) : Prop :=
  (∀ a, (k0_off42 d0 v1155) a + S1x256.size a ≤ S8192x256.size a)
theorem k0_off42_inb : ∀ (d0 : Dev nD) (v1155 : BitVec 32) (k0_hw18 : k0_chk18 d0 v1155), ∀ a, (k0_off42 d0 v1155) a + S1x256.size a ≤ S8192x256.size a := fun d0 v1155 k0_hw18 => k0_hw18

def k0_off43 (k0_t3 : Fin k0_t3_loop.trips) : Fin 1 → Nat :=
  let c256_i32_1133 : BitVec 32 := 256#32
  let c0_i32_87 : BitVec 32 := 0#32
  let c1_i32_89 : BitVec 32 := 1#32
  let arg22 : BitVec 32 := Scf.iv c0_i32_87 c1_i32_89 k0_t3
  let c8_i32_1132 : BitVec 32 := 8#32
  let v1167 : BitVec 32 := Scalar.muli arg22 c8_i32_1132
  let v1168 : BitVec 32 := Scalar.addi c256_i32_1133 v1167
  let c2_i32_1134 : BitVec 32 := 2#32
  let v1169 : BitVec 32 := Scalar.addi v1168 c2_i32_1134
  let v1170 : Index := Scalar.indexCast v1169
  ![v1170.toNat]
def k0_off44 (d0 : Dev nD) (v1171 : BitVec 32) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8192_i32 : BitVec 32 := 8192#32
  let v86 : BitVec 32 := Scalar.muli v2 c8192_i32
  let v1172 : BitVec 32 := Scalar.subi v1171 v86
  let c0_i32_1135 : BitVec 32 := 0#32
  let v1173 : BitVec 1 := Scalar.cmpi .sge v1172 c0_i32_1135
  let c8192_i32_1136 : BitVec 32 := 8192#32
  let v1174 : BitVec 1 := Scalar.cmpi .slt v1172 c8192_i32_1136
  let v1175 : BitVec 1 := Scalar.andi v1173 v1174
  let c0_i32_1137 : BitVec 32 := 0#32
  let v1176 : BitVec 32 := Scalar.select v1175 v1172 c0_i32_1137
  let v1177 : Index := Scalar.indexCast v1176
  let c0_1138 : Index := 0#32
  ![v1177.toNat, 0]

def k0_chk19 (d0 : Dev nD) (v1171 : BitVec 32) : Prop :=
  (∀ a, (k0_off44 d0 v1171) a + S1x256.size a ≤ S8192x256.size a)
theorem k0_off44_inb : ∀ (d0 : Dev nD) (v1171 : BitVec 32) (k0_hw19 : k0_chk19 d0 v1171), ∀ a, (k0_off44 d0 v1171) a + S1x256.size a ≤ S8192x256.size a := fun d0 v1171 k0_hw19 => k0_hw19

def k0_off45 (k0_t3 : Fin k0_t3_loop.trips) : Fin 1 → Nat :=
  let c256_i32_1142 : BitVec 32 := 256#32
  let c0_i32_87 : BitVec 32 := 0#32
  let c1_i32_89 : BitVec 32 := 1#32
  let arg22 : BitVec 32 := Scf.iv c0_i32_87 c1_i32_89 k0_t3
  let c8_i32_1141 : BitVec 32 := 8#32
  let v1183 : BitVec 32 := Scalar.muli arg22 c8_i32_1141
  let v1184 : BitVec 32 := Scalar.addi c256_i32_1142 v1183
  let c3_i32_1143 : BitVec 32 := 3#32
  let v1185 : BitVec 32 := Scalar.addi v1184 c3_i32_1143
  let v1186 : Index := Scalar.indexCast v1185
  ![v1186.toNat]
def k0_off46 (d0 : Dev nD) (v1187 : BitVec 32) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8192_i32 : BitVec 32 := 8192#32
  let v86 : BitVec 32 := Scalar.muli v2 c8192_i32
  let v1188 : BitVec 32 := Scalar.subi v1187 v86
  let c0_i32_1144 : BitVec 32 := 0#32
  let v1189 : BitVec 1 := Scalar.cmpi .sge v1188 c0_i32_1144
  let c8192_i32_1145 : BitVec 32 := 8192#32
  let v1190 : BitVec 1 := Scalar.cmpi .slt v1188 c8192_i32_1145
  let v1191 : BitVec 1 := Scalar.andi v1189 v1190
  let c0_i32_1146 : BitVec 32 := 0#32
  let v1192 : BitVec 32 := Scalar.select v1191 v1188 c0_i32_1146
  let v1193 : Index := Scalar.indexCast v1192
  let c0_1147 : Index := 0#32
  ![v1193.toNat, 0]

def k0_chk20 (d0 : Dev nD) (v1187 : BitVec 32) : Prop :=
  (∀ a, (k0_off46 d0 v1187) a + S1x256.size a ≤ S8192x256.size a)
theorem k0_off46_inb : ∀ (d0 : Dev nD) (v1187 : BitVec 32) (k0_hw20 : k0_chk20 d0 v1187), ∀ a, (k0_off46 d0 v1187) a + S1x256.size a ≤ S8192x256.size a := fun d0 v1187 k0_hw20 => k0_hw20

def k0_off47 (k0_t3 : Fin k0_t3_loop.trips) : Fin 1 → Nat :=
  let c256_i32_1151 : BitVec 32 := 256#32
  let c0_i32_87 : BitVec 32 := 0#32
  let c1_i32_89 : BitVec 32 := 1#32
  let arg22 : BitVec 32 := Scf.iv c0_i32_87 c1_i32_89 k0_t3
  let c8_i32_1150 : BitVec 32 := 8#32
  let v1199 : BitVec 32 := Scalar.muli arg22 c8_i32_1150
  let v1200 : BitVec 32 := Scalar.addi c256_i32_1151 v1199
  let c4_i32_1152 : BitVec 32 := 4#32
  let v1201 : BitVec 32 := Scalar.addi v1200 c4_i32_1152
  let v1202 : Index := Scalar.indexCast v1201
  ![v1202.toNat]
def k0_off48 (d0 : Dev nD) (v1203 : BitVec 32) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8192_i32 : BitVec 32 := 8192#32
  let v86 : BitVec 32 := Scalar.muli v2 c8192_i32
  let v1204 : BitVec 32 := Scalar.subi v1203 v86
  let c0_i32_1153 : BitVec 32 := 0#32
  let v1205 : BitVec 1 := Scalar.cmpi .sge v1204 c0_i32_1153
  let c8192_i32_1154 : BitVec 32 := 8192#32
  let v1206 : BitVec 1 := Scalar.cmpi .slt v1204 c8192_i32_1154
  let v1207 : BitVec 1 := Scalar.andi v1205 v1206
  let c0_i32_1155 : BitVec 32 := 0#32
  let v1208 : BitVec 32 := Scalar.select v1207 v1204 c0_i32_1155
  let v1209 : Index := Scalar.indexCast v1208
  let c0_1156 : Index := 0#32
  ![v1209.toNat, 0]

def k0_chk21 (d0 : Dev nD) (v1203 : BitVec 32) : Prop :=
  (∀ a, (k0_off48 d0 v1203) a + S1x256.size a ≤ S8192x256.size a)
theorem k0_off48_inb : ∀ (d0 : Dev nD) (v1203 : BitVec 32) (k0_hw21 : k0_chk21 d0 v1203), ∀ a, (k0_off48 d0 v1203) a + S1x256.size a ≤ S8192x256.size a := fun d0 v1203 k0_hw21 => k0_hw21

def k0_off49 (k0_t3 : Fin k0_t3_loop.trips) : Fin 1 → Nat :=
  let c256_i32_1160 : BitVec 32 := 256#32
  let c0_i32_87 : BitVec 32 := 0#32
  let c1_i32_89 : BitVec 32 := 1#32
  let arg22 : BitVec 32 := Scf.iv c0_i32_87 c1_i32_89 k0_t3
  let c8_i32_1159 : BitVec 32 := 8#32
  let v1215 : BitVec 32 := Scalar.muli arg22 c8_i32_1159
  let v1216 : BitVec 32 := Scalar.addi c256_i32_1160 v1215
  let c5_i32_1161 : BitVec 32 := 5#32
  let v1217 : BitVec 32 := Scalar.addi v1216 c5_i32_1161
  let v1218 : Index := Scalar.indexCast v1217
  ![v1218.toNat]
def k0_off50 (d0 : Dev nD) (v1219 : BitVec 32) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8192_i32 : BitVec 32 := 8192#32
  let v86 : BitVec 32 := Scalar.muli v2 c8192_i32
  let v1220 : BitVec 32 := Scalar.subi v1219 v86
  let c0_i32_1162 : BitVec 32 := 0#32
  let v1221 : BitVec 1 := Scalar.cmpi .sge v1220 c0_i32_1162
  let c8192_i32_1163 : BitVec 32 := 8192#32
  let v1222 : BitVec 1 := Scalar.cmpi .slt v1220 c8192_i32_1163
  let v1223 : BitVec 1 := Scalar.andi v1221 v1222
  let c0_i32_1164 : BitVec 32 := 0#32
  let v1224 : BitVec 32 := Scalar.select v1223 v1220 c0_i32_1164
  let v1225 : Index := Scalar.indexCast v1224
  let c0_1165 : Index := 0#32
  ![v1225.toNat, 0]

def k0_chk22 (d0 : Dev nD) (v1219 : BitVec 32) : Prop :=
  (∀ a, (k0_off50 d0 v1219) a + S1x256.size a ≤ S8192x256.size a)
theorem k0_off50_inb : ∀ (d0 : Dev nD) (v1219 : BitVec 32) (k0_hw22 : k0_chk22 d0 v1219), ∀ a, (k0_off50 d0 v1219) a + S1x256.size a ≤ S8192x256.size a := fun d0 v1219 k0_hw22 => k0_hw22

def k0_off51 (k0_t3 : Fin k0_t3_loop.trips) : Fin 1 → Nat :=
  let c256_i32_1169 : BitVec 32 := 256#32
  let c0_i32_87 : BitVec 32 := 0#32
  let c1_i32_89 : BitVec 32 := 1#32
  let arg22 : BitVec 32 := Scf.iv c0_i32_87 c1_i32_89 k0_t3
  let c8_i32_1168 : BitVec 32 := 8#32
  let v1231 : BitVec 32 := Scalar.muli arg22 c8_i32_1168
  let v1232 : BitVec 32 := Scalar.addi c256_i32_1169 v1231
  let c6_i32_1170 : BitVec 32 := 6#32
  let v1233 : BitVec 32 := Scalar.addi v1232 c6_i32_1170
  let v1234 : Index := Scalar.indexCast v1233
  ![v1234.toNat]
def k0_off52 (d0 : Dev nD) (v1235 : BitVec 32) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8192_i32 : BitVec 32 := 8192#32
  let v86 : BitVec 32 := Scalar.muli v2 c8192_i32
  let v1236 : BitVec 32 := Scalar.subi v1235 v86
  let c0_i32_1171 : BitVec 32 := 0#32
  let v1237 : BitVec 1 := Scalar.cmpi .sge v1236 c0_i32_1171
  let c8192_i32_1172 : BitVec 32 := 8192#32
  let v1238 : BitVec 1 := Scalar.cmpi .slt v1236 c8192_i32_1172
  let v1239 : BitVec 1 := Scalar.andi v1237 v1238
  let c0_i32_1173 : BitVec 32 := 0#32
  let v1240 : BitVec 32 := Scalar.select v1239 v1236 c0_i32_1173
  let v1241 : Index := Scalar.indexCast v1240
  let c0_1174 : Index := 0#32
  ![v1241.toNat, 0]

def k0_chk23 (d0 : Dev nD) (v1235 : BitVec 32) : Prop :=
  (∀ a, (k0_off52 d0 v1235) a + S1x256.size a ≤ S8192x256.size a)
theorem k0_off52_inb : ∀ (d0 : Dev nD) (v1235 : BitVec 32) (k0_hw23 : k0_chk23 d0 v1235), ∀ a, (k0_off52 d0 v1235) a + S1x256.size a ≤ S8192x256.size a := fun d0 v1235 k0_hw23 => k0_hw23

def k0_off53 (k0_t3 : Fin k0_t3_loop.trips) : Fin 1 → Nat :=
  let c256_i32_1178 : BitVec 32 := 256#32
  let c0_i32_87 : BitVec 32 := 0#32
  let c1_i32_89 : BitVec 32 := 1#32
  let arg22 : BitVec 32 := Scf.iv c0_i32_87 c1_i32_89 k0_t3
  let c8_i32_1177 : BitVec 32 := 8#32
  let v1247 : BitVec 32 := Scalar.muli arg22 c8_i32_1177
  let v1248 : BitVec 32 := Scalar.addi c256_i32_1178 v1247
  let c7_i32_1179 : BitVec 32 := 7#32
  let v1249 : BitVec 32 := Scalar.addi v1248 c7_i32_1179
  let v1250 : Index := Scalar.indexCast v1249
  ![v1250.toNat]
def k0_off54 (d0 : Dev nD) (v1251 : BitVec 32) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8192_i32 : BitVec 32 := 8192#32
  let v86 : BitVec 32 := Scalar.muli v2 c8192_i32
  let v1252 : BitVec 32 := Scalar.subi v1251 v86
  let c0_i32_1180 : BitVec 32 := 0#32
  let v1253 : BitVec 1 := Scalar.cmpi .sge v1252 c0_i32_1180
  let c8192_i32_1181 : BitVec 32 := 8192#32
  let v1254 : BitVec 1 := Scalar.cmpi .slt v1252 c8192_i32_1181
  let v1255 : BitVec 1 := Scalar.andi v1253 v1254
  let c0_i32_1182 : BitVec 32 := 0#32
  let v1256 : BitVec 32 := Scalar.select v1255 v1252 c0_i32_1182
  let v1257 : Index := Scalar.indexCast v1256
  let c0_1183 : Index := 0#32
  ![v1257.toNat, 0]

def k0_chk24 (d0 : Dev nD) (v1251 : BitVec 32) : Prop :=
  (∀ a, (k0_off54 d0 v1251) a + S1x256.size a ≤ S8192x256.size a)
theorem k0_off54_inb : ∀ (d0 : Dev nD) (v1251 : BitVec 32) (k0_hw24 : k0_chk24 d0 v1251), ∀ a, (k0_off54 d0 v1251) a + S1x256.size a ≤ S8192x256.size a := fun d0 v1251 k0_hw24 => k0_hw24

def k0_mult7 (k0_t3 : Fin k0_t3_loop.trips) : BitVec 32 :=
  let c256_i32_1187 : BitVec 32 := 256#32
  let c0_i32_87 : BitVec 32 := 0#32
  let c1_i32_89 : BitVec 32 := 1#32
  let arg22 : BitVec 32 := Scf.iv c0_i32_87 c1_i32_89 k0_t3
  let c8_i32_1186 : BitVec 32 := 8#32
  let v1264 : BitVec 32 := Scalar.muli arg22 c8_i32_1186
  let v1265 : BitVec 32 := Scalar.addi c256_i32_1187 v1264
  v1265
def k0_off55 (k0_t3 : Fin k0_t3_loop.trips) : Fin 2 → Nat :=
  let c256_i32_1187 : BitVec 32 := 256#32
  let c0_i32_87 : BitVec 32 := 0#32
  let c1_i32_89 : BitVec 32 := 1#32
  let arg22 : BitVec 32 := Scf.iv c0_i32_87 c1_i32_89 k0_t3
  let c8_i32_1186 : BitVec 32 := 8#32
  let v1264 : BitVec 32 := Scalar.muli arg22 c8_i32_1186
  let v1265 : BitVec 32 := Scalar.addi c256_i32_1187 v1264
  let v1266 : BitVec 32 := v1265
  let v1267 : Index := Scalar.indexCast v1266
  let c0_1188 : Index := 0#32
  ![v1267.toNat, 0]
def k0_dev6 (d0 : Dev nD) : Nat :=
  let c0_i32_94 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_93 : BitVec 32 := 8#32
  let v114 : BitVec 32 := Scalar.muli v10 c8_i32_93
  let v115 : BitVec 32 := Scalar.addi c0_i32_94 v114
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_95 : BitVec 32 := 4#32
  let v116 : BitVec 32 := Scalar.muli v5 c4_i32_95
  let v117 : BitVec 32 := Scalar.addi v115 v116
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_96 : BitVec 32 := 1#32
  let v118 : BitVec 32 := Scalar.muli v8 c1_i32_96
  let v119 : BitVec 32 := Scalar.addi v117 v118
  v119.toNat
@[reducible] def k0_t4_loop : Scf.Loop 32 :=
  let c0_i32_101 : BitVec 32 := 0#32
  let c16_i32_102 : BitVec 32 := 16#32
  let v126 : BitVec 32 := Scalar.addi c0_i32_101 c16_i32_102
  let c1_i32_103 : BitVec 32 := 1#32
  ⟨c0_i32_101, v126, c1_i32_103⟩
def k0_off56 (k0_t4 : Fin k0_t4_loop.trips) : Fin 1 → Nat :=
  let c384_i32_1116 : BitVec 32 := 384#32
  let c0_i32_101 : BitVec 32 := 0#32
  let c1_i32_103 : BitVec 32 := 1#32
  let arg22 : BitVec 32 := Scf.iv c0_i32_101 c1_i32_103 k0_t4
  let c8_i32_1115 : BitVec 32 := 8#32
  let v1135 : BitVec 32 := Scalar.muli arg22 c8_i32_1115
  let v1136 : BitVec 32 := Scalar.addi c384_i32_1116 v1135
  let c0_i32_1117 : BitVec 32 := 0#32
  let v1137 : BitVec 32 := Scalar.addi v1136 c0_i32_1117
  let v1138 : Index := Scalar.indexCast v1137
  ![v1138.toNat]
def k0_off57 (d0 : Dev nD) (v1139 : BitVec 32) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8192_i32 : BitVec 32 := 8192#32
  let v86 : BitVec 32 := Scalar.muli v2 c8192_i32
  let v1140 : BitVec 32 := Scalar.subi v1139 v86
  let c0_i32_1118 : BitVec 32 := 0#32
  let v1141 : BitVec 1 := Scalar.cmpi .sge v1140 c0_i32_1118
  let c8192_i32_1119 : BitVec 32 := 8192#32
  let v1142 : BitVec 1 := Scalar.cmpi .slt v1140 c8192_i32_1119
  let v1143 : BitVec 1 := Scalar.andi v1141 v1142
  let c0_i32_1120 : BitVec 32 := 0#32
  let v1144 : BitVec 32 := Scalar.select v1143 v1140 c0_i32_1120
  let v1145 : Index := Scalar.indexCast v1144
  let c0_1121 : Index := 0#32
  ![v1145.toNat, 0]

def k0_chk25 (d0 : Dev nD) (v1139 : BitVec 32) : Prop :=
  (∀ a, (k0_off57 d0 v1139) a + S1x256.size a ≤ S8192x256.size a)
theorem k0_off57_inb : ∀ (d0 : Dev nD) (v1139 : BitVec 32) (k0_hw25 : k0_chk25 d0 v1139), ∀ a, (k0_off57 d0 v1139) a + S1x256.size a ≤ S8192x256.size a := fun d0 v1139 k0_hw25 => k0_hw25

def k0_off58 (k0_t4 : Fin k0_t4_loop.trips) : Fin 1 → Nat :=
  let c384_i32_1124 : BitVec 32 := 384#32
  let c0_i32_101 : BitVec 32 := 0#32
  let c1_i32_103 : BitVec 32 := 1#32
  let arg22 : BitVec 32 := Scf.iv c0_i32_101 c1_i32_103 k0_t4
  let c8_i32_1123 : BitVec 32 := 8#32
  let v1151 : BitVec 32 := Scalar.muli arg22 c8_i32_1123
  let v1152 : BitVec 32 := Scalar.addi c384_i32_1124 v1151
  let c1_i32_1125 : BitVec 32 := 1#32
  let v1153 : BitVec 32 := Scalar.addi v1152 c1_i32_1125
  let v1154 : Index := Scalar.indexCast v1153
  ![v1154.toNat]
def k0_off59 (d0 : Dev nD) (v1155 : BitVec 32) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8192_i32 : BitVec 32 := 8192#32
  let v86 : BitVec 32 := Scalar.muli v2 c8192_i32
  let v1156 : BitVec 32 := Scalar.subi v1155 v86
  let c0_i32_1126 : BitVec 32 := 0#32
  let v1157 : BitVec 1 := Scalar.cmpi .sge v1156 c0_i32_1126
  let c8192_i32_1127 : BitVec 32 := 8192#32
  let v1158 : BitVec 1 := Scalar.cmpi .slt v1156 c8192_i32_1127
  let v1159 : BitVec 1 := Scalar.andi v1157 v1158
  let c0_i32_1128 : BitVec 32 := 0#32
  let v1160 : BitVec 32 := Scalar.select v1159 v1156 c0_i32_1128
  let v1161 : Index := Scalar.indexCast v1160
  let c0_1129 : Index := 0#32
  ![v1161.toNat, 0]

def k0_chk26 (d0 : Dev nD) (v1155 : BitVec 32) : Prop :=
  (∀ a, (k0_off59 d0 v1155) a + S1x256.size a ≤ S8192x256.size a)
theorem k0_off59_inb : ∀ (d0 : Dev nD) (v1155 : BitVec 32) (k0_hw26 : k0_chk26 d0 v1155), ∀ a, (k0_off59 d0 v1155) a + S1x256.size a ≤ S8192x256.size a := fun d0 v1155 k0_hw26 => k0_hw26

def k0_off60 (k0_t4 : Fin k0_t4_loop.trips) : Fin 1 → Nat :=
  let c384_i32_1133 : BitVec 32 := 384#32
  let c0_i32_101 : BitVec 32 := 0#32
  let c1_i32_103 : BitVec 32 := 1#32
  let arg22 : BitVec 32 := Scf.iv c0_i32_101 c1_i32_103 k0_t4
  let c8_i32_1132 : BitVec 32 := 8#32
  let v1167 : BitVec 32 := Scalar.muli arg22 c8_i32_1132
  let v1168 : BitVec 32 := Scalar.addi c384_i32_1133 v1167
  let c2_i32_1134 : BitVec 32 := 2#32
  let v1169 : BitVec 32 := Scalar.addi v1168 c2_i32_1134
  let v1170 : Index := Scalar.indexCast v1169
  ![v1170.toNat]
def k0_off61 (d0 : Dev nD) (v1171 : BitVec 32) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8192_i32 : BitVec 32 := 8192#32
  let v86 : BitVec 32 := Scalar.muli v2 c8192_i32
  let v1172 : BitVec 32 := Scalar.subi v1171 v86
  let c0_i32_1135 : BitVec 32 := 0#32
  let v1173 : BitVec 1 := Scalar.cmpi .sge v1172 c0_i32_1135
  let c8192_i32_1136 : BitVec 32 := 8192#32
  let v1174 : BitVec 1 := Scalar.cmpi .slt v1172 c8192_i32_1136
  let v1175 : BitVec 1 := Scalar.andi v1173 v1174
  let c0_i32_1137 : BitVec 32 := 0#32
  let v1176 : BitVec 32 := Scalar.select v1175 v1172 c0_i32_1137
  let v1177 : Index := Scalar.indexCast v1176
  let c0_1138 : Index := 0#32
  ![v1177.toNat, 0]

def k0_chk27 (d0 : Dev nD) (v1171 : BitVec 32) : Prop :=
  (∀ a, (k0_off61 d0 v1171) a + S1x256.size a ≤ S8192x256.size a)
theorem k0_off61_inb : ∀ (d0 : Dev nD) (v1171 : BitVec 32) (k0_hw27 : k0_chk27 d0 v1171), ∀ a, (k0_off61 d0 v1171) a + S1x256.size a ≤ S8192x256.size a := fun d0 v1171 k0_hw27 => k0_hw27

def k0_off62 (k0_t4 : Fin k0_t4_loop.trips) : Fin 1 → Nat :=
  let c384_i32_1142 : BitVec 32 := 384#32
  let c0_i32_101 : BitVec 32 := 0#32
  let c1_i32_103 : BitVec 32 := 1#32
  let arg22 : BitVec 32 := Scf.iv c0_i32_101 c1_i32_103 k0_t4
  let c8_i32_1141 : BitVec 32 := 8#32
  let v1183 : BitVec 32 := Scalar.muli arg22 c8_i32_1141
  let v1184 : BitVec 32 := Scalar.addi c384_i32_1142 v1183
  let c3_i32_1143 : BitVec 32 := 3#32
  let v1185 : BitVec 32 := Scalar.addi v1184 c3_i32_1143
  let v1186 : Index := Scalar.indexCast v1185
  ![v1186.toNat]
def k0_off63 (d0 : Dev nD) (v1187 : BitVec 32) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8192_i32 : BitVec 32 := 8192#32
  let v86 : BitVec 32 := Scalar.muli v2 c8192_i32
  let v1188 : BitVec 32 := Scalar.subi v1187 v86
  let c0_i32_1144 : BitVec 32 := 0#32
  let v1189 : BitVec 1 := Scalar.cmpi .sge v1188 c0_i32_1144
  let c8192_i32_1145 : BitVec 32 := 8192#32
  let v1190 : BitVec 1 := Scalar.cmpi .slt v1188 c8192_i32_1145
  let v1191 : BitVec 1 := Scalar.andi v1189 v1190
  let c0_i32_1146 : BitVec 32 := 0#32
  let v1192 : BitVec 32 := Scalar.select v1191 v1188 c0_i32_1146
  let v1193 : Index := Scalar.indexCast v1192
  let c0_1147 : Index := 0#32
  ![v1193.toNat, 0]

def k0_chk28 (d0 : Dev nD) (v1187 : BitVec 32) : Prop :=
  (∀ a, (k0_off63 d0 v1187) a + S1x256.size a ≤ S8192x256.size a)
theorem k0_off63_inb : ∀ (d0 : Dev nD) (v1187 : BitVec 32) (k0_hw28 : k0_chk28 d0 v1187), ∀ a, (k0_off63 d0 v1187) a + S1x256.size a ≤ S8192x256.size a := fun d0 v1187 k0_hw28 => k0_hw28

def k0_off64 (k0_t4 : Fin k0_t4_loop.trips) : Fin 1 → Nat :=
  let c384_i32_1151 : BitVec 32 := 384#32
  let c0_i32_101 : BitVec 32 := 0#32
  let c1_i32_103 : BitVec 32 := 1#32
  let arg22 : BitVec 32 := Scf.iv c0_i32_101 c1_i32_103 k0_t4
  let c8_i32_1150 : BitVec 32 := 8#32
  let v1199 : BitVec 32 := Scalar.muli arg22 c8_i32_1150
  let v1200 : BitVec 32 := Scalar.addi c384_i32_1151 v1199
  let c4_i32_1152 : BitVec 32 := 4#32
  let v1201 : BitVec 32 := Scalar.addi v1200 c4_i32_1152
  let v1202 : Index := Scalar.indexCast v1201
  ![v1202.toNat]
def k0_off65 (d0 : Dev nD) (v1203 : BitVec 32) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8192_i32 : BitVec 32 := 8192#32
  let v86 : BitVec 32 := Scalar.muli v2 c8192_i32
  let v1204 : BitVec 32 := Scalar.subi v1203 v86
  let c0_i32_1153 : BitVec 32 := 0#32
  let v1205 : BitVec 1 := Scalar.cmpi .sge v1204 c0_i32_1153
  let c8192_i32_1154 : BitVec 32 := 8192#32
  let v1206 : BitVec 1 := Scalar.cmpi .slt v1204 c8192_i32_1154
  let v1207 : BitVec 1 := Scalar.andi v1205 v1206
  let c0_i32_1155 : BitVec 32 := 0#32
  let v1208 : BitVec 32 := Scalar.select v1207 v1204 c0_i32_1155
  let v1209 : Index := Scalar.indexCast v1208
  let c0_1156 : Index := 0#32
  ![v1209.toNat, 0]

def k0_chk29 (d0 : Dev nD) (v1203 : BitVec 32) : Prop :=
  (∀ a, (k0_off65 d0 v1203) a + S1x256.size a ≤ S8192x256.size a)
theorem k0_off65_inb : ∀ (d0 : Dev nD) (v1203 : BitVec 32) (k0_hw29 : k0_chk29 d0 v1203), ∀ a, (k0_off65 d0 v1203) a + S1x256.size a ≤ S8192x256.size a := fun d0 v1203 k0_hw29 => k0_hw29

def k0_off66 (k0_t4 : Fin k0_t4_loop.trips) : Fin 1 → Nat :=
  let c384_i32_1160 : BitVec 32 := 384#32
  let c0_i32_101 : BitVec 32 := 0#32
  let c1_i32_103 : BitVec 32 := 1#32
  let arg22 : BitVec 32 := Scf.iv c0_i32_101 c1_i32_103 k0_t4
  let c8_i32_1159 : BitVec 32 := 8#32
  let v1215 : BitVec 32 := Scalar.muli arg22 c8_i32_1159
  let v1216 : BitVec 32 := Scalar.addi c384_i32_1160 v1215
  let c5_i32_1161 : BitVec 32 := 5#32
  let v1217 : BitVec 32 := Scalar.addi v1216 c5_i32_1161
  let v1218 : Index := Scalar.indexCast v1217
  ![v1218.toNat]
def k0_off67 (d0 : Dev nD) (v1219 : BitVec 32) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8192_i32 : BitVec 32 := 8192#32
  let v86 : BitVec 32 := Scalar.muli v2 c8192_i32
  let v1220 : BitVec 32 := Scalar.subi v1219 v86
  let c0_i32_1162 : BitVec 32 := 0#32
  let v1221 : BitVec 1 := Scalar.cmpi .sge v1220 c0_i32_1162
  let c8192_i32_1163 : BitVec 32 := 8192#32
  let v1222 : BitVec 1 := Scalar.cmpi .slt v1220 c8192_i32_1163
  let v1223 : BitVec 1 := Scalar.andi v1221 v1222
  let c0_i32_1164 : BitVec 32 := 0#32
  let v1224 : BitVec 32 := Scalar.select v1223 v1220 c0_i32_1164
  let v1225 : Index := Scalar.indexCast v1224
  let c0_1165 : Index := 0#32
  ![v1225.toNat, 0]

def k0_chk30 (d0 : Dev nD) (v1219 : BitVec 32) : Prop :=
  (∀ a, (k0_off67 d0 v1219) a + S1x256.size a ≤ S8192x256.size a)
theorem k0_off67_inb : ∀ (d0 : Dev nD) (v1219 : BitVec 32) (k0_hw30 : k0_chk30 d0 v1219), ∀ a, (k0_off67 d0 v1219) a + S1x256.size a ≤ S8192x256.size a := fun d0 v1219 k0_hw30 => k0_hw30

def k0_off68 (k0_t4 : Fin k0_t4_loop.trips) : Fin 1 → Nat :=
  let c384_i32_1169 : BitVec 32 := 384#32
  let c0_i32_101 : BitVec 32 := 0#32
  let c1_i32_103 : BitVec 32 := 1#32
  let arg22 : BitVec 32 := Scf.iv c0_i32_101 c1_i32_103 k0_t4
  let c8_i32_1168 : BitVec 32 := 8#32
  let v1231 : BitVec 32 := Scalar.muli arg22 c8_i32_1168
  let v1232 : BitVec 32 := Scalar.addi c384_i32_1169 v1231
  let c6_i32_1170 : BitVec 32 := 6#32
  let v1233 : BitVec 32 := Scalar.addi v1232 c6_i32_1170
  let v1234 : Index := Scalar.indexCast v1233
  ![v1234.toNat]
def k0_off69 (d0 : Dev nD) (v1235 : BitVec 32) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8192_i32 : BitVec 32 := 8192#32
  let v86 : BitVec 32 := Scalar.muli v2 c8192_i32
  let v1236 : BitVec 32 := Scalar.subi v1235 v86
  let c0_i32_1171 : BitVec 32 := 0#32
  let v1237 : BitVec 1 := Scalar.cmpi .sge v1236 c0_i32_1171
  let c8192_i32_1172 : BitVec 32 := 8192#32
  let v1238 : BitVec 1 := Scalar.cmpi .slt v1236 c8192_i32_1172
  let v1239 : BitVec 1 := Scalar.andi v1237 v1238
  let c0_i32_1173 : BitVec 32 := 0#32
  let v1240 : BitVec 32 := Scalar.select v1239 v1236 c0_i32_1173
  let v1241 : Index := Scalar.indexCast v1240
  let c0_1174 : Index := 0#32
  ![v1241.toNat, 0]

def k0_chk31 (d0 : Dev nD) (v1235 : BitVec 32) : Prop :=
  (∀ a, (k0_off69 d0 v1235) a + S1x256.size a ≤ S8192x256.size a)
theorem k0_off69_inb : ∀ (d0 : Dev nD) (v1235 : BitVec 32) (k0_hw31 : k0_chk31 d0 v1235), ∀ a, (k0_off69 d0 v1235) a + S1x256.size a ≤ S8192x256.size a := fun d0 v1235 k0_hw31 => k0_hw31

def k0_off70 (k0_t4 : Fin k0_t4_loop.trips) : Fin 1 → Nat :=
  let c384_i32_1178 : BitVec 32 := 384#32
  let c0_i32_101 : BitVec 32 := 0#32
  let c1_i32_103 : BitVec 32 := 1#32
  let arg22 : BitVec 32 := Scf.iv c0_i32_101 c1_i32_103 k0_t4
  let c8_i32_1177 : BitVec 32 := 8#32
  let v1247 : BitVec 32 := Scalar.muli arg22 c8_i32_1177
  let v1248 : BitVec 32 := Scalar.addi c384_i32_1178 v1247
  let c7_i32_1179 : BitVec 32 := 7#32
  let v1249 : BitVec 32 := Scalar.addi v1248 c7_i32_1179
  let v1250 : Index := Scalar.indexCast v1249
  ![v1250.toNat]
def k0_off71 (d0 : Dev nD) (v1251 : BitVec 32) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8192_i32 : BitVec 32 := 8192#32
  let v86 : BitVec 32 := Scalar.muli v2 c8192_i32
  let v1252 : BitVec 32 := Scalar.subi v1251 v86
  let c0_i32_1180 : BitVec 32 := 0#32
  let v1253 : BitVec 1 := Scalar.cmpi .sge v1252 c0_i32_1180
  let c8192_i32_1181 : BitVec 32 := 8192#32
  let v1254 : BitVec 1 := Scalar.cmpi .slt v1252 c8192_i32_1181
  let v1255 : BitVec 1 := Scalar.andi v1253 v1254
  let c0_i32_1182 : BitVec 32 := 0#32
  let v1256 : BitVec 32 := Scalar.select v1255 v1252 c0_i32_1182
  let v1257 : Index := Scalar.indexCast v1256
  let c0_1183 : Index := 0#32
  ![v1257.toNat, 0]

def k0_chk32 (d0 : Dev nD) (v1251 : BitVec 32) : Prop :=
  (∀ a, (k0_off71 d0 v1251) a + S1x256.size a ≤ S8192x256.size a)
theorem k0_off71_inb : ∀ (d0 : Dev nD) (v1251 : BitVec 32) (k0_hw32 : k0_chk32 d0 v1251), ∀ a, (k0_off71 d0 v1251) a + S1x256.size a ≤ S8192x256.size a := fun d0 v1251 k0_hw32 => k0_hw32

def k0_mult8 (k0_t4 : Fin k0_t4_loop.trips) : BitVec 32 :=
  let c384_i32_1187 : BitVec 32 := 384#32
  let c0_i32_101 : BitVec 32 := 0#32
  let c1_i32_103 : BitVec 32 := 1#32
  let arg22 : BitVec 32 := Scf.iv c0_i32_101 c1_i32_103 k0_t4
  let c8_i32_1186 : BitVec 32 := 8#32
  let v1264 : BitVec 32 := Scalar.muli arg22 c8_i32_1186
  let v1265 : BitVec 32 := Scalar.addi c384_i32_1187 v1264
  v1265
def k0_off72 (k0_t4 : Fin k0_t4_loop.trips) : Fin 2 → Nat :=
  let c384_i32_1187 : BitVec 32 := 384#32
  let c0_i32_101 : BitVec 32 := 0#32
  let c1_i32_103 : BitVec 32 := 1#32
  let arg22 : BitVec 32 := Scf.iv c0_i32_101 c1_i32_103 k0_t4
  let c8_i32_1186 : BitVec 32 := 8#32
  let v1264 : BitVec 32 := Scalar.muli arg22 c8_i32_1186
  let v1265 : BitVec 32 := Scalar.addi c384_i32_1187 v1264
  let v1266 : BitVec 32 := v1265
  let v1267 : Index := Scalar.indexCast v1266
  let c0_1188 : Index := 0#32
  ![v1267.toNat, 0]
def k0_dev7 (d0 : Dev nD) : Nat :=
  let c0_i32_108 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_107 : BitVec 32 := 8#32
  let v127 : BitVec 32 := Scalar.muli v10 c8_i32_107
  let v128 : BitVec 32 := Scalar.addi c0_i32_108 v127
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_109 : BitVec 32 := 4#32
  let v129 : BitVec 32 := Scalar.muli v5 c4_i32_109
  let v130 : BitVec 32 := Scalar.addi v128 v129
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_110 : BitVec 32 := 1#32
  let v131 : BitVec 32 := Scalar.muli v8 c1_i32_110
  let v132 : BitVec 32 := Scalar.addi v130 v131
  v132.toNat
@[reducible] def k0_t5_loop : Scf.Loop 32 :=
  let c0_i32_114 : BitVec 32 := 0#32
  let c16_i32_115 : BitVec 32 := 16#32
  let v139 : BitVec 32 := Scalar.addi c0_i32_114 c16_i32_115
  let c1_i32_116 : BitVec 32 := 1#32
  ⟨c0_i32_114, v139, c1_i32_116⟩
def k0_off73 (k0_t5 : Fin k0_t5_loop.trips) : Fin 1 → Nat :=
  let c512_i32_1116 : BitVec 32 := 512#32
  let c0_i32_114 : BitVec 32 := 0#32
  let c1_i32_116 : BitVec 32 := 1#32
  let arg22 : BitVec 32 := Scf.iv c0_i32_114 c1_i32_116 k0_t5
  let c8_i32_1115 : BitVec 32 := 8#32
  let v1135 : BitVec 32 := Scalar.muli arg22 c8_i32_1115
  let v1136 : BitVec 32 := Scalar.addi c512_i32_1116 v1135
  let c0_i32_1117 : BitVec 32 := 0#32
  let v1137 : BitVec 32 := Scalar.addi v1136 c0_i32_1117
  let v1138 : Index := Scalar.indexCast v1137
  ![v1138.toNat]
def k0_off74 (d0 : Dev nD) (v1139 : BitVec 32) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8192_i32 : BitVec 32 := 8192#32
  let v86 : BitVec 32 := Scalar.muli v2 c8192_i32
  let v1140 : BitVec 32 := Scalar.subi v1139 v86
  let c0_i32_1118 : BitVec 32 := 0#32
  let v1141 : BitVec 1 := Scalar.cmpi .sge v1140 c0_i32_1118
  let c8192_i32_1119 : BitVec 32 := 8192#32
  let v1142 : BitVec 1 := Scalar.cmpi .slt v1140 c8192_i32_1119
  let v1143 : BitVec 1 := Scalar.andi v1141 v1142
  let c0_i32_1120 : BitVec 32 := 0#32
  let v1144 : BitVec 32 := Scalar.select v1143 v1140 c0_i32_1120
  let v1145 : Index := Scalar.indexCast v1144
  let c0_1121 : Index := 0#32
  ![v1145.toNat, 0]

def k0_chk33 (d0 : Dev nD) (v1139 : BitVec 32) : Prop :=
  (∀ a, (k0_off74 d0 v1139) a + S1x256.size a ≤ S8192x256.size a)
theorem k0_off74_inb : ∀ (d0 : Dev nD) (v1139 : BitVec 32) (k0_hw33 : k0_chk33 d0 v1139), ∀ a, (k0_off74 d0 v1139) a + S1x256.size a ≤ S8192x256.size a := fun d0 v1139 k0_hw33 => k0_hw33

def k0_off75 (k0_t5 : Fin k0_t5_loop.trips) : Fin 1 → Nat :=
  let c512_i32_1124 : BitVec 32 := 512#32
  let c0_i32_114 : BitVec 32 := 0#32
  let c1_i32_116 : BitVec 32 := 1#32
  let arg22 : BitVec 32 := Scf.iv c0_i32_114 c1_i32_116 k0_t5
  let c8_i32_1123 : BitVec 32 := 8#32
  let v1151 : BitVec 32 := Scalar.muli arg22 c8_i32_1123
  let v1152 : BitVec 32 := Scalar.addi c512_i32_1124 v1151
  let c1_i32_1125 : BitVec 32 := 1#32
  let v1153 : BitVec 32 := Scalar.addi v1152 c1_i32_1125
  let v1154 : Index := Scalar.indexCast v1153
  ![v1154.toNat]
def k0_off76 (d0 : Dev nD) (v1155 : BitVec 32) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8192_i32 : BitVec 32 := 8192#32
  let v86 : BitVec 32 := Scalar.muli v2 c8192_i32
  let v1156 : BitVec 32 := Scalar.subi v1155 v86
  let c0_i32_1126 : BitVec 32 := 0#32
  let v1157 : BitVec 1 := Scalar.cmpi .sge v1156 c0_i32_1126
  let c8192_i32_1127 : BitVec 32 := 8192#32
  let v1158 : BitVec 1 := Scalar.cmpi .slt v1156 c8192_i32_1127
  let v1159 : BitVec 1 := Scalar.andi v1157 v1158
  let c0_i32_1128 : BitVec 32 := 0#32
  let v1160 : BitVec 32 := Scalar.select v1159 v1156 c0_i32_1128
  let v1161 : Index := Scalar.indexCast v1160
  let c0_1129 : Index := 0#32
  ![v1161.toNat, 0]

def k0_chk34 (d0 : Dev nD) (v1155 : BitVec 32) : Prop :=
  (∀ a, (k0_off76 d0 v1155) a + S1x256.size a ≤ S8192x256.size a)
theorem k0_off76_inb : ∀ (d0 : Dev nD) (v1155 : BitVec 32) (k0_hw34 : k0_chk34 d0 v1155), ∀ a, (k0_off76 d0 v1155) a + S1x256.size a ≤ S8192x256.size a := fun d0 v1155 k0_hw34 => k0_hw34

def k0_off77 (k0_t5 : Fin k0_t5_loop.trips) : Fin 1 → Nat :=
  let c512_i32_1133 : BitVec 32 := 512#32
  let c0_i32_114 : BitVec 32 := 0#32
  let c1_i32_116 : BitVec 32 := 1#32
  let arg22 : BitVec 32 := Scf.iv c0_i32_114 c1_i32_116 k0_t5
  let c8_i32_1132 : BitVec 32 := 8#32
  let v1167 : BitVec 32 := Scalar.muli arg22 c8_i32_1132
  let v1168 : BitVec 32 := Scalar.addi c512_i32_1133 v1167
  let c2_i32_1134 : BitVec 32 := 2#32
  let v1169 : BitVec 32 := Scalar.addi v1168 c2_i32_1134
  let v1170 : Index := Scalar.indexCast v1169
  ![v1170.toNat]
def k0_off78 (d0 : Dev nD) (v1171 : BitVec 32) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8192_i32 : BitVec 32 := 8192#32
  let v86 : BitVec 32 := Scalar.muli v2 c8192_i32
  let v1172 : BitVec 32 := Scalar.subi v1171 v86
  let c0_i32_1135 : BitVec 32 := 0#32
  let v1173 : BitVec 1 := Scalar.cmpi .sge v1172 c0_i32_1135
  let c8192_i32_1136 : BitVec 32 := 8192#32
  let v1174 : BitVec 1 := Scalar.cmpi .slt v1172 c8192_i32_1136
  let v1175 : BitVec 1 := Scalar.andi v1173 v1174
  let c0_i32_1137 : BitVec 32 := 0#32
  let v1176 : BitVec 32 := Scalar.select v1175 v1172 c0_i32_1137
  let v1177 : Index := Scalar.indexCast v1176
  let c0_1138 : Index := 0#32
  ![v1177.toNat, 0]

def k0_chk35 (d0 : Dev nD) (v1171 : BitVec 32) : Prop :=
  (∀ a, (k0_off78 d0 v1171) a + S1x256.size a ≤ S8192x256.size a)
theorem k0_off78_inb : ∀ (d0 : Dev nD) (v1171 : BitVec 32) (k0_hw35 : k0_chk35 d0 v1171), ∀ a, (k0_off78 d0 v1171) a + S1x256.size a ≤ S8192x256.size a := fun d0 v1171 k0_hw35 => k0_hw35

def k0_off79 (k0_t5 : Fin k0_t5_loop.trips) : Fin 1 → Nat :=
  let c512_i32_1142 : BitVec 32 := 512#32
  let c0_i32_114 : BitVec 32 := 0#32
  let c1_i32_116 : BitVec 32 := 1#32
  let arg22 : BitVec 32 := Scf.iv c0_i32_114 c1_i32_116 k0_t5
  let c8_i32_1141 : BitVec 32 := 8#32
  let v1183 : BitVec 32 := Scalar.muli arg22 c8_i32_1141
  let v1184 : BitVec 32 := Scalar.addi c512_i32_1142 v1183
  let c3_i32_1143 : BitVec 32 := 3#32
  let v1185 : BitVec 32 := Scalar.addi v1184 c3_i32_1143
  let v1186 : Index := Scalar.indexCast v1185
  ![v1186.toNat]
def k0_off80 (d0 : Dev nD) (v1187 : BitVec 32) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8192_i32 : BitVec 32 := 8192#32
  let v86 : BitVec 32 := Scalar.muli v2 c8192_i32
  let v1188 : BitVec 32 := Scalar.subi v1187 v86
  let c0_i32_1144 : BitVec 32 := 0#32
  let v1189 : BitVec 1 := Scalar.cmpi .sge v1188 c0_i32_1144
  let c8192_i32_1145 : BitVec 32 := 8192#32
  let v1190 : BitVec 1 := Scalar.cmpi .slt v1188 c8192_i32_1145
  let v1191 : BitVec 1 := Scalar.andi v1189 v1190
  let c0_i32_1146 : BitVec 32 := 0#32
  let v1192 : BitVec 32 := Scalar.select v1191 v1188 c0_i32_1146
  let v1193 : Index := Scalar.indexCast v1192
  let c0_1147 : Index := 0#32
  ![v1193.toNat, 0]

def k0_chk36 (d0 : Dev nD) (v1187 : BitVec 32) : Prop :=
  (∀ a, (k0_off80 d0 v1187) a + S1x256.size a ≤ S8192x256.size a)
theorem k0_off80_inb : ∀ (d0 : Dev nD) (v1187 : BitVec 32) (k0_hw36 : k0_chk36 d0 v1187), ∀ a, (k0_off80 d0 v1187) a + S1x256.size a ≤ S8192x256.size a := fun d0 v1187 k0_hw36 => k0_hw36

def k0_off81 (k0_t5 : Fin k0_t5_loop.trips) : Fin 1 → Nat :=
  let c512_i32_1151 : BitVec 32 := 512#32
  let c0_i32_114 : BitVec 32 := 0#32
  let c1_i32_116 : BitVec 32 := 1#32
  let arg22 : BitVec 32 := Scf.iv c0_i32_114 c1_i32_116 k0_t5
  let c8_i32_1150 : BitVec 32 := 8#32
  let v1199 : BitVec 32 := Scalar.muli arg22 c8_i32_1150
  let v1200 : BitVec 32 := Scalar.addi c512_i32_1151 v1199
  let c4_i32_1152 : BitVec 32 := 4#32
  let v1201 : BitVec 32 := Scalar.addi v1200 c4_i32_1152
  let v1202 : Index := Scalar.indexCast v1201
  ![v1202.toNat]
def k0_off82 (d0 : Dev nD) (v1203 : BitVec 32) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8192_i32 : BitVec 32 := 8192#32
  let v86 : BitVec 32 := Scalar.muli v2 c8192_i32
  let v1204 : BitVec 32 := Scalar.subi v1203 v86
  let c0_i32_1153 : BitVec 32 := 0#32
  let v1205 : BitVec 1 := Scalar.cmpi .sge v1204 c0_i32_1153
  let c8192_i32_1154 : BitVec 32 := 8192#32
  let v1206 : BitVec 1 := Scalar.cmpi .slt v1204 c8192_i32_1154
  let v1207 : BitVec 1 := Scalar.andi v1205 v1206
  let c0_i32_1155 : BitVec 32 := 0#32
  let v1208 : BitVec 32 := Scalar.select v1207 v1204 c0_i32_1155
  let v1209 : Index := Scalar.indexCast v1208
  let c0_1156 : Index := 0#32
  ![v1209.toNat, 0]

def k0_chk37 (d0 : Dev nD) (v1203 : BitVec 32) : Prop :=
  (∀ a, (k0_off82 d0 v1203) a + S1x256.size a ≤ S8192x256.size a)
theorem k0_off82_inb : ∀ (d0 : Dev nD) (v1203 : BitVec 32) (k0_hw37 : k0_chk37 d0 v1203), ∀ a, (k0_off82 d0 v1203) a + S1x256.size a ≤ S8192x256.size a := fun d0 v1203 k0_hw37 => k0_hw37

def k0_off83 (k0_t5 : Fin k0_t5_loop.trips) : Fin 1 → Nat :=
  let c512_i32_1160 : BitVec 32 := 512#32
  let c0_i32_114 : BitVec 32 := 0#32
  let c1_i32_116 : BitVec 32 := 1#32
  let arg22 : BitVec 32 := Scf.iv c0_i32_114 c1_i32_116 k0_t5
  let c8_i32_1159 : BitVec 32 := 8#32
  let v1215 : BitVec 32 := Scalar.muli arg22 c8_i32_1159
  let v1216 : BitVec 32 := Scalar.addi c512_i32_1160 v1215
  let c5_i32_1161 : BitVec 32 := 5#32
  let v1217 : BitVec 32 := Scalar.addi v1216 c5_i32_1161
  let v1218 : Index := Scalar.indexCast v1217
  ![v1218.toNat]
def k0_off84 (d0 : Dev nD) (v1219 : BitVec 32) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8192_i32 : BitVec 32 := 8192#32
  let v86 : BitVec 32 := Scalar.muli v2 c8192_i32
  let v1220 : BitVec 32 := Scalar.subi v1219 v86
  let c0_i32_1162 : BitVec 32 := 0#32
  let v1221 : BitVec 1 := Scalar.cmpi .sge v1220 c0_i32_1162
  let c8192_i32_1163 : BitVec 32 := 8192#32
  let v1222 : BitVec 1 := Scalar.cmpi .slt v1220 c8192_i32_1163
  let v1223 : BitVec 1 := Scalar.andi v1221 v1222
  let c0_i32_1164 : BitVec 32 := 0#32
  let v1224 : BitVec 32 := Scalar.select v1223 v1220 c0_i32_1164
  let v1225 : Index := Scalar.indexCast v1224
  let c0_1165 : Index := 0#32
  ![v1225.toNat, 0]

def k0_chk38 (d0 : Dev nD) (v1219 : BitVec 32) : Prop :=
  (∀ a, (k0_off84 d0 v1219) a + S1x256.size a ≤ S8192x256.size a)
theorem k0_off84_inb : ∀ (d0 : Dev nD) (v1219 : BitVec 32) (k0_hw38 : k0_chk38 d0 v1219), ∀ a, (k0_off84 d0 v1219) a + S1x256.size a ≤ S8192x256.size a := fun d0 v1219 k0_hw38 => k0_hw38

def k0_off85 (k0_t5 : Fin k0_t5_loop.trips) : Fin 1 → Nat :=
  let c512_i32_1169 : BitVec 32 := 512#32
  let c0_i32_114 : BitVec 32 := 0#32
  let c1_i32_116 : BitVec 32 := 1#32
  let arg22 : BitVec 32 := Scf.iv c0_i32_114 c1_i32_116 k0_t5
  let c8_i32_1168 : BitVec 32 := 8#32
  let v1231 : BitVec 32 := Scalar.muli arg22 c8_i32_1168
  let v1232 : BitVec 32 := Scalar.addi c512_i32_1169 v1231
  let c6_i32_1170 : BitVec 32 := 6#32
  let v1233 : BitVec 32 := Scalar.addi v1232 c6_i32_1170
  let v1234 : Index := Scalar.indexCast v1233
  ![v1234.toNat]
def k0_off86 (d0 : Dev nD) (v1235 : BitVec 32) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8192_i32 : BitVec 32 := 8192#32
  let v86 : BitVec 32 := Scalar.muli v2 c8192_i32
  let v1236 : BitVec 32 := Scalar.subi v1235 v86
  let c0_i32_1171 : BitVec 32 := 0#32
  let v1237 : BitVec 1 := Scalar.cmpi .sge v1236 c0_i32_1171
  let c8192_i32_1172 : BitVec 32 := 8192#32
  let v1238 : BitVec 1 := Scalar.cmpi .slt v1236 c8192_i32_1172
  let v1239 : BitVec 1 := Scalar.andi v1237 v1238
  let c0_i32_1173 : BitVec 32 := 0#32
  let v1240 : BitVec 32 := Scalar.select v1239 v1236 c0_i32_1173
  let v1241 : Index := Scalar.indexCast v1240
  let c0_1174 : Index := 0#32
  ![v1241.toNat, 0]

def k0_chk39 (d0 : Dev nD) (v1235 : BitVec 32) : Prop :=
  (∀ a, (k0_off86 d0 v1235) a + S1x256.size a ≤ S8192x256.size a)
theorem k0_off86_inb : ∀ (d0 : Dev nD) (v1235 : BitVec 32) (k0_hw39 : k0_chk39 d0 v1235), ∀ a, (k0_off86 d0 v1235) a + S1x256.size a ≤ S8192x256.size a := fun d0 v1235 k0_hw39 => k0_hw39

def k0_off87 (k0_t5 : Fin k0_t5_loop.trips) : Fin 1 → Nat :=
  let c512_i32_1178 : BitVec 32 := 512#32
  let c0_i32_114 : BitVec 32 := 0#32
  let c1_i32_116 : BitVec 32 := 1#32
  let arg22 : BitVec 32 := Scf.iv c0_i32_114 c1_i32_116 k0_t5
  let c8_i32_1177 : BitVec 32 := 8#32
  let v1247 : BitVec 32 := Scalar.muli arg22 c8_i32_1177
  let v1248 : BitVec 32 := Scalar.addi c512_i32_1178 v1247
  let c7_i32_1179 : BitVec 32 := 7#32
  let v1249 : BitVec 32 := Scalar.addi v1248 c7_i32_1179
  let v1250 : Index := Scalar.indexCast v1249
  ![v1250.toNat]
def k0_off88 (d0 : Dev nD) (v1251 : BitVec 32) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8192_i32 : BitVec 32 := 8192#32
  let v86 : BitVec 32 := Scalar.muli v2 c8192_i32
  let v1252 : BitVec 32 := Scalar.subi v1251 v86
  let c0_i32_1180 : BitVec 32 := 0#32
  let v1253 : BitVec 1 := Scalar.cmpi .sge v1252 c0_i32_1180
  let c8192_i32_1181 : BitVec 32 := 8192#32
  let v1254 : BitVec 1 := Scalar.cmpi .slt v1252 c8192_i32_1181
  let v1255 : BitVec 1 := Scalar.andi v1253 v1254
  let c0_i32_1182 : BitVec 32 := 0#32
  let v1256 : BitVec 32 := Scalar.select v1255 v1252 c0_i32_1182
  let v1257 : Index := Scalar.indexCast v1256
  let c0_1183 : Index := 0#32
  ![v1257.toNat, 0]

def k0_chk40 (d0 : Dev nD) (v1251 : BitVec 32) : Prop :=
  (∀ a, (k0_off88 d0 v1251) a + S1x256.size a ≤ S8192x256.size a)
theorem k0_off88_inb : ∀ (d0 : Dev nD) (v1251 : BitVec 32) (k0_hw40 : k0_chk40 d0 v1251), ∀ a, (k0_off88 d0 v1251) a + S1x256.size a ≤ S8192x256.size a := fun d0 v1251 k0_hw40 => k0_hw40

def k0_mult9 (k0_t5 : Fin k0_t5_loop.trips) : BitVec 32 :=
  let c512_i32_1187 : BitVec 32 := 512#32
  let c0_i32_114 : BitVec 32 := 0#32
  let c1_i32_116 : BitVec 32 := 1#32
  let arg22 : BitVec 32 := Scf.iv c0_i32_114 c1_i32_116 k0_t5
  let c8_i32_1186 : BitVec 32 := 8#32
  let v1264 : BitVec 32 := Scalar.muli arg22 c8_i32_1186
  let v1265 : BitVec 32 := Scalar.addi c512_i32_1187 v1264
  v1265
def k0_off89 (k0_t5 : Fin k0_t5_loop.trips) : Fin 2 → Nat :=
  let c512_i32_1187 : BitVec 32 := 512#32
  let c0_i32_114 : BitVec 32 := 0#32
  let c1_i32_116 : BitVec 32 := 1#32
  let arg22 : BitVec 32 := Scf.iv c0_i32_114 c1_i32_116 k0_t5
  let c8_i32_1186 : BitVec 32 := 8#32
  let v1264 : BitVec 32 := Scalar.muli arg22 c8_i32_1186
  let v1265 : BitVec 32 := Scalar.addi c512_i32_1187 v1264
  let v1266 : BitVec 32 := v1265
  let v1267 : Index := Scalar.indexCast v1266
  let c0_1188 : Index := 0#32
  ![v1267.toNat, 0]
def k0_dev8 (d0 : Dev nD) : Nat :=
  let c0_i32_121 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_120 : BitVec 32 := 8#32
  let v140 : BitVec 32 := Scalar.muli v10 c8_i32_120
  let v141 : BitVec 32 := Scalar.addi c0_i32_121 v140
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_122 : BitVec 32 := 4#32
  let v142 : BitVec 32 := Scalar.muli v5 c4_i32_122
  let v143 : BitVec 32 := Scalar.addi v141 v142
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_123 : BitVec 32 := 1#32
  let v144 : BitVec 32 := Scalar.muli v8 c1_i32_123
  let v145 : BitVec 32 := Scalar.addi v143 v144
  v145.toNat
@[reducible] def k0_t6_loop : Scf.Loop 32 :=
  let c0_i32_127 : BitVec 32 := 0#32
  let c16_i32_128 : BitVec 32 := 16#32
  let v152 : BitVec 32 := Scalar.addi c0_i32_127 c16_i32_128
  let c1_i32_129 : BitVec 32 := 1#32
  ⟨c0_i32_127, v152, c1_i32_129⟩
def k0_off90 (k0_t6 : Fin k0_t6_loop.trips) : Fin 1 → Nat :=
  let c640_i32_1116 : BitVec 32 := 640#32
  let c0_i32_127 : BitVec 32 := 0#32
  let c1_i32_129 : BitVec 32 := 1#32
  let arg22 : BitVec 32 := Scf.iv c0_i32_127 c1_i32_129 k0_t6
  let c8_i32_1115 : BitVec 32 := 8#32
  let v1135 : BitVec 32 := Scalar.muli arg22 c8_i32_1115
  let v1136 : BitVec 32 := Scalar.addi c640_i32_1116 v1135
  let c0_i32_1117 : BitVec 32 := 0#32
  let v1137 : BitVec 32 := Scalar.addi v1136 c0_i32_1117
  let v1138 : Index := Scalar.indexCast v1137
  ![v1138.toNat]
def k0_off91 (d0 : Dev nD) (v1139 : BitVec 32) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8192_i32 : BitVec 32 := 8192#32
  let v86 : BitVec 32 := Scalar.muli v2 c8192_i32
  let v1140 : BitVec 32 := Scalar.subi v1139 v86
  let c0_i32_1118 : BitVec 32 := 0#32
  let v1141 : BitVec 1 := Scalar.cmpi .sge v1140 c0_i32_1118
  let c8192_i32_1119 : BitVec 32 := 8192#32
  let v1142 : BitVec 1 := Scalar.cmpi .slt v1140 c8192_i32_1119
  let v1143 : BitVec 1 := Scalar.andi v1141 v1142
  let c0_i32_1120 : BitVec 32 := 0#32
  let v1144 : BitVec 32 := Scalar.select v1143 v1140 c0_i32_1120
  let v1145 : Index := Scalar.indexCast v1144
  let c0_1121 : Index := 0#32
  ![v1145.toNat, 0]

def k0_chk41 (d0 : Dev nD) (v1139 : BitVec 32) : Prop :=
  (∀ a, (k0_off91 d0 v1139) a + S1x256.size a ≤ S8192x256.size a)
theorem k0_off91_inb : ∀ (d0 : Dev nD) (v1139 : BitVec 32) (k0_hw41 : k0_chk41 d0 v1139), ∀ a, (k0_off91 d0 v1139) a + S1x256.size a ≤ S8192x256.size a := fun d0 v1139 k0_hw41 => k0_hw41

def k0_off92 (k0_t6 : Fin k0_t6_loop.trips) : Fin 1 → Nat :=
  let c640_i32_1124 : BitVec 32 := 640#32
  let c0_i32_127 : BitVec 32 := 0#32
  let c1_i32_129 : BitVec 32 := 1#32
  let arg22 : BitVec 32 := Scf.iv c0_i32_127 c1_i32_129 k0_t6
  let c8_i32_1123 : BitVec 32 := 8#32
  let v1151 : BitVec 32 := Scalar.muli arg22 c8_i32_1123
  let v1152 : BitVec 32 := Scalar.addi c640_i32_1124 v1151
  let c1_i32_1125 : BitVec 32 := 1#32
  let v1153 : BitVec 32 := Scalar.addi v1152 c1_i32_1125
  let v1154 : Index := Scalar.indexCast v1153
  ![v1154.toNat]
def k0_off93 (d0 : Dev nD) (v1155 : BitVec 32) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8192_i32 : BitVec 32 := 8192#32
  let v86 : BitVec 32 := Scalar.muli v2 c8192_i32
  let v1156 : BitVec 32 := Scalar.subi v1155 v86
  let c0_i32_1126 : BitVec 32 := 0#32
  let v1157 : BitVec 1 := Scalar.cmpi .sge v1156 c0_i32_1126
  let c8192_i32_1127 : BitVec 32 := 8192#32
  let v1158 : BitVec 1 := Scalar.cmpi .slt v1156 c8192_i32_1127
  let v1159 : BitVec 1 := Scalar.andi v1157 v1158
  let c0_i32_1128 : BitVec 32 := 0#32
  let v1160 : BitVec 32 := Scalar.select v1159 v1156 c0_i32_1128
  let v1161 : Index := Scalar.indexCast v1160
  let c0_1129 : Index := 0#32
  ![v1161.toNat, 0]

def k0_chk42 (d0 : Dev nD) (v1155 : BitVec 32) : Prop :=
  (∀ a, (k0_off93 d0 v1155) a + S1x256.size a ≤ S8192x256.size a)
theorem k0_off93_inb : ∀ (d0 : Dev nD) (v1155 : BitVec 32) (k0_hw42 : k0_chk42 d0 v1155), ∀ a, (k0_off93 d0 v1155) a + S1x256.size a ≤ S8192x256.size a := fun d0 v1155 k0_hw42 => k0_hw42

def k0_off94 (k0_t6 : Fin k0_t6_loop.trips) : Fin 1 → Nat :=
  let c640_i32_1133 : BitVec 32 := 640#32
  let c0_i32_127 : BitVec 32 := 0#32
  let c1_i32_129 : BitVec 32 := 1#32
  let arg22 : BitVec 32 := Scf.iv c0_i32_127 c1_i32_129 k0_t6
  let c8_i32_1132 : BitVec 32 := 8#32
  let v1167 : BitVec 32 := Scalar.muli arg22 c8_i32_1132
  let v1168 : BitVec 32 := Scalar.addi c640_i32_1133 v1167
  let c2_i32_1134 : BitVec 32 := 2#32
  let v1169 : BitVec 32 := Scalar.addi v1168 c2_i32_1134
  let v1170 : Index := Scalar.indexCast v1169
  ![v1170.toNat]
def k0_off95 (d0 : Dev nD) (v1171 : BitVec 32) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8192_i32 : BitVec 32 := 8192#32
  let v86 : BitVec 32 := Scalar.muli v2 c8192_i32
  let v1172 : BitVec 32 := Scalar.subi v1171 v86
  let c0_i32_1135 : BitVec 32 := 0#32
  let v1173 : BitVec 1 := Scalar.cmpi .sge v1172 c0_i32_1135
  let c8192_i32_1136 : BitVec 32 := 8192#32
  let v1174 : BitVec 1 := Scalar.cmpi .slt v1172 c8192_i32_1136
  let v1175 : BitVec 1 := Scalar.andi v1173 v1174
  let c0_i32_1137 : BitVec 32 := 0#32
  let v1176 : BitVec 32 := Scalar.select v1175 v1172 c0_i32_1137
  let v1177 : Index := Scalar.indexCast v1176
  let c0_1138 : Index := 0#32
  ![v1177.toNat, 0]

def k0_chk43 (d0 : Dev nD) (v1171 : BitVec 32) : Prop :=
  (∀ a, (k0_off95 d0 v1171) a + S1x256.size a ≤ S8192x256.size a)
theorem k0_off95_inb : ∀ (d0 : Dev nD) (v1171 : BitVec 32) (k0_hw43 : k0_chk43 d0 v1171), ∀ a, (k0_off95 d0 v1171) a + S1x256.size a ≤ S8192x256.size a := fun d0 v1171 k0_hw43 => k0_hw43

def k0_off96 (k0_t6 : Fin k0_t6_loop.trips) : Fin 1 → Nat :=
  let c640_i32_1142 : BitVec 32 := 640#32
  let c0_i32_127 : BitVec 32 := 0#32
  let c1_i32_129 : BitVec 32 := 1#32
  let arg22 : BitVec 32 := Scf.iv c0_i32_127 c1_i32_129 k0_t6
  let c8_i32_1141 : BitVec 32 := 8#32
  let v1183 : BitVec 32 := Scalar.muli arg22 c8_i32_1141
  let v1184 : BitVec 32 := Scalar.addi c640_i32_1142 v1183
  let c3_i32_1143 : BitVec 32 := 3#32
  let v1185 : BitVec 32 := Scalar.addi v1184 c3_i32_1143
  let v1186 : Index := Scalar.indexCast v1185
  ![v1186.toNat]
def k0_off97 (d0 : Dev nD) (v1187 : BitVec 32) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8192_i32 : BitVec 32 := 8192#32
  let v86 : BitVec 32 := Scalar.muli v2 c8192_i32
  let v1188 : BitVec 32 := Scalar.subi v1187 v86
  let c0_i32_1144 : BitVec 32 := 0#32
  let v1189 : BitVec 1 := Scalar.cmpi .sge v1188 c0_i32_1144
  let c8192_i32_1145 : BitVec 32 := 8192#32
  let v1190 : BitVec 1 := Scalar.cmpi .slt v1188 c8192_i32_1145
  let v1191 : BitVec 1 := Scalar.andi v1189 v1190
  let c0_i32_1146 : BitVec 32 := 0#32
  let v1192 : BitVec 32 := Scalar.select v1191 v1188 c0_i32_1146
  let v1193 : Index := Scalar.indexCast v1192
  let c0_1147 : Index := 0#32
  ![v1193.toNat, 0]

def k0_chk44 (d0 : Dev nD) (v1187 : BitVec 32) : Prop :=
  (∀ a, (k0_off97 d0 v1187) a + S1x256.size a ≤ S8192x256.size a)
theorem k0_off97_inb : ∀ (d0 : Dev nD) (v1187 : BitVec 32) (k0_hw44 : k0_chk44 d0 v1187), ∀ a, (k0_off97 d0 v1187) a + S1x256.size a ≤ S8192x256.size a := fun d0 v1187 k0_hw44 => k0_hw44

def k0_off98 (k0_t6 : Fin k0_t6_loop.trips) : Fin 1 → Nat :=
  let c640_i32_1151 : BitVec 32 := 640#32
  let c0_i32_127 : BitVec 32 := 0#32
  let c1_i32_129 : BitVec 32 := 1#32
  let arg22 : BitVec 32 := Scf.iv c0_i32_127 c1_i32_129 k0_t6
  let c8_i32_1150 : BitVec 32 := 8#32
  let v1199 : BitVec 32 := Scalar.muli arg22 c8_i32_1150
  let v1200 : BitVec 32 := Scalar.addi c640_i32_1151 v1199
  let c4_i32_1152 : BitVec 32 := 4#32
  let v1201 : BitVec 32 := Scalar.addi v1200 c4_i32_1152
  let v1202 : Index := Scalar.indexCast v1201
  ![v1202.toNat]
def k0_off99 (d0 : Dev nD) (v1203 : BitVec 32) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8192_i32 : BitVec 32 := 8192#32
  let v86 : BitVec 32 := Scalar.muli v2 c8192_i32
  let v1204 : BitVec 32 := Scalar.subi v1203 v86
  let c0_i32_1153 : BitVec 32 := 0#32
  let v1205 : BitVec 1 := Scalar.cmpi .sge v1204 c0_i32_1153
  let c8192_i32_1154 : BitVec 32 := 8192#32
  let v1206 : BitVec 1 := Scalar.cmpi .slt v1204 c8192_i32_1154
  let v1207 : BitVec 1 := Scalar.andi v1205 v1206
  let c0_i32_1155 : BitVec 32 := 0#32
  let v1208 : BitVec 32 := Scalar.select v1207 v1204 c0_i32_1155
  let v1209 : Index := Scalar.indexCast v1208
  let c0_1156 : Index := 0#32
  ![v1209.toNat, 0]

def k0_chk45 (d0 : Dev nD) (v1203 : BitVec 32) : Prop :=
  (∀ a, (k0_off99 d0 v1203) a + S1x256.size a ≤ S8192x256.size a)
theorem k0_off99_inb : ∀ (d0 : Dev nD) (v1203 : BitVec 32) (k0_hw45 : k0_chk45 d0 v1203), ∀ a, (k0_off99 d0 v1203) a + S1x256.size a ≤ S8192x256.size a := fun d0 v1203 k0_hw45 => k0_hw45

def k0_off100 (k0_t6 : Fin k0_t6_loop.trips) : Fin 1 → Nat :=
  let c640_i32_1160 : BitVec 32 := 640#32
  let c0_i32_127 : BitVec 32 := 0#32
  let c1_i32_129 : BitVec 32 := 1#32
  let arg22 : BitVec 32 := Scf.iv c0_i32_127 c1_i32_129 k0_t6
  let c8_i32_1159 : BitVec 32 := 8#32
  let v1215 : BitVec 32 := Scalar.muli arg22 c8_i32_1159
  let v1216 : BitVec 32 := Scalar.addi c640_i32_1160 v1215
  let c5_i32_1161 : BitVec 32 := 5#32
  let v1217 : BitVec 32 := Scalar.addi v1216 c5_i32_1161
  let v1218 : Index := Scalar.indexCast v1217
  ![v1218.toNat]
def k0_off101 (d0 : Dev nD) (v1219 : BitVec 32) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8192_i32 : BitVec 32 := 8192#32
  let v86 : BitVec 32 := Scalar.muli v2 c8192_i32
  let v1220 : BitVec 32 := Scalar.subi v1219 v86
  let c0_i32_1162 : BitVec 32 := 0#32
  let v1221 : BitVec 1 := Scalar.cmpi .sge v1220 c0_i32_1162
  let c8192_i32_1163 : BitVec 32 := 8192#32
  let v1222 : BitVec 1 := Scalar.cmpi .slt v1220 c8192_i32_1163
  let v1223 : BitVec 1 := Scalar.andi v1221 v1222
  let c0_i32_1164 : BitVec 32 := 0#32
  let v1224 : BitVec 32 := Scalar.select v1223 v1220 c0_i32_1164
  let v1225 : Index := Scalar.indexCast v1224
  let c0_1165 : Index := 0#32
  ![v1225.toNat, 0]

def k0_chk46 (d0 : Dev nD) (v1219 : BitVec 32) : Prop :=
  (∀ a, (k0_off101 d0 v1219) a + S1x256.size a ≤ S8192x256.size a)
theorem k0_off101_inb : ∀ (d0 : Dev nD) (v1219 : BitVec 32) (k0_hw46 : k0_chk46 d0 v1219), ∀ a, (k0_off101 d0 v1219) a + S1x256.size a ≤ S8192x256.size a := fun d0 v1219 k0_hw46 => k0_hw46

def k0_off102 (k0_t6 : Fin k0_t6_loop.trips) : Fin 1 → Nat :=
  let c640_i32_1169 : BitVec 32 := 640#32
  let c0_i32_127 : BitVec 32 := 0#32
  let c1_i32_129 : BitVec 32 := 1#32
  let arg22 : BitVec 32 := Scf.iv c0_i32_127 c1_i32_129 k0_t6
  let c8_i32_1168 : BitVec 32 := 8#32
  let v1231 : BitVec 32 := Scalar.muli arg22 c8_i32_1168
  let v1232 : BitVec 32 := Scalar.addi c640_i32_1169 v1231
  let c6_i32_1170 : BitVec 32 := 6#32
  let v1233 : BitVec 32 := Scalar.addi v1232 c6_i32_1170
  let v1234 : Index := Scalar.indexCast v1233
  ![v1234.toNat]
def k0_off103 (d0 : Dev nD) (v1235 : BitVec 32) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8192_i32 : BitVec 32 := 8192#32
  let v86 : BitVec 32 := Scalar.muli v2 c8192_i32
  let v1236 : BitVec 32 := Scalar.subi v1235 v86
  let c0_i32_1171 : BitVec 32 := 0#32
  let v1237 : BitVec 1 := Scalar.cmpi .sge v1236 c0_i32_1171
  let c8192_i32_1172 : BitVec 32 := 8192#32
  let v1238 : BitVec 1 := Scalar.cmpi .slt v1236 c8192_i32_1172
  let v1239 : BitVec 1 := Scalar.andi v1237 v1238
  let c0_i32_1173 : BitVec 32 := 0#32
  let v1240 : BitVec 32 := Scalar.select v1239 v1236 c0_i32_1173
  let v1241 : Index := Scalar.indexCast v1240
  let c0_1174 : Index := 0#32
  ![v1241.toNat, 0]

def k0_chk47 (d0 : Dev nD) (v1235 : BitVec 32) : Prop :=
  (∀ a, (k0_off103 d0 v1235) a + S1x256.size a ≤ S8192x256.size a)
theorem k0_off103_inb : ∀ (d0 : Dev nD) (v1235 : BitVec 32) (k0_hw47 : k0_chk47 d0 v1235), ∀ a, (k0_off103 d0 v1235) a + S1x256.size a ≤ S8192x256.size a := fun d0 v1235 k0_hw47 => k0_hw47

def k0_off104 (k0_t6 : Fin k0_t6_loop.trips) : Fin 1 → Nat :=
  let c640_i32_1178 : BitVec 32 := 640#32
  let c0_i32_127 : BitVec 32 := 0#32
  let c1_i32_129 : BitVec 32 := 1#32
  let arg22 : BitVec 32 := Scf.iv c0_i32_127 c1_i32_129 k0_t6
  let c8_i32_1177 : BitVec 32 := 8#32
  let v1247 : BitVec 32 := Scalar.muli arg22 c8_i32_1177
  let v1248 : BitVec 32 := Scalar.addi c640_i32_1178 v1247
  let c7_i32_1179 : BitVec 32 := 7#32
  let v1249 : BitVec 32 := Scalar.addi v1248 c7_i32_1179
  let v1250 : Index := Scalar.indexCast v1249
  ![v1250.toNat]
def k0_off105 (d0 : Dev nD) (v1251 : BitVec 32) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8192_i32 : BitVec 32 := 8192#32
  let v86 : BitVec 32 := Scalar.muli v2 c8192_i32
  let v1252 : BitVec 32 := Scalar.subi v1251 v86
  let c0_i32_1180 : BitVec 32 := 0#32
  let v1253 : BitVec 1 := Scalar.cmpi .sge v1252 c0_i32_1180
  let c8192_i32_1181 : BitVec 32 := 8192#32
  let v1254 : BitVec 1 := Scalar.cmpi .slt v1252 c8192_i32_1181
  let v1255 : BitVec 1 := Scalar.andi v1253 v1254
  let c0_i32_1182 : BitVec 32 := 0#32
  let v1256 : BitVec 32 := Scalar.select v1255 v1252 c0_i32_1182
  let v1257 : Index := Scalar.indexCast v1256
  let c0_1183 : Index := 0#32
  ![v1257.toNat, 0]

def k0_chk48 (d0 : Dev nD) (v1251 : BitVec 32) : Prop :=
  (∀ a, (k0_off105 d0 v1251) a + S1x256.size a ≤ S8192x256.size a)
theorem k0_off105_inb : ∀ (d0 : Dev nD) (v1251 : BitVec 32) (k0_hw48 : k0_chk48 d0 v1251), ∀ a, (k0_off105 d0 v1251) a + S1x256.size a ≤ S8192x256.size a := fun d0 v1251 k0_hw48 => k0_hw48

def k0_mult10 (k0_t6 : Fin k0_t6_loop.trips) : BitVec 32 :=
  let c640_i32_1187 : BitVec 32 := 640#32
  let c0_i32_127 : BitVec 32 := 0#32
  let c1_i32_129 : BitVec 32 := 1#32
  let arg22 : BitVec 32 := Scf.iv c0_i32_127 c1_i32_129 k0_t6
  let c8_i32_1186 : BitVec 32 := 8#32
  let v1264 : BitVec 32 := Scalar.muli arg22 c8_i32_1186
  let v1265 : BitVec 32 := Scalar.addi c640_i32_1187 v1264
  v1265
def k0_off106 (k0_t6 : Fin k0_t6_loop.trips) : Fin 2 → Nat :=
  let c640_i32_1187 : BitVec 32 := 640#32
  let c0_i32_127 : BitVec 32 := 0#32
  let c1_i32_129 : BitVec 32 := 1#32
  let arg22 : BitVec 32 := Scf.iv c0_i32_127 c1_i32_129 k0_t6
  let c8_i32_1186 : BitVec 32 := 8#32
  let v1264 : BitVec 32 := Scalar.muli arg22 c8_i32_1186
  let v1265 : BitVec 32 := Scalar.addi c640_i32_1187 v1264
  let v1266 : BitVec 32 := v1265
  let v1267 : Index := Scalar.indexCast v1266
  let c0_1188 : Index := 0#32
  ![v1267.toNat, 0]
def k0_dev9 (d0 : Dev nD) : Nat :=
  let c0_i32_133 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_132 : BitVec 32 := 8#32
  let v153 : BitVec 32 := Scalar.muli v10 c8_i32_132
  let v154 : BitVec 32 := Scalar.addi c0_i32_133 v153
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_134 : BitVec 32 := 4#32
  let v155 : BitVec 32 := Scalar.muli v5 c4_i32_134
  let v156 : BitVec 32 := Scalar.addi v154 v155
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_135 : BitVec 32 := 1#32
  let v157 : BitVec 32 := Scalar.muli v8 c1_i32_135
  let v158 : BitVec 32 := Scalar.addi v156 v157
  v158.toNat
@[reducible] def k0_t7_loop : Scf.Loop 32 :=
  let c0_i32_139 : BitVec 32 := 0#32
  let c16_i32_140 : BitVec 32 := 16#32
  let v165 : BitVec 32 := Scalar.addi c0_i32_139 c16_i32_140
  let c1_i32_141 : BitVec 32 := 1#32
  ⟨c0_i32_139, v165, c1_i32_141⟩
def k0_off107 (k0_t7 : Fin k0_t7_loop.trips) : Fin 1 → Nat :=
  let c768_i32_1116 : BitVec 32 := 768#32
  let c0_i32_139 : BitVec 32 := 0#32
  let c1_i32_141 : BitVec 32 := 1#32
  let arg22 : BitVec 32 := Scf.iv c0_i32_139 c1_i32_141 k0_t7
  let c8_i32_1115 : BitVec 32 := 8#32
  let v1135 : BitVec 32 := Scalar.muli arg22 c8_i32_1115
  let v1136 : BitVec 32 := Scalar.addi c768_i32_1116 v1135
  let c0_i32_1117 : BitVec 32 := 0#32
  let v1137 : BitVec 32 := Scalar.addi v1136 c0_i32_1117
  let v1138 : Index := Scalar.indexCast v1137
  ![v1138.toNat]
def k0_off108 (d0 : Dev nD) (v1139 : BitVec 32) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8192_i32 : BitVec 32 := 8192#32
  let v86 : BitVec 32 := Scalar.muli v2 c8192_i32
  let v1140 : BitVec 32 := Scalar.subi v1139 v86
  let c0_i32_1118 : BitVec 32 := 0#32
  let v1141 : BitVec 1 := Scalar.cmpi .sge v1140 c0_i32_1118
  let c8192_i32_1119 : BitVec 32 := 8192#32
  let v1142 : BitVec 1 := Scalar.cmpi .slt v1140 c8192_i32_1119
  let v1143 : BitVec 1 := Scalar.andi v1141 v1142
  let c0_i32_1120 : BitVec 32 := 0#32
  let v1144 : BitVec 32 := Scalar.select v1143 v1140 c0_i32_1120
  let v1145 : Index := Scalar.indexCast v1144
  let c0_1121 : Index := 0#32
  ![v1145.toNat, 0]

def k0_chk49 (d0 : Dev nD) (v1139 : BitVec 32) : Prop :=
  (∀ a, (k0_off108 d0 v1139) a + S1x256.size a ≤ S8192x256.size a)
theorem k0_off108_inb : ∀ (d0 : Dev nD) (v1139 : BitVec 32) (k0_hw49 : k0_chk49 d0 v1139), ∀ a, (k0_off108 d0 v1139) a + S1x256.size a ≤ S8192x256.size a := fun d0 v1139 k0_hw49 => k0_hw49

def k0_off109 (k0_t7 : Fin k0_t7_loop.trips) : Fin 1 → Nat :=
  let c768_i32_1124 : BitVec 32 := 768#32
  let c0_i32_139 : BitVec 32 := 0#32
  let c1_i32_141 : BitVec 32 := 1#32
  let arg22 : BitVec 32 := Scf.iv c0_i32_139 c1_i32_141 k0_t7
  let c8_i32_1123 : BitVec 32 := 8#32
  let v1151 : BitVec 32 := Scalar.muli arg22 c8_i32_1123
  let v1152 : BitVec 32 := Scalar.addi c768_i32_1124 v1151
  let c1_i32_1125 : BitVec 32 := 1#32
  let v1153 : BitVec 32 := Scalar.addi v1152 c1_i32_1125
  let v1154 : Index := Scalar.indexCast v1153
  ![v1154.toNat]
def k0_off110 (d0 : Dev nD) (v1155 : BitVec 32) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8192_i32 : BitVec 32 := 8192#32
  let v86 : BitVec 32 := Scalar.muli v2 c8192_i32
  let v1156 : BitVec 32 := Scalar.subi v1155 v86
  let c0_i32_1126 : BitVec 32 := 0#32
  let v1157 : BitVec 1 := Scalar.cmpi .sge v1156 c0_i32_1126
  let c8192_i32_1127 : BitVec 32 := 8192#32
  let v1158 : BitVec 1 := Scalar.cmpi .slt v1156 c8192_i32_1127
  let v1159 : BitVec 1 := Scalar.andi v1157 v1158
  let c0_i32_1128 : BitVec 32 := 0#32
  let v1160 : BitVec 32 := Scalar.select v1159 v1156 c0_i32_1128
  let v1161 : Index := Scalar.indexCast v1160
  let c0_1129 : Index := 0#32
  ![v1161.toNat, 0]

def k0_chk50 (d0 : Dev nD) (v1155 : BitVec 32) : Prop :=
  (∀ a, (k0_off110 d0 v1155) a + S1x256.size a ≤ S8192x256.size a)
theorem k0_off110_inb : ∀ (d0 : Dev nD) (v1155 : BitVec 32) (k0_hw50 : k0_chk50 d0 v1155), ∀ a, (k0_off110 d0 v1155) a + S1x256.size a ≤ S8192x256.size a := fun d0 v1155 k0_hw50 => k0_hw50

def k0_off111 (k0_t7 : Fin k0_t7_loop.trips) : Fin 1 → Nat :=
  let c768_i32_1133 : BitVec 32 := 768#32
  let c0_i32_139 : BitVec 32 := 0#32
  let c1_i32_141 : BitVec 32 := 1#32
  let arg22 : BitVec 32 := Scf.iv c0_i32_139 c1_i32_141 k0_t7
  let c8_i32_1132 : BitVec 32 := 8#32
  let v1167 : BitVec 32 := Scalar.muli arg22 c8_i32_1132
  let v1168 : BitVec 32 := Scalar.addi c768_i32_1133 v1167
  let c2_i32_1134 : BitVec 32 := 2#32
  let v1169 : BitVec 32 := Scalar.addi v1168 c2_i32_1134
  let v1170 : Index := Scalar.indexCast v1169
  ![v1170.toNat]
def k0_off112 (d0 : Dev nD) (v1171 : BitVec 32) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8192_i32 : BitVec 32 := 8192#32
  let v86 : BitVec 32 := Scalar.muli v2 c8192_i32
  let v1172 : BitVec 32 := Scalar.subi v1171 v86
  let c0_i32_1135 : BitVec 32 := 0#32
  let v1173 : BitVec 1 := Scalar.cmpi .sge v1172 c0_i32_1135
  let c8192_i32_1136 : BitVec 32 := 8192#32
  let v1174 : BitVec 1 := Scalar.cmpi .slt v1172 c8192_i32_1136
  let v1175 : BitVec 1 := Scalar.andi v1173 v1174
  let c0_i32_1137 : BitVec 32 := 0#32
  let v1176 : BitVec 32 := Scalar.select v1175 v1172 c0_i32_1137
  let v1177 : Index := Scalar.indexCast v1176
  let c0_1138 : Index := 0#32
  ![v1177.toNat, 0]

def k0_chk51 (d0 : Dev nD) (v1171 : BitVec 32) : Prop :=
  (∀ a, (k0_off112 d0 v1171) a + S1x256.size a ≤ S8192x256.size a)
theorem k0_off112_inb : ∀ (d0 : Dev nD) (v1171 : BitVec 32) (k0_hw51 : k0_chk51 d0 v1171), ∀ a, (k0_off112 d0 v1171) a + S1x256.size a ≤ S8192x256.size a := fun d0 v1171 k0_hw51 => k0_hw51

def k0_off113 (k0_t7 : Fin k0_t7_loop.trips) : Fin 1 → Nat :=
  let c768_i32_1142 : BitVec 32 := 768#32
  let c0_i32_139 : BitVec 32 := 0#32
  let c1_i32_141 : BitVec 32 := 1#32
  let arg22 : BitVec 32 := Scf.iv c0_i32_139 c1_i32_141 k0_t7
  let c8_i32_1141 : BitVec 32 := 8#32
  let v1183 : BitVec 32 := Scalar.muli arg22 c8_i32_1141
  let v1184 : BitVec 32 := Scalar.addi c768_i32_1142 v1183
  let c3_i32_1143 : BitVec 32 := 3#32
  let v1185 : BitVec 32 := Scalar.addi v1184 c3_i32_1143
  let v1186 : Index := Scalar.indexCast v1185
  ![v1186.toNat]
def k0_off114 (d0 : Dev nD) (v1187 : BitVec 32) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8192_i32 : BitVec 32 := 8192#32
  let v86 : BitVec 32 := Scalar.muli v2 c8192_i32
  let v1188 : BitVec 32 := Scalar.subi v1187 v86
  let c0_i32_1144 : BitVec 32 := 0#32
  let v1189 : BitVec 1 := Scalar.cmpi .sge v1188 c0_i32_1144
  let c8192_i32_1145 : BitVec 32 := 8192#32
  let v1190 : BitVec 1 := Scalar.cmpi .slt v1188 c8192_i32_1145
  let v1191 : BitVec 1 := Scalar.andi v1189 v1190
  let c0_i32_1146 : BitVec 32 := 0#32
  let v1192 : BitVec 32 := Scalar.select v1191 v1188 c0_i32_1146
  let v1193 : Index := Scalar.indexCast v1192
  let c0_1147 : Index := 0#32
  ![v1193.toNat, 0]

def k0_chk52 (d0 : Dev nD) (v1187 : BitVec 32) : Prop :=
  (∀ a, (k0_off114 d0 v1187) a + S1x256.size a ≤ S8192x256.size a)
theorem k0_off114_inb : ∀ (d0 : Dev nD) (v1187 : BitVec 32) (k0_hw52 : k0_chk52 d0 v1187), ∀ a, (k0_off114 d0 v1187) a + S1x256.size a ≤ S8192x256.size a := fun d0 v1187 k0_hw52 => k0_hw52

def k0_off115 (k0_t7 : Fin k0_t7_loop.trips) : Fin 1 → Nat :=
  let c768_i32_1151 : BitVec 32 := 768#32
  let c0_i32_139 : BitVec 32 := 0#32
  let c1_i32_141 : BitVec 32 := 1#32
  let arg22 : BitVec 32 := Scf.iv c0_i32_139 c1_i32_141 k0_t7
  let c8_i32_1150 : BitVec 32 := 8#32
  let v1199 : BitVec 32 := Scalar.muli arg22 c8_i32_1150
  let v1200 : BitVec 32 := Scalar.addi c768_i32_1151 v1199
  let c4_i32_1152 : BitVec 32 := 4#32
  let v1201 : BitVec 32 := Scalar.addi v1200 c4_i32_1152
  let v1202 : Index := Scalar.indexCast v1201
  ![v1202.toNat]
def k0_off116 (d0 : Dev nD) (v1203 : BitVec 32) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8192_i32 : BitVec 32 := 8192#32
  let v86 : BitVec 32 := Scalar.muli v2 c8192_i32
  let v1204 : BitVec 32 := Scalar.subi v1203 v86
  let c0_i32_1153 : BitVec 32 := 0#32
  let v1205 : BitVec 1 := Scalar.cmpi .sge v1204 c0_i32_1153
  let c8192_i32_1154 : BitVec 32 := 8192#32
  let v1206 : BitVec 1 := Scalar.cmpi .slt v1204 c8192_i32_1154
  let v1207 : BitVec 1 := Scalar.andi v1205 v1206
  let c0_i32_1155 : BitVec 32 := 0#32
  let v1208 : BitVec 32 := Scalar.select v1207 v1204 c0_i32_1155
  let v1209 : Index := Scalar.indexCast v1208
  let c0_1156 : Index := 0#32
  ![v1209.toNat, 0]

def k0_chk53 (d0 : Dev nD) (v1203 : BitVec 32) : Prop :=
  (∀ a, (k0_off116 d0 v1203) a + S1x256.size a ≤ S8192x256.size a)
theorem k0_off116_inb : ∀ (d0 : Dev nD) (v1203 : BitVec 32) (k0_hw53 : k0_chk53 d0 v1203), ∀ a, (k0_off116 d0 v1203) a + S1x256.size a ≤ S8192x256.size a := fun d0 v1203 k0_hw53 => k0_hw53

def k0_off117 (k0_t7 : Fin k0_t7_loop.trips) : Fin 1 → Nat :=
  let c768_i32_1160 : BitVec 32 := 768#32
  let c0_i32_139 : BitVec 32 := 0#32
  let c1_i32_141 : BitVec 32 := 1#32
  let arg22 : BitVec 32 := Scf.iv c0_i32_139 c1_i32_141 k0_t7
  let c8_i32_1159 : BitVec 32 := 8#32
  let v1215 : BitVec 32 := Scalar.muli arg22 c8_i32_1159
  let v1216 : BitVec 32 := Scalar.addi c768_i32_1160 v1215
  let c5_i32_1161 : BitVec 32 := 5#32
  let v1217 : BitVec 32 := Scalar.addi v1216 c5_i32_1161
  let v1218 : Index := Scalar.indexCast v1217
  ![v1218.toNat]
def k0_off118 (d0 : Dev nD) (v1219 : BitVec 32) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8192_i32 : BitVec 32 := 8192#32
  let v86 : BitVec 32 := Scalar.muli v2 c8192_i32
  let v1220 : BitVec 32 := Scalar.subi v1219 v86
  let c0_i32_1162 : BitVec 32 := 0#32
  let v1221 : BitVec 1 := Scalar.cmpi .sge v1220 c0_i32_1162
  let c8192_i32_1163 : BitVec 32 := 8192#32
  let v1222 : BitVec 1 := Scalar.cmpi .slt v1220 c8192_i32_1163
  let v1223 : BitVec 1 := Scalar.andi v1221 v1222
  let c0_i32_1164 : BitVec 32 := 0#32
  let v1224 : BitVec 32 := Scalar.select v1223 v1220 c0_i32_1164
  let v1225 : Index := Scalar.indexCast v1224
  let c0_1165 : Index := 0#32
  ![v1225.toNat, 0]

def k0_chk54 (d0 : Dev nD) (v1219 : BitVec 32) : Prop :=
  (∀ a, (k0_off118 d0 v1219) a + S1x256.size a ≤ S8192x256.size a)
theorem k0_off118_inb : ∀ (d0 : Dev nD) (v1219 : BitVec 32) (k0_hw54 : k0_chk54 d0 v1219), ∀ a, (k0_off118 d0 v1219) a + S1x256.size a ≤ S8192x256.size a := fun d0 v1219 k0_hw54 => k0_hw54

def k0_off119 (k0_t7 : Fin k0_t7_loop.trips) : Fin 1 → Nat :=
  let c768_i32_1169 : BitVec 32 := 768#32
  let c0_i32_139 : BitVec 32 := 0#32
  let c1_i32_141 : BitVec 32 := 1#32
  let arg22 : BitVec 32 := Scf.iv c0_i32_139 c1_i32_141 k0_t7
  let c8_i32_1168 : BitVec 32 := 8#32
  let v1231 : BitVec 32 := Scalar.muli arg22 c8_i32_1168
  let v1232 : BitVec 32 := Scalar.addi c768_i32_1169 v1231
  let c6_i32_1170 : BitVec 32 := 6#32
  let v1233 : BitVec 32 := Scalar.addi v1232 c6_i32_1170
  let v1234 : Index := Scalar.indexCast v1233
  ![v1234.toNat]
def k0_off120 (d0 : Dev nD) (v1235 : BitVec 32) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8192_i32 : BitVec 32 := 8192#32
  let v86 : BitVec 32 := Scalar.muli v2 c8192_i32
  let v1236 : BitVec 32 := Scalar.subi v1235 v86
  let c0_i32_1171 : BitVec 32 := 0#32
  let v1237 : BitVec 1 := Scalar.cmpi .sge v1236 c0_i32_1171
  let c8192_i32_1172 : BitVec 32 := 8192#32
  let v1238 : BitVec 1 := Scalar.cmpi .slt v1236 c8192_i32_1172
  let v1239 : BitVec 1 := Scalar.andi v1237 v1238
  let c0_i32_1173 : BitVec 32 := 0#32
  let v1240 : BitVec 32 := Scalar.select v1239 v1236 c0_i32_1173
  let v1241 : Index := Scalar.indexCast v1240
  let c0_1174 : Index := 0#32
  ![v1241.toNat, 0]

def k0_chk55 (d0 : Dev nD) (v1235 : BitVec 32) : Prop :=
  (∀ a, (k0_off120 d0 v1235) a + S1x256.size a ≤ S8192x256.size a)
theorem k0_off120_inb : ∀ (d0 : Dev nD) (v1235 : BitVec 32) (k0_hw55 : k0_chk55 d0 v1235), ∀ a, (k0_off120 d0 v1235) a + S1x256.size a ≤ S8192x256.size a := fun d0 v1235 k0_hw55 => k0_hw55

def k0_off121 (k0_t7 : Fin k0_t7_loop.trips) : Fin 1 → Nat :=
  let c768_i32_1178 : BitVec 32 := 768#32
  let c0_i32_139 : BitVec 32 := 0#32
  let c1_i32_141 : BitVec 32 := 1#32
  let arg22 : BitVec 32 := Scf.iv c0_i32_139 c1_i32_141 k0_t7
  let c8_i32_1177 : BitVec 32 := 8#32
  let v1247 : BitVec 32 := Scalar.muli arg22 c8_i32_1177
  let v1248 : BitVec 32 := Scalar.addi c768_i32_1178 v1247
  let c7_i32_1179 : BitVec 32 := 7#32
  let v1249 : BitVec 32 := Scalar.addi v1248 c7_i32_1179
  let v1250 : Index := Scalar.indexCast v1249
  ![v1250.toNat]
def k0_off122 (d0 : Dev nD) (v1251 : BitVec 32) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8192_i32 : BitVec 32 := 8192#32
  let v86 : BitVec 32 := Scalar.muli v2 c8192_i32
  let v1252 : BitVec 32 := Scalar.subi v1251 v86
  let c0_i32_1180 : BitVec 32 := 0#32
  let v1253 : BitVec 1 := Scalar.cmpi .sge v1252 c0_i32_1180
  let c8192_i32_1181 : BitVec 32 := 8192#32
  let v1254 : BitVec 1 := Scalar.cmpi .slt v1252 c8192_i32_1181
  let v1255 : BitVec 1 := Scalar.andi v1253 v1254
  let c0_i32_1182 : BitVec 32 := 0#32
  let v1256 : BitVec 32 := Scalar.select v1255 v1252 c0_i32_1182
  let v1257 : Index := Scalar.indexCast v1256
  let c0_1183 : Index := 0#32
  ![v1257.toNat, 0]

def k0_chk56 (d0 : Dev nD) (v1251 : BitVec 32) : Prop :=
  (∀ a, (k0_off122 d0 v1251) a + S1x256.size a ≤ S8192x256.size a)
theorem k0_off122_inb : ∀ (d0 : Dev nD) (v1251 : BitVec 32) (k0_hw56 : k0_chk56 d0 v1251), ∀ a, (k0_off122 d0 v1251) a + S1x256.size a ≤ S8192x256.size a := fun d0 v1251 k0_hw56 => k0_hw56

def k0_mult11 (k0_t7 : Fin k0_t7_loop.trips) : BitVec 32 :=
  let c768_i32_1187 : BitVec 32 := 768#32
  let c0_i32_139 : BitVec 32 := 0#32
  let c1_i32_141 : BitVec 32 := 1#32
  let arg22 : BitVec 32 := Scf.iv c0_i32_139 c1_i32_141 k0_t7
  let c8_i32_1186 : BitVec 32 := 8#32
  let v1264 : BitVec 32 := Scalar.muli arg22 c8_i32_1186
  let v1265 : BitVec 32 := Scalar.addi c768_i32_1187 v1264
  v1265
def k0_off123 (k0_t7 : Fin k0_t7_loop.trips) : Fin 2 → Nat :=
  let c768_i32_1187 : BitVec 32 := 768#32
  let c0_i32_139 : BitVec 32 := 0#32
  let c1_i32_141 : BitVec 32 := 1#32
  let arg22 : BitVec 32 := Scf.iv c0_i32_139 c1_i32_141 k0_t7
  let c8_i32_1186 : BitVec 32 := 8#32
  let v1264 : BitVec 32 := Scalar.muli arg22 c8_i32_1186
  let v1265 : BitVec 32 := Scalar.addi c768_i32_1187 v1264
  let v1266 : BitVec 32 := v1265
  let v1267 : Index := Scalar.indexCast v1266
  let c0_1188 : Index := 0#32
  ![v1267.toNat, 0]
def k0_dev10 (d0 : Dev nD) : Nat :=
  let c0_i32_145 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_144 : BitVec 32 := 8#32
  let v166 : BitVec 32 := Scalar.muli v10 c8_i32_144
  let v167 : BitVec 32 := Scalar.addi c0_i32_145 v166
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_146 : BitVec 32 := 4#32
  let v168 : BitVec 32 := Scalar.muli v5 c4_i32_146
  let v169 : BitVec 32 := Scalar.addi v167 v168
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_147 : BitVec 32 := 1#32
  let v170 : BitVec 32 := Scalar.muli v8 c1_i32_147
  let v171 : BitVec 32 := Scalar.addi v169 v170
  v171.toNat
@[reducible] def k0_t8_loop : Scf.Loop 32 :=
  let c0_i32_151 : BitVec 32 := 0#32
  let c16_i32_152 : BitVec 32 := 16#32
  let v178 : BitVec 32 := Scalar.addi c0_i32_151 c16_i32_152
  let c1_i32_153 : BitVec 32 := 1#32
  ⟨c0_i32_151, v178, c1_i32_153⟩
def k0_off124 (k0_t8 : Fin k0_t8_loop.trips) : Fin 1 → Nat :=
  let c896_i32_1116 : BitVec 32 := 896#32
  let c0_i32_151 : BitVec 32 := 0#32
  let c1_i32_153 : BitVec 32 := 1#32
  let arg22 : BitVec 32 := Scf.iv c0_i32_151 c1_i32_153 k0_t8
  let c8_i32_1115 : BitVec 32 := 8#32
  let v1135 : BitVec 32 := Scalar.muli arg22 c8_i32_1115
  let v1136 : BitVec 32 := Scalar.addi c896_i32_1116 v1135
  let c0_i32_1117 : BitVec 32 := 0#32
  let v1137 : BitVec 32 := Scalar.addi v1136 c0_i32_1117
  let v1138 : Index := Scalar.indexCast v1137
  ![v1138.toNat]
def k0_off125 (d0 : Dev nD) (v1139 : BitVec 32) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8192_i32 : BitVec 32 := 8192#32
  let v86 : BitVec 32 := Scalar.muli v2 c8192_i32
  let v1140 : BitVec 32 := Scalar.subi v1139 v86
  let c0_i32_1118 : BitVec 32 := 0#32
  let v1141 : BitVec 1 := Scalar.cmpi .sge v1140 c0_i32_1118
  let c8192_i32_1119 : BitVec 32 := 8192#32
  let v1142 : BitVec 1 := Scalar.cmpi .slt v1140 c8192_i32_1119
  let v1143 : BitVec 1 := Scalar.andi v1141 v1142
  let c0_i32_1120 : BitVec 32 := 0#32
  let v1144 : BitVec 32 := Scalar.select v1143 v1140 c0_i32_1120
  let v1145 : Index := Scalar.indexCast v1144
  let c0_1121 : Index := 0#32
  ![v1145.toNat, 0]

def k0_chk57 (d0 : Dev nD) (v1139 : BitVec 32) : Prop :=
  (∀ a, (k0_off125 d0 v1139) a + S1x256.size a ≤ S8192x256.size a)
theorem k0_off125_inb : ∀ (d0 : Dev nD) (v1139 : BitVec 32) (k0_hw57 : k0_chk57 d0 v1139), ∀ a, (k0_off125 d0 v1139) a + S1x256.size a ≤ S8192x256.size a := fun d0 v1139 k0_hw57 => k0_hw57

def k0_off126 (k0_t8 : Fin k0_t8_loop.trips) : Fin 1 → Nat :=
  let c896_i32_1124 : BitVec 32 := 896#32
  let c0_i32_151 : BitVec 32 := 0#32
  let c1_i32_153 : BitVec 32 := 1#32
  let arg22 : BitVec 32 := Scf.iv c0_i32_151 c1_i32_153 k0_t8
  let c8_i32_1123 : BitVec 32 := 8#32
  let v1151 : BitVec 32 := Scalar.muli arg22 c8_i32_1123
  let v1152 : BitVec 32 := Scalar.addi c896_i32_1124 v1151
  let c1_i32_1125 : BitVec 32 := 1#32
  let v1153 : BitVec 32 := Scalar.addi v1152 c1_i32_1125
  let v1154 : Index := Scalar.indexCast v1153
  ![v1154.toNat]
def k0_off127 (d0 : Dev nD) (v1155 : BitVec 32) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8192_i32 : BitVec 32 := 8192#32
  let v86 : BitVec 32 := Scalar.muli v2 c8192_i32
  let v1156 : BitVec 32 := Scalar.subi v1155 v86
  let c0_i32_1126 : BitVec 32 := 0#32
  let v1157 : BitVec 1 := Scalar.cmpi .sge v1156 c0_i32_1126
  let c8192_i32_1127 : BitVec 32 := 8192#32
  let v1158 : BitVec 1 := Scalar.cmpi .slt v1156 c8192_i32_1127
  let v1159 : BitVec 1 := Scalar.andi v1157 v1158
  let c0_i32_1128 : BitVec 32 := 0#32
  let v1160 : BitVec 32 := Scalar.select v1159 v1156 c0_i32_1128
  let v1161 : Index := Scalar.indexCast v1160
  let c0_1129 : Index := 0#32
  ![v1161.toNat, 0]

def k0_chk58 (d0 : Dev nD) (v1155 : BitVec 32) : Prop :=
  (∀ a, (k0_off127 d0 v1155) a + S1x256.size a ≤ S8192x256.size a)
theorem k0_off127_inb : ∀ (d0 : Dev nD) (v1155 : BitVec 32) (k0_hw58 : k0_chk58 d0 v1155), ∀ a, (k0_off127 d0 v1155) a + S1x256.size a ≤ S8192x256.size a := fun d0 v1155 k0_hw58 => k0_hw58

def k0_off128 (k0_t8 : Fin k0_t8_loop.trips) : Fin 1 → Nat :=
  let c896_i32_1133 : BitVec 32 := 896#32
  let c0_i32_151 : BitVec 32 := 0#32
  let c1_i32_153 : BitVec 32 := 1#32
  let arg22 : BitVec 32 := Scf.iv c0_i32_151 c1_i32_153 k0_t8
  let c8_i32_1132 : BitVec 32 := 8#32
  let v1167 : BitVec 32 := Scalar.muli arg22 c8_i32_1132
  let v1168 : BitVec 32 := Scalar.addi c896_i32_1133 v1167
  let c2_i32_1134 : BitVec 32 := 2#32
  let v1169 : BitVec 32 := Scalar.addi v1168 c2_i32_1134
  let v1170 : Index := Scalar.indexCast v1169
  ![v1170.toNat]
def k0_off129 (d0 : Dev nD) (v1171 : BitVec 32) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8192_i32 : BitVec 32 := 8192#32
  let v86 : BitVec 32 := Scalar.muli v2 c8192_i32
  let v1172 : BitVec 32 := Scalar.subi v1171 v86
  let c0_i32_1135 : BitVec 32 := 0#32
  let v1173 : BitVec 1 := Scalar.cmpi .sge v1172 c0_i32_1135
  let c8192_i32_1136 : BitVec 32 := 8192#32
  let v1174 : BitVec 1 := Scalar.cmpi .slt v1172 c8192_i32_1136
  let v1175 : BitVec 1 := Scalar.andi v1173 v1174
  let c0_i32_1137 : BitVec 32 := 0#32
  let v1176 : BitVec 32 := Scalar.select v1175 v1172 c0_i32_1137
  let v1177 : Index := Scalar.indexCast v1176
  let c0_1138 : Index := 0#32
  ![v1177.toNat, 0]

def k0_chk59 (d0 : Dev nD) (v1171 : BitVec 32) : Prop :=
  (∀ a, (k0_off129 d0 v1171) a + S1x256.size a ≤ S8192x256.size a)
theorem k0_off129_inb : ∀ (d0 : Dev nD) (v1171 : BitVec 32) (k0_hw59 : k0_chk59 d0 v1171), ∀ a, (k0_off129 d0 v1171) a + S1x256.size a ≤ S8192x256.size a := fun d0 v1171 k0_hw59 => k0_hw59

def k0_off130 (k0_t8 : Fin k0_t8_loop.trips) : Fin 1 → Nat :=
  let c896_i32_1142 : BitVec 32 := 896#32
  let c0_i32_151 : BitVec 32 := 0#32
  let c1_i32_153 : BitVec 32 := 1#32
  let arg22 : BitVec 32 := Scf.iv c0_i32_151 c1_i32_153 k0_t8
  let c8_i32_1141 : BitVec 32 := 8#32
  let v1183 : BitVec 32 := Scalar.muli arg22 c8_i32_1141
  let v1184 : BitVec 32 := Scalar.addi c896_i32_1142 v1183
  let c3_i32_1143 : BitVec 32 := 3#32
  let v1185 : BitVec 32 := Scalar.addi v1184 c3_i32_1143
  let v1186 : Index := Scalar.indexCast v1185
  ![v1186.toNat]
def k0_off131 (d0 : Dev nD) (v1187 : BitVec 32) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8192_i32 : BitVec 32 := 8192#32
  let v86 : BitVec 32 := Scalar.muli v2 c8192_i32
  let v1188 : BitVec 32 := Scalar.subi v1187 v86
  let c0_i32_1144 : BitVec 32 := 0#32
  let v1189 : BitVec 1 := Scalar.cmpi .sge v1188 c0_i32_1144
  let c8192_i32_1145 : BitVec 32 := 8192#32
  let v1190 : BitVec 1 := Scalar.cmpi .slt v1188 c8192_i32_1145
  let v1191 : BitVec 1 := Scalar.andi v1189 v1190
  let c0_i32_1146 : BitVec 32 := 0#32
  let v1192 : BitVec 32 := Scalar.select v1191 v1188 c0_i32_1146
  let v1193 : Index := Scalar.indexCast v1192
  let c0_1147 : Index := 0#32
  ![v1193.toNat, 0]

def k0_chk60 (d0 : Dev nD) (v1187 : BitVec 32) : Prop :=
  (∀ a, (k0_off131 d0 v1187) a + S1x256.size a ≤ S8192x256.size a)
theorem k0_off131_inb : ∀ (d0 : Dev nD) (v1187 : BitVec 32) (k0_hw60 : k0_chk60 d0 v1187), ∀ a, (k0_off131 d0 v1187) a + S1x256.size a ≤ S8192x256.size a := fun d0 v1187 k0_hw60 => k0_hw60

def k0_off132 (k0_t8 : Fin k0_t8_loop.trips) : Fin 1 → Nat :=
  let c896_i32_1151 : BitVec 32 := 896#32
  let c0_i32_151 : BitVec 32 := 0#32
  let c1_i32_153 : BitVec 32 := 1#32
  let arg22 : BitVec 32 := Scf.iv c0_i32_151 c1_i32_153 k0_t8
  let c8_i32_1150 : BitVec 32 := 8#32
  let v1199 : BitVec 32 := Scalar.muli arg22 c8_i32_1150
  let v1200 : BitVec 32 := Scalar.addi c896_i32_1151 v1199
  let c4_i32_1152 : BitVec 32 := 4#32
  let v1201 : BitVec 32 := Scalar.addi v1200 c4_i32_1152
  let v1202 : Index := Scalar.indexCast v1201
  ![v1202.toNat]
def k0_off133 (d0 : Dev nD) (v1203 : BitVec 32) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8192_i32 : BitVec 32 := 8192#32
  let v86 : BitVec 32 := Scalar.muli v2 c8192_i32
  let v1204 : BitVec 32 := Scalar.subi v1203 v86
  let c0_i32_1153 : BitVec 32 := 0#32
  let v1205 : BitVec 1 := Scalar.cmpi .sge v1204 c0_i32_1153
  let c8192_i32_1154 : BitVec 32 := 8192#32
  let v1206 : BitVec 1 := Scalar.cmpi .slt v1204 c8192_i32_1154
  let v1207 : BitVec 1 := Scalar.andi v1205 v1206
  let c0_i32_1155 : BitVec 32 := 0#32
  let v1208 : BitVec 32 := Scalar.select v1207 v1204 c0_i32_1155
  let v1209 : Index := Scalar.indexCast v1208
  let c0_1156 : Index := 0#32
  ![v1209.toNat, 0]

def k0_chk61 (d0 : Dev nD) (v1203 : BitVec 32) : Prop :=
  (∀ a, (k0_off133 d0 v1203) a + S1x256.size a ≤ S8192x256.size a)
theorem k0_off133_inb : ∀ (d0 : Dev nD) (v1203 : BitVec 32) (k0_hw61 : k0_chk61 d0 v1203), ∀ a, (k0_off133 d0 v1203) a + S1x256.size a ≤ S8192x256.size a := fun d0 v1203 k0_hw61 => k0_hw61

def k0_off134 (k0_t8 : Fin k0_t8_loop.trips) : Fin 1 → Nat :=
  let c896_i32_1160 : BitVec 32 := 896#32
  let c0_i32_151 : BitVec 32 := 0#32
  let c1_i32_153 : BitVec 32 := 1#32
  let arg22 : BitVec 32 := Scf.iv c0_i32_151 c1_i32_153 k0_t8
  let c8_i32_1159 : BitVec 32 := 8#32
  let v1215 : BitVec 32 := Scalar.muli arg22 c8_i32_1159
  let v1216 : BitVec 32 := Scalar.addi c896_i32_1160 v1215
  let c5_i32_1161 : BitVec 32 := 5#32
  let v1217 : BitVec 32 := Scalar.addi v1216 c5_i32_1161
  let v1218 : Index := Scalar.indexCast v1217
  ![v1218.toNat]
def k0_off135 (d0 : Dev nD) (v1219 : BitVec 32) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8192_i32 : BitVec 32 := 8192#32
  let v86 : BitVec 32 := Scalar.muli v2 c8192_i32
  let v1220 : BitVec 32 := Scalar.subi v1219 v86
  let c0_i32_1162 : BitVec 32 := 0#32
  let v1221 : BitVec 1 := Scalar.cmpi .sge v1220 c0_i32_1162
  let c8192_i32_1163 : BitVec 32 := 8192#32
  let v1222 : BitVec 1 := Scalar.cmpi .slt v1220 c8192_i32_1163
  let v1223 : BitVec 1 := Scalar.andi v1221 v1222
  let c0_i32_1164 : BitVec 32 := 0#32
  let v1224 : BitVec 32 := Scalar.select v1223 v1220 c0_i32_1164
  let v1225 : Index := Scalar.indexCast v1224
  let c0_1165 : Index := 0#32
  ![v1225.toNat, 0]

def k0_chk62 (d0 : Dev nD) (v1219 : BitVec 32) : Prop :=
  (∀ a, (k0_off135 d0 v1219) a + S1x256.size a ≤ S8192x256.size a)
theorem k0_off135_inb : ∀ (d0 : Dev nD) (v1219 : BitVec 32) (k0_hw62 : k0_chk62 d0 v1219), ∀ a, (k0_off135 d0 v1219) a + S1x256.size a ≤ S8192x256.size a := fun d0 v1219 k0_hw62 => k0_hw62

def k0_off136 (k0_t8 : Fin k0_t8_loop.trips) : Fin 1 → Nat :=
  let c896_i32_1169 : BitVec 32 := 896#32
  let c0_i32_151 : BitVec 32 := 0#32
  let c1_i32_153 : BitVec 32 := 1#32
  let arg22 : BitVec 32 := Scf.iv c0_i32_151 c1_i32_153 k0_t8
  let c8_i32_1168 : BitVec 32 := 8#32
  let v1231 : BitVec 32 := Scalar.muli arg22 c8_i32_1168
  let v1232 : BitVec 32 := Scalar.addi c896_i32_1169 v1231
  let c6_i32_1170 : BitVec 32 := 6#32
  let v1233 : BitVec 32 := Scalar.addi v1232 c6_i32_1170
  let v1234 : Index := Scalar.indexCast v1233
  ![v1234.toNat]
def k0_off137 (d0 : Dev nD) (v1235 : BitVec 32) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8192_i32 : BitVec 32 := 8192#32
  let v86 : BitVec 32 := Scalar.muli v2 c8192_i32
  let v1236 : BitVec 32 := Scalar.subi v1235 v86
  let c0_i32_1171 : BitVec 32 := 0#32
  let v1237 : BitVec 1 := Scalar.cmpi .sge v1236 c0_i32_1171
  let c8192_i32_1172 : BitVec 32 := 8192#32
  let v1238 : BitVec 1 := Scalar.cmpi .slt v1236 c8192_i32_1172
  let v1239 : BitVec 1 := Scalar.andi v1237 v1238
  let c0_i32_1173 : BitVec 32 := 0#32
  let v1240 : BitVec 32 := Scalar.select v1239 v1236 c0_i32_1173
  let v1241 : Index := Scalar.indexCast v1240
  let c0_1174 : Index := 0#32
  ![v1241.toNat, 0]

def k0_chk63 (d0 : Dev nD) (v1235 : BitVec 32) : Prop :=
  (∀ a, (k0_off137 d0 v1235) a + S1x256.size a ≤ S8192x256.size a)
theorem k0_off137_inb : ∀ (d0 : Dev nD) (v1235 : BitVec 32) (k0_hw63 : k0_chk63 d0 v1235), ∀ a, (k0_off137 d0 v1235) a + S1x256.size a ≤ S8192x256.size a := fun d0 v1235 k0_hw63 => k0_hw63

def k0_off138 (k0_t8 : Fin k0_t8_loop.trips) : Fin 1 → Nat :=
  let c896_i32_1178 : BitVec 32 := 896#32
  let c0_i32_151 : BitVec 32 := 0#32
  let c1_i32_153 : BitVec 32 := 1#32
  let arg22 : BitVec 32 := Scf.iv c0_i32_151 c1_i32_153 k0_t8
  let c8_i32_1177 : BitVec 32 := 8#32
  let v1247 : BitVec 32 := Scalar.muli arg22 c8_i32_1177
  let v1248 : BitVec 32 := Scalar.addi c896_i32_1178 v1247
  let c7_i32_1179 : BitVec 32 := 7#32
  let v1249 : BitVec 32 := Scalar.addi v1248 c7_i32_1179
  let v1250 : Index := Scalar.indexCast v1249
  ![v1250.toNat]
def k0_off139 (d0 : Dev nD) (v1251 : BitVec 32) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8192_i32 : BitVec 32 := 8192#32
  let v86 : BitVec 32 := Scalar.muli v2 c8192_i32
  let v1252 : BitVec 32 := Scalar.subi v1251 v86
  let c0_i32_1180 : BitVec 32 := 0#32
  let v1253 : BitVec 1 := Scalar.cmpi .sge v1252 c0_i32_1180
  let c8192_i32_1181 : BitVec 32 := 8192#32
  let v1254 : BitVec 1 := Scalar.cmpi .slt v1252 c8192_i32_1181
  let v1255 : BitVec 1 := Scalar.andi v1253 v1254
  let c0_i32_1182 : BitVec 32 := 0#32
  let v1256 : BitVec 32 := Scalar.select v1255 v1252 c0_i32_1182
  let v1257 : Index := Scalar.indexCast v1256
  let c0_1183 : Index := 0#32
  ![v1257.toNat, 0]

def k0_chk64 (d0 : Dev nD) (v1251 : BitVec 32) : Prop :=
  (∀ a, (k0_off139 d0 v1251) a + S1x256.size a ≤ S8192x256.size a)
theorem k0_off139_inb : ∀ (d0 : Dev nD) (v1251 : BitVec 32) (k0_hw64 : k0_chk64 d0 v1251), ∀ a, (k0_off139 d0 v1251) a + S1x256.size a ≤ S8192x256.size a := fun d0 v1251 k0_hw64 => k0_hw64

def k0_mult12 (k0_t8 : Fin k0_t8_loop.trips) : BitVec 32 :=
  let c896_i32_1187 : BitVec 32 := 896#32
  let c0_i32_151 : BitVec 32 := 0#32
  let c1_i32_153 : BitVec 32 := 1#32
  let arg22 : BitVec 32 := Scf.iv c0_i32_151 c1_i32_153 k0_t8
  let c8_i32_1186 : BitVec 32 := 8#32
  let v1264 : BitVec 32 := Scalar.muli arg22 c8_i32_1186
  let v1265 : BitVec 32 := Scalar.addi c896_i32_1187 v1264
  v1265
def k0_off140 (k0_t8 : Fin k0_t8_loop.trips) : Fin 2 → Nat :=
  let c896_i32_1187 : BitVec 32 := 896#32
  let c0_i32_151 : BitVec 32 := 0#32
  let c1_i32_153 : BitVec 32 := 1#32
  let arg22 : BitVec 32 := Scf.iv c0_i32_151 c1_i32_153 k0_t8
  let c8_i32_1186 : BitVec 32 := 8#32
  let v1264 : BitVec 32 := Scalar.muli arg22 c8_i32_1186
  let v1265 : BitVec 32 := Scalar.addi c896_i32_1187 v1264
  let v1266 : BitVec 32 := v1265
  let v1267 : Index := Scalar.indexCast v1266
  let c0_1188 : Index := 0#32
  ![v1267.toNat, 0]
def k0_dev11 (d0 : Dev nD) : Nat :=
  let c0_i32_157 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_156 : BitVec 32 := 8#32
  let v179 : BitVec 32 := Scalar.muli v10 c8_i32_156
  let v180 : BitVec 32 := Scalar.addi c0_i32_157 v179
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_158 : BitVec 32 := 4#32
  let v181 : BitVec 32 := Scalar.muli v5 c4_i32_158
  let v182 : BitVec 32 := Scalar.addi v180 v181
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_159 : BitVec 32 := 1#32
  let v183 : BitVec 32 := Scalar.muli v8 c1_i32_159
  let v184 : BitVec 32 := Scalar.addi v182 v183
  v184.toNat
def k0_dev12 (d0 : Dev nD) : Nat :=
  let c0_i32_181 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_180 : BitVec 32 := 8#32
  let v207 : BitVec 32 := Scalar.muli v2 c8_i32_180
  let v208 : BitVec 32 := Scalar.addi c0_i32_181 v207
  let c1_i32_4 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v11 : BitVec 32 := Scalar.subi c1_i32_4 v5
  let c4_i32_182 : BitVec 32 := 4#32
  let v209 : BitVec 32 := Scalar.muli v11 c4_i32_182
  let v210 : BitVec 32 := Scalar.addi v208 v209
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_183 : BitVec 32 := 1#32
  let v211 : BitVec 32 := Scalar.muli v8 c1_i32_183
  let v212 : BitVec 32 := Scalar.addi v210 v211
  v212.toNat
def k0_dev13 (d0 : Dev nD) : Nat :=
  let c0_i32_191 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_190 : BitVec 32 := 8#32
  let v219 : BitVec 32 := Scalar.muli v2 c8_i32_190
  let v220 : BitVec 32 := Scalar.addi c0_i32_191 v219
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_192 : BitVec 32 := 4#32
  let v221 : BitVec 32 := Scalar.muli v5 c4_i32_192
  let v222 : BitVec 32 := Scalar.addi v220 v221
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v12 : BitVec 32 := Scalar.addi v8 c1_i32_5
  let c2_i32_6 : BitVec 32 := 2#32
  let c2_i32_2 : BitVec 32 := 2#32
  let v9 : BitVec 32 := Scalar.remsi v8 c2_i32_2
  let v13 : BitVec 32 := Scalar.muli c2_i32_6 v9
  let v14 : BitVec 32 := Scalar.subi v12 v13
  let c1_i32_193 : BitVec 32 := 1#32
  let v223 : BitVec 32 := Scalar.muli v14 c1_i32_193
  let v224 : BitVec 32 := Scalar.addi v222 v223
  v224.toNat
def k0_mult13 (d0 : Dev nD) : BitVec 32 :=
  let c2_i32_7 : BitVec 32 := 2#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.muli c2_i32_7 v5
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v16 : BitVec 32 := Scalar.addi v15 v9
  let c256_i32_200 : BitVec 32 := 256#32
  let v232 : BitVec 32 := Scalar.muli v16 c256_i32_200
  v232
def k0_off141 (d0 : Dev nD) : Fin 2 → Nat :=
  let c0_201 : Index := 0#32
  let c2_i32_7 : BitVec 32 := 2#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.muli c2_i32_7 v5
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v16 : BitVec 32 := Scalar.addi v15 v9
  let c256_i32_200 : BitVec 32 := 256#32
  let v232 : BitVec 32 := Scalar.muli v16 c256_i32_200
  let v233 : BitVec 32 := v232
  let v234 : Index := Scalar.indexCast v233
  ![0, v234.toNat]
def k0_dev14 (d0 : Dev nD) : Nat :=
  let c0_i32_220 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_219 : BitVec 32 := 8#32
  let v252 : BitVec 32 := Scalar.muli v2 c8_i32_219
  let v253 : BitVec 32 := Scalar.addi c0_i32_220 v252
  let c1_i32_4 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v11 : BitVec 32 := Scalar.subi c1_i32_4 v5
  let c4_i32_221 : BitVec 32 := 4#32
  let v254 : BitVec 32 := Scalar.muli v11 c4_i32_221
  let v255 : BitVec 32 := Scalar.addi v253 v254
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_222 : BitVec 32 := 1#32
  let v256 : BitVec 32 := Scalar.muli v8 c1_i32_222
  let v257 : BitVec 32 := Scalar.addi v255 v256
  v257.toNat
def k0_dev15 (d0 : Dev nD) : Nat :=
  let c0_i32_230 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_229 : BitVec 32 := 8#32
  let v264 : BitVec 32 := Scalar.muli v2 c8_i32_229
  let v265 : BitVec 32 := Scalar.addi c0_i32_230 v264
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_231 : BitVec 32 := 4#32
  let v266 : BitVec 32 := Scalar.muli v5 c4_i32_231
  let v267 : BitVec 32 := Scalar.addi v265 v266
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v12 : BitVec 32 := Scalar.addi v8 c1_i32_5
  let c2_i32_6 : BitVec 32 := 2#32
  let c2_i32_2 : BitVec 32 := 2#32
  let v9 : BitVec 32 := Scalar.remsi v8 c2_i32_2
  let v13 : BitVec 32 := Scalar.muli c2_i32_6 v9
  let v14 : BitVec 32 := Scalar.subi v12 v13
  let c1_i32_232 : BitVec 32 := 1#32
  let v268 : BitVec 32 := Scalar.muli v14 c1_i32_232
  let v269 : BitVec 32 := Scalar.addi v267 v268
  v269.toNat
def k0_mult14 (d0 : Dev nD) : BitVec 32 :=
  let c2_i32_7 : BitVec 32 := 2#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.muli c2_i32_7 v5
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v16 : BitVec 32 := Scalar.addi v15 v9
  let c256_i32_239 : BitVec 32 := 256#32
  let v277 : BitVec 32 := Scalar.muli v16 c256_i32_239
  v277
def k0_off142 (d0 : Dev nD) : Fin 2 → Nat :=
  let c128_240 : Index := 128#32
  let c2_i32_7 : BitVec 32 := 2#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.muli c2_i32_7 v5
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v16 : BitVec 32 := Scalar.addi v15 v9
  let c256_i32_239 : BitVec 32 := 256#32
  let v277 : BitVec 32 := Scalar.muli v16 c256_i32_239
  let v278 : BitVec 32 := v277
  let v279 : Index := Scalar.indexCast v278
  ![128, v279.toNat]
def k0_dev16 (d0 : Dev nD) : Nat :=
  let c0_i32_259 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_258 : BitVec 32 := 8#32
  let v297 : BitVec 32 := Scalar.muli v2 c8_i32_258
  let v298 : BitVec 32 := Scalar.addi c0_i32_259 v297
  let c1_i32_4 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v11 : BitVec 32 := Scalar.subi c1_i32_4 v5
  let c4_i32_260 : BitVec 32 := 4#32
  let v299 : BitVec 32 := Scalar.muli v11 c4_i32_260
  let v300 : BitVec 32 := Scalar.addi v298 v299
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_261 : BitVec 32 := 1#32
  let v301 : BitVec 32 := Scalar.muli v8 c1_i32_261
  let v302 : BitVec 32 := Scalar.addi v300 v301
  v302.toNat
def k0_dev17 (d0 : Dev nD) : Nat :=
  let c0_i32_269 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_268 : BitVec 32 := 8#32
  let v309 : BitVec 32 := Scalar.muli v2 c8_i32_268
  let v310 : BitVec 32 := Scalar.addi c0_i32_269 v309
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_270 : BitVec 32 := 4#32
  let v311 : BitVec 32 := Scalar.muli v5 c4_i32_270
  let v312 : BitVec 32 := Scalar.addi v310 v311
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v12 : BitVec 32 := Scalar.addi v8 c1_i32_5
  let c2_i32_6 : BitVec 32 := 2#32
  let c2_i32_2 : BitVec 32 := 2#32
  let v9 : BitVec 32 := Scalar.remsi v8 c2_i32_2
  let v13 : BitVec 32 := Scalar.muli c2_i32_6 v9
  let v14 : BitVec 32 := Scalar.subi v12 v13
  let c1_i32_271 : BitVec 32 := 1#32
  let v313 : BitVec 32 := Scalar.muli v14 c1_i32_271
  let v314 : BitVec 32 := Scalar.addi v312 v313
  v314.toNat
def k0_mult15 (d0 : Dev nD) : BitVec 32 :=
  let c2_i32_7 : BitVec 32 := 2#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.muli c2_i32_7 v5
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v16 : BitVec 32 := Scalar.addi v15 v9
  let c256_i32_278 : BitVec 32 := 256#32
  let v322 : BitVec 32 := Scalar.muli v16 c256_i32_278
  v322
def k0_off143 (d0 : Dev nD) : Fin 2 → Nat :=
  let c256_279 : Index := 256#32
  let c2_i32_7 : BitVec 32 := 2#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.muli c2_i32_7 v5
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v16 : BitVec 32 := Scalar.addi v15 v9
  let c256_i32_278 : BitVec 32 := 256#32
  let v322 : BitVec 32 := Scalar.muli v16 c256_i32_278
  let v323 : BitVec 32 := v322
  let v324 : Index := Scalar.indexCast v323
  ![256, v324.toNat]
def k0_dev18 (d0 : Dev nD) : Nat :=
  let c0_i32_298 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_297 : BitVec 32 := 8#32
  let v342 : BitVec 32 := Scalar.muli v2 c8_i32_297
  let v343 : BitVec 32 := Scalar.addi c0_i32_298 v342
  let c1_i32_4 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v11 : BitVec 32 := Scalar.subi c1_i32_4 v5
  let c4_i32_299 : BitVec 32 := 4#32
  let v344 : BitVec 32 := Scalar.muli v11 c4_i32_299
  let v345 : BitVec 32 := Scalar.addi v343 v344
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_300 : BitVec 32 := 1#32
  let v346 : BitVec 32 := Scalar.muli v8 c1_i32_300
  let v347 : BitVec 32 := Scalar.addi v345 v346
  v347.toNat
def k0_dev19 (d0 : Dev nD) : Nat :=
  let c0_i32_308 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_307 : BitVec 32 := 8#32
  let v354 : BitVec 32 := Scalar.muli v2 c8_i32_307
  let v355 : BitVec 32 := Scalar.addi c0_i32_308 v354
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_309 : BitVec 32 := 4#32
  let v356 : BitVec 32 := Scalar.muli v5 c4_i32_309
  let v357 : BitVec 32 := Scalar.addi v355 v356
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v12 : BitVec 32 := Scalar.addi v8 c1_i32_5
  let c2_i32_6 : BitVec 32 := 2#32
  let c2_i32_2 : BitVec 32 := 2#32
  let v9 : BitVec 32 := Scalar.remsi v8 c2_i32_2
  let v13 : BitVec 32 := Scalar.muli c2_i32_6 v9
  let v14 : BitVec 32 := Scalar.subi v12 v13
  let c1_i32_310 : BitVec 32 := 1#32
  let v358 : BitVec 32 := Scalar.muli v14 c1_i32_310
  let v359 : BitVec 32 := Scalar.addi v357 v358
  v359.toNat
def k0_mult16 (d0 : Dev nD) : BitVec 32 :=
  let c2_i32_7 : BitVec 32 := 2#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.muli c2_i32_7 v5
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v16 : BitVec 32 := Scalar.addi v15 v9
  let c256_i32_317 : BitVec 32 := 256#32
  let v367 : BitVec 32 := Scalar.muli v16 c256_i32_317
  v367
def k0_off144 (d0 : Dev nD) : Fin 2 → Nat :=
  let c384_318 : Index := 384#32
  let c2_i32_7 : BitVec 32 := 2#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.muli c2_i32_7 v5
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v16 : BitVec 32 := Scalar.addi v15 v9
  let c256_i32_317 : BitVec 32 := 256#32
  let v367 : BitVec 32 := Scalar.muli v16 c256_i32_317
  let v368 : BitVec 32 := v367
  let v369 : Index := Scalar.indexCast v368
  ![384, v369.toNat]
def k0_dev20 (d0 : Dev nD) : Nat :=
  let c0_i32_337 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_336 : BitVec 32 := 8#32
  let v387 : BitVec 32 := Scalar.muli v2 c8_i32_336
  let v388 : BitVec 32 := Scalar.addi c0_i32_337 v387
  let c1_i32_4 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v11 : BitVec 32 := Scalar.subi c1_i32_4 v5
  let c4_i32_338 : BitVec 32 := 4#32
  let v389 : BitVec 32 := Scalar.muli v11 c4_i32_338
  let v390 : BitVec 32 := Scalar.addi v388 v389
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_339 : BitVec 32 := 1#32
  let v391 : BitVec 32 := Scalar.muli v8 c1_i32_339
  let v392 : BitVec 32 := Scalar.addi v390 v391
  v392.toNat
def k0_dev21 (d0 : Dev nD) : Nat :=
  let c0_i32_347 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_346 : BitVec 32 := 8#32
  let v399 : BitVec 32 := Scalar.muli v2 c8_i32_346
  let v400 : BitVec 32 := Scalar.addi c0_i32_347 v399
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_348 : BitVec 32 := 4#32
  let v401 : BitVec 32 := Scalar.muli v5 c4_i32_348
  let v402 : BitVec 32 := Scalar.addi v400 v401
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v12 : BitVec 32 := Scalar.addi v8 c1_i32_5
  let c2_i32_6 : BitVec 32 := 2#32
  let c2_i32_2 : BitVec 32 := 2#32
  let v9 : BitVec 32 := Scalar.remsi v8 c2_i32_2
  let v13 : BitVec 32 := Scalar.muli c2_i32_6 v9
  let v14 : BitVec 32 := Scalar.subi v12 v13
  let c1_i32_349 : BitVec 32 := 1#32
  let v403 : BitVec 32 := Scalar.muli v14 c1_i32_349
  let v404 : BitVec 32 := Scalar.addi v402 v403
  v404.toNat
def k0_mult17 (d0 : Dev nD) : BitVec 32 :=
  let c2_i32_7 : BitVec 32 := 2#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.muli c2_i32_7 v5
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v16 : BitVec 32 := Scalar.addi v15 v9
  let c256_i32_356 : BitVec 32 := 256#32
  let v412 : BitVec 32 := Scalar.muli v16 c256_i32_356
  v412
def k0_off145 (d0 : Dev nD) : Fin 2 → Nat :=
  let c512_357 : Index := 512#32
  let c2_i32_7 : BitVec 32 := 2#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.muli c2_i32_7 v5
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v16 : BitVec 32 := Scalar.addi v15 v9
  let c256_i32_356 : BitVec 32 := 256#32
  let v412 : BitVec 32 := Scalar.muli v16 c256_i32_356
  let v413 : BitVec 32 := v412
  let v414 : Index := Scalar.indexCast v413
  ![512, v414.toNat]
def k0_dev22 (d0 : Dev nD) : Nat :=
  let c0_i32_376 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_375 : BitVec 32 := 8#32
  let v432 : BitVec 32 := Scalar.muli v2 c8_i32_375
  let v433 : BitVec 32 := Scalar.addi c0_i32_376 v432
  let c1_i32_4 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v11 : BitVec 32 := Scalar.subi c1_i32_4 v5
  let c4_i32_377 : BitVec 32 := 4#32
  let v434 : BitVec 32 := Scalar.muli v11 c4_i32_377
  let v435 : BitVec 32 := Scalar.addi v433 v434
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_378 : BitVec 32 := 1#32
  let v436 : BitVec 32 := Scalar.muli v8 c1_i32_378
  let v437 : BitVec 32 := Scalar.addi v435 v436
  v437.toNat
def k0_dev23 (d0 : Dev nD) : Nat :=
  let c0_i32_386 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_385 : BitVec 32 := 8#32
  let v444 : BitVec 32 := Scalar.muli v2 c8_i32_385
  let v445 : BitVec 32 := Scalar.addi c0_i32_386 v444
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_387 : BitVec 32 := 4#32
  let v446 : BitVec 32 := Scalar.muli v5 c4_i32_387
  let v447 : BitVec 32 := Scalar.addi v445 v446
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v12 : BitVec 32 := Scalar.addi v8 c1_i32_5
  let c2_i32_6 : BitVec 32 := 2#32
  let c2_i32_2 : BitVec 32 := 2#32
  let v9 : BitVec 32 := Scalar.remsi v8 c2_i32_2
  let v13 : BitVec 32 := Scalar.muli c2_i32_6 v9
  let v14 : BitVec 32 := Scalar.subi v12 v13
  let c1_i32_388 : BitVec 32 := 1#32
  let v448 : BitVec 32 := Scalar.muli v14 c1_i32_388
  let v449 : BitVec 32 := Scalar.addi v447 v448
  v449.toNat
def k0_mult18 (d0 : Dev nD) : BitVec 32 :=
  let c2_i32_7 : BitVec 32 := 2#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.muli c2_i32_7 v5
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v16 : BitVec 32 := Scalar.addi v15 v9
  let c256_i32_395 : BitVec 32 := 256#32
  let v457 : BitVec 32 := Scalar.muli v16 c256_i32_395
  v457
def k0_off146 (d0 : Dev nD) : Fin 2 → Nat :=
  let c640_396 : Index := 640#32
  let c2_i32_7 : BitVec 32 := 2#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.muli c2_i32_7 v5
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v16 : BitVec 32 := Scalar.addi v15 v9
  let c256_i32_395 : BitVec 32 := 256#32
  let v457 : BitVec 32 := Scalar.muli v16 c256_i32_395
  let v458 : BitVec 32 := v457
  let v459 : Index := Scalar.indexCast v458
  ![640, v459.toNat]
def k0_dev24 (d0 : Dev nD) : Nat :=
  let c0_i32_415 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_414 : BitVec 32 := 8#32
  let v477 : BitVec 32 := Scalar.muli v2 c8_i32_414
  let v478 : BitVec 32 := Scalar.addi c0_i32_415 v477
  let c1_i32_4 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v11 : BitVec 32 := Scalar.subi c1_i32_4 v5
  let c4_i32_416 : BitVec 32 := 4#32
  let v479 : BitVec 32 := Scalar.muli v11 c4_i32_416
  let v480 : BitVec 32 := Scalar.addi v478 v479
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_417 : BitVec 32 := 1#32
  let v481 : BitVec 32 := Scalar.muli v8 c1_i32_417
  let v482 : BitVec 32 := Scalar.addi v480 v481
  v482.toNat
def k0_dev25 (d0 : Dev nD) : Nat :=
  let c0_i32_425 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_424 : BitVec 32 := 8#32
  let v489 : BitVec 32 := Scalar.muli v2 c8_i32_424
  let v490 : BitVec 32 := Scalar.addi c0_i32_425 v489
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_426 : BitVec 32 := 4#32
  let v491 : BitVec 32 := Scalar.muli v5 c4_i32_426
  let v492 : BitVec 32 := Scalar.addi v490 v491
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v12 : BitVec 32 := Scalar.addi v8 c1_i32_5
  let c2_i32_6 : BitVec 32 := 2#32
  let c2_i32_2 : BitVec 32 := 2#32
  let v9 : BitVec 32 := Scalar.remsi v8 c2_i32_2
  let v13 : BitVec 32 := Scalar.muli c2_i32_6 v9
  let v14 : BitVec 32 := Scalar.subi v12 v13
  let c1_i32_427 : BitVec 32 := 1#32
  let v493 : BitVec 32 := Scalar.muli v14 c1_i32_427
  let v494 : BitVec 32 := Scalar.addi v492 v493
  v494.toNat
def k0_mult19 (d0 : Dev nD) : BitVec 32 :=
  let c2_i32_7 : BitVec 32 := 2#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.muli c2_i32_7 v5
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v16 : BitVec 32 := Scalar.addi v15 v9
  let c256_i32_434 : BitVec 32 := 256#32
  let v502 : BitVec 32 := Scalar.muli v16 c256_i32_434
  v502
def k0_off147 (d0 : Dev nD) : Fin 2 → Nat :=
  let c768_435 : Index := 768#32
  let c2_i32_7 : BitVec 32 := 2#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.muli c2_i32_7 v5
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v16 : BitVec 32 := Scalar.addi v15 v9
  let c256_i32_434 : BitVec 32 := 256#32
  let v502 : BitVec 32 := Scalar.muli v16 c256_i32_434
  let v503 : BitVec 32 := v502
  let v504 : Index := Scalar.indexCast v503
  ![768, v504.toNat]
def k0_dev26 (d0 : Dev nD) : Nat :=
  let c0_i32_454 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_453 : BitVec 32 := 8#32
  let v522 : BitVec 32 := Scalar.muli v2 c8_i32_453
  let v523 : BitVec 32 := Scalar.addi c0_i32_454 v522
  let c1_i32_4 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v11 : BitVec 32 := Scalar.subi c1_i32_4 v5
  let c4_i32_455 : BitVec 32 := 4#32
  let v524 : BitVec 32 := Scalar.muli v11 c4_i32_455
  let v525 : BitVec 32 := Scalar.addi v523 v524
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_456 : BitVec 32 := 1#32
  let v526 : BitVec 32 := Scalar.muli v8 c1_i32_456
  let v527 : BitVec 32 := Scalar.addi v525 v526
  v527.toNat
def k0_dev27 (d0 : Dev nD) : Nat :=
  let c0_i32_464 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_463 : BitVec 32 := 8#32
  let v534 : BitVec 32 := Scalar.muli v2 c8_i32_463
  let v535 : BitVec 32 := Scalar.addi c0_i32_464 v534
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_465 : BitVec 32 := 4#32
  let v536 : BitVec 32 := Scalar.muli v5 c4_i32_465
  let v537 : BitVec 32 := Scalar.addi v535 v536
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v12 : BitVec 32 := Scalar.addi v8 c1_i32_5
  let c2_i32_6 : BitVec 32 := 2#32
  let c2_i32_2 : BitVec 32 := 2#32
  let v9 : BitVec 32 := Scalar.remsi v8 c2_i32_2
  let v13 : BitVec 32 := Scalar.muli c2_i32_6 v9
  let v14 : BitVec 32 := Scalar.subi v12 v13
  let c1_i32_466 : BitVec 32 := 1#32
  let v538 : BitVec 32 := Scalar.muli v14 c1_i32_466
  let v539 : BitVec 32 := Scalar.addi v537 v538
  v539.toNat
def k0_mult20 (d0 : Dev nD) : BitVec 32 :=
  let c2_i32_7 : BitVec 32 := 2#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.muli c2_i32_7 v5
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v16 : BitVec 32 := Scalar.addi v15 v9
  let c256_i32_473 : BitVec 32 := 256#32
  let v547 : BitVec 32 := Scalar.muli v16 c256_i32_473
  v547
def k0_off148 (d0 : Dev nD) : Fin 2 → Nat :=
  let c896_474 : Index := 896#32
  let c2_i32_7 : BitVec 32 := 2#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.muli c2_i32_7 v5
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v16 : BitVec 32 := Scalar.addi v15 v9
  let c256_i32_473 : BitVec 32 := 256#32
  let v547 : BitVec 32 := Scalar.muli v16 c256_i32_473
  let v548 : BitVec 32 := v547
  let v549 : Index := Scalar.indexCast v548
  ![896, v549.toNat]
def k0_mult21 (d0 : Dev nD) : BitVec 32 :=
  let c2_i32_10 : BitVec 32 := 2#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.muli c2_i32_10 v5
  let c1_i32_11 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v21 : BitVec 32 := Scalar.subi c1_i32_11 v9
  let v22 : BitVec 32 := Scalar.addi v20 v21
  let c256_i32_487 : BitVec 32 := 256#32
  let v562 : BitVec 32 := Scalar.muli v22 c256_i32_487
  v562
def k0_off149 (d0 : Dev nD) : Fin 2 → Nat :=
  let c0_488 : Index := 0#32
  let c2_i32_10 : BitVec 32 := 2#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.muli c2_i32_10 v5
  let c1_i32_11 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v21 : BitVec 32 := Scalar.subi c1_i32_11 v9
  let v22 : BitVec 32 := Scalar.addi v20 v21
  let c256_i32_487 : BitVec 32 := 256#32
  let v562 : BitVec 32 := Scalar.muli v22 c256_i32_487
  let v563 : BitVec 32 := v562
  let v564 : Index := Scalar.indexCast v563
  ![0, v564.toNat]
def k0_dev28 (d0 : Dev nD) : Nat :=
  let c0_i32_492 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_491 : BitVec 32 := 8#32
  let v566 : BitVec 32 := Scalar.muli v2 c8_i32_491
  let v567 : BitVec 32 := Scalar.addi c0_i32_492 v566
  let c1_i32_4 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v11 : BitVec 32 := Scalar.subi c1_i32_4 v5
  let c4_i32_493 : BitVec 32 := 4#32
  let v568 : BitVec 32 := Scalar.muli v11 c4_i32_493
  let v569 : BitVec 32 := Scalar.addi v567 v568
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_494 : BitVec 32 := 1#32
  let v570 : BitVec 32 := Scalar.muli v8 c1_i32_494
  let v571 : BitVec 32 := Scalar.addi v569 v570
  v571.toNat
def k0_mult22 (d0 : Dev nD) : BitVec 32 :=
  let c2_i32_10 : BitVec 32 := 2#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.muli c2_i32_10 v5
  let c1_i32_11 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v21 : BitVec 32 := Scalar.subi c1_i32_11 v9
  let v22 : BitVec 32 := Scalar.addi v20 v21
  let c256_i32_511 : BitVec 32 := 256#32
  let v589 : BitVec 32 := Scalar.muli v22 c256_i32_511
  v589
def k0_off150 (d0 : Dev nD) : Fin 2 → Nat :=
  let c128_512 : Index := 128#32
  let c2_i32_10 : BitVec 32 := 2#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.muli c2_i32_10 v5
  let c1_i32_11 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v21 : BitVec 32 := Scalar.subi c1_i32_11 v9
  let v22 : BitVec 32 := Scalar.addi v20 v21
  let c256_i32_511 : BitVec 32 := 256#32
  let v589 : BitVec 32 := Scalar.muli v22 c256_i32_511
  let v590 : BitVec 32 := v589
  let v591 : Index := Scalar.indexCast v590
  ![128, v591.toNat]
def k0_dev29 (d0 : Dev nD) : Nat :=
  let c0_i32_516 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_515 : BitVec 32 := 8#32
  let v593 : BitVec 32 := Scalar.muli v2 c8_i32_515
  let v594 : BitVec 32 := Scalar.addi c0_i32_516 v593
  let c1_i32_4 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v11 : BitVec 32 := Scalar.subi c1_i32_4 v5
  let c4_i32_517 : BitVec 32 := 4#32
  let v595 : BitVec 32 := Scalar.muli v11 c4_i32_517
  let v596 : BitVec 32 := Scalar.addi v594 v595
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_518 : BitVec 32 := 1#32
  let v597 : BitVec 32 := Scalar.muli v8 c1_i32_518
  let v598 : BitVec 32 := Scalar.addi v596 v597
  v598.toNat
def k0_mult23 (d0 : Dev nD) : BitVec 32 :=
  let c2_i32_10 : BitVec 32 := 2#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.muli c2_i32_10 v5
  let c1_i32_11 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v21 : BitVec 32 := Scalar.subi c1_i32_11 v9
  let v22 : BitVec 32 := Scalar.addi v20 v21
  let c256_i32_535 : BitVec 32 := 256#32
  let v616 : BitVec 32 := Scalar.muli v22 c256_i32_535
  v616
def k0_off151 (d0 : Dev nD) : Fin 2 → Nat :=
  let c256_536 : Index := 256#32
  let c2_i32_10 : BitVec 32 := 2#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.muli c2_i32_10 v5
  let c1_i32_11 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v21 : BitVec 32 := Scalar.subi c1_i32_11 v9
  let v22 : BitVec 32 := Scalar.addi v20 v21
  let c256_i32_535 : BitVec 32 := 256#32
  let v616 : BitVec 32 := Scalar.muli v22 c256_i32_535
  let v617 : BitVec 32 := v616
  let v618 : Index := Scalar.indexCast v617
  ![256, v618.toNat]
def k0_dev30 (d0 : Dev nD) : Nat :=
  let c0_i32_540 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_539 : BitVec 32 := 8#32
  let v620 : BitVec 32 := Scalar.muli v2 c8_i32_539
  let v621 : BitVec 32 := Scalar.addi c0_i32_540 v620
  let c1_i32_4 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v11 : BitVec 32 := Scalar.subi c1_i32_4 v5
  let c4_i32_541 : BitVec 32 := 4#32
  let v622 : BitVec 32 := Scalar.muli v11 c4_i32_541
  let v623 : BitVec 32 := Scalar.addi v621 v622
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_542 : BitVec 32 := 1#32
  let v624 : BitVec 32 := Scalar.muli v8 c1_i32_542
  let v625 : BitVec 32 := Scalar.addi v623 v624
  v625.toNat
def k0_mult24 (d0 : Dev nD) : BitVec 32 :=
  let c2_i32_10 : BitVec 32 := 2#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.muli c2_i32_10 v5
  let c1_i32_11 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v21 : BitVec 32 := Scalar.subi c1_i32_11 v9
  let v22 : BitVec 32 := Scalar.addi v20 v21
  let c256_i32_559 : BitVec 32 := 256#32
  let v643 : BitVec 32 := Scalar.muli v22 c256_i32_559
  v643
def k0_off152 (d0 : Dev nD) : Fin 2 → Nat :=
  let c384_560 : Index := 384#32
  let c2_i32_10 : BitVec 32 := 2#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.muli c2_i32_10 v5
  let c1_i32_11 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v21 : BitVec 32 := Scalar.subi c1_i32_11 v9
  let v22 : BitVec 32 := Scalar.addi v20 v21
  let c256_i32_559 : BitVec 32 := 256#32
  let v643 : BitVec 32 := Scalar.muli v22 c256_i32_559
  let v644 : BitVec 32 := v643
  let v645 : Index := Scalar.indexCast v644
  ![384, v645.toNat]
def k0_dev31 (d0 : Dev nD) : Nat :=
  let c0_i32_564 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_563 : BitVec 32 := 8#32
  let v647 : BitVec 32 := Scalar.muli v2 c8_i32_563
  let v648 : BitVec 32 := Scalar.addi c0_i32_564 v647
  let c1_i32_4 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v11 : BitVec 32 := Scalar.subi c1_i32_4 v5
  let c4_i32_565 : BitVec 32 := 4#32
  let v649 : BitVec 32 := Scalar.muli v11 c4_i32_565
  let v650 : BitVec 32 := Scalar.addi v648 v649
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_566 : BitVec 32 := 1#32
  let v651 : BitVec 32 := Scalar.muli v8 c1_i32_566
  let v652 : BitVec 32 := Scalar.addi v650 v651
  v652.toNat
def k0_mult25 (d0 : Dev nD) : BitVec 32 :=
  let c2_i32_9 : BitVec 32 := 2#32
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v17 : BitVec 32 := Scalar.subi c1_i32_8 v5
  let v18 : BitVec 32 := Scalar.muli c2_i32_9 v17
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v19 : BitVec 32 := Scalar.addi v18 v9
  let c256_i32_583 : BitVec 32 := 256#32
  let v670 : BitVec 32 := Scalar.muli v19 c256_i32_583
  v670
def k0_off153 (d0 : Dev nD) : Fin 2 → Nat :=
  let c512_584 : Index := 512#32
  let c2_i32_9 : BitVec 32 := 2#32
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v17 : BitVec 32 := Scalar.subi c1_i32_8 v5
  let v18 : BitVec 32 := Scalar.muli c2_i32_9 v17
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v19 : BitVec 32 := Scalar.addi v18 v9
  let c256_i32_583 : BitVec 32 := 256#32
  let v670 : BitVec 32 := Scalar.muli v19 c256_i32_583
  let v671 : BitVec 32 := v670
  let v672 : Index := Scalar.indexCast v671
  ![512, v672.toNat]
def k0_dev32 (d0 : Dev nD) : Nat :=
  let c0_i32_588 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_587 : BitVec 32 := 8#32
  let v674 : BitVec 32 := Scalar.muli v2 c8_i32_587
  let v675 : BitVec 32 := Scalar.addi c0_i32_588 v674
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_589 : BitVec 32 := 4#32
  let v676 : BitVec 32 := Scalar.muli v5 c4_i32_589
  let v677 : BitVec 32 := Scalar.addi v675 v676
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v12 : BitVec 32 := Scalar.addi v8 c1_i32_5
  let c2_i32_6 : BitVec 32 := 2#32
  let c2_i32_2 : BitVec 32 := 2#32
  let v9 : BitVec 32 := Scalar.remsi v8 c2_i32_2
  let v13 : BitVec 32 := Scalar.muli c2_i32_6 v9
  let v14 : BitVec 32 := Scalar.subi v12 v13
  let c1_i32_590 : BitVec 32 := 1#32
  let v678 : BitVec 32 := Scalar.muli v14 c1_i32_590
  let v679 : BitVec 32 := Scalar.addi v677 v678
  v679.toNat
def k0_mult26 (d0 : Dev nD) : BitVec 32 :=
  let c2_i32_9 : BitVec 32 := 2#32
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v17 : BitVec 32 := Scalar.subi c1_i32_8 v5
  let v18 : BitVec 32 := Scalar.muli c2_i32_9 v17
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v19 : BitVec 32 := Scalar.addi v18 v9
  let c256_i32_607 : BitVec 32 := 256#32
  let v697 : BitVec 32 := Scalar.muli v19 c256_i32_607
  v697
def k0_off154 (d0 : Dev nD) : Fin 2 → Nat :=
  let c640_608 : Index := 640#32
  let c2_i32_9 : BitVec 32 := 2#32
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v17 : BitVec 32 := Scalar.subi c1_i32_8 v5
  let v18 : BitVec 32 := Scalar.muli c2_i32_9 v17
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v19 : BitVec 32 := Scalar.addi v18 v9
  let c256_i32_607 : BitVec 32 := 256#32
  let v697 : BitVec 32 := Scalar.muli v19 c256_i32_607
  let v698 : BitVec 32 := v697
  let v699 : Index := Scalar.indexCast v698
  ![640, v699.toNat]
def k0_dev33 (d0 : Dev nD) : Nat :=
  let c0_i32_612 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_611 : BitVec 32 := 8#32
  let v701 : BitVec 32 := Scalar.muli v2 c8_i32_611
  let v702 : BitVec 32 := Scalar.addi c0_i32_612 v701
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_613 : BitVec 32 := 4#32
  let v703 : BitVec 32 := Scalar.muli v5 c4_i32_613
  let v704 : BitVec 32 := Scalar.addi v702 v703
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v12 : BitVec 32 := Scalar.addi v8 c1_i32_5
  let c2_i32_6 : BitVec 32 := 2#32
  let c2_i32_2 : BitVec 32 := 2#32
  let v9 : BitVec 32 := Scalar.remsi v8 c2_i32_2
  let v13 : BitVec 32 := Scalar.muli c2_i32_6 v9
  let v14 : BitVec 32 := Scalar.subi v12 v13
  let c1_i32_614 : BitVec 32 := 1#32
  let v705 : BitVec 32 := Scalar.muli v14 c1_i32_614
  let v706 : BitVec 32 := Scalar.addi v704 v705
  v706.toNat
def k0_mult27 (d0 : Dev nD) : BitVec 32 :=
  let c2_i32_9 : BitVec 32 := 2#32
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v17 : BitVec 32 := Scalar.subi c1_i32_8 v5
  let v18 : BitVec 32 := Scalar.muli c2_i32_9 v17
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v19 : BitVec 32 := Scalar.addi v18 v9
  let c256_i32_631 : BitVec 32 := 256#32
  let v724 : BitVec 32 := Scalar.muli v19 c256_i32_631
  v724
def k0_off155 (d0 : Dev nD) : Fin 2 → Nat :=
  let c768_632 : Index := 768#32
  let c2_i32_9 : BitVec 32 := 2#32
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v17 : BitVec 32 := Scalar.subi c1_i32_8 v5
  let v18 : BitVec 32 := Scalar.muli c2_i32_9 v17
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v19 : BitVec 32 := Scalar.addi v18 v9
  let c256_i32_631 : BitVec 32 := 256#32
  let v724 : BitVec 32 := Scalar.muli v19 c256_i32_631
  let v725 : BitVec 32 := v724
  let v726 : Index := Scalar.indexCast v725
  ![768, v726.toNat]
def k0_dev34 (d0 : Dev nD) : Nat :=
  let c0_i32_636 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_635 : BitVec 32 := 8#32
  let v728 : BitVec 32 := Scalar.muli v2 c8_i32_635
  let v729 : BitVec 32 := Scalar.addi c0_i32_636 v728
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_637 : BitVec 32 := 4#32
  let v730 : BitVec 32 := Scalar.muli v5 c4_i32_637
  let v731 : BitVec 32 := Scalar.addi v729 v730
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v12 : BitVec 32 := Scalar.addi v8 c1_i32_5
  let c2_i32_6 : BitVec 32 := 2#32
  let c2_i32_2 : BitVec 32 := 2#32
  let v9 : BitVec 32 := Scalar.remsi v8 c2_i32_2
  let v13 : BitVec 32 := Scalar.muli c2_i32_6 v9
  let v14 : BitVec 32 := Scalar.subi v12 v13
  let c1_i32_638 : BitVec 32 := 1#32
  let v732 : BitVec 32 := Scalar.muli v14 c1_i32_638
  let v733 : BitVec 32 := Scalar.addi v731 v732
  v733.toNat
def k0_mult28 (d0 : Dev nD) : BitVec 32 :=
  let c2_i32_9 : BitVec 32 := 2#32
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v17 : BitVec 32 := Scalar.subi c1_i32_8 v5
  let v18 : BitVec 32 := Scalar.muli c2_i32_9 v17
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v19 : BitVec 32 := Scalar.addi v18 v9
  let c256_i32_655 : BitVec 32 := 256#32
  let v751 : BitVec 32 := Scalar.muli v19 c256_i32_655
  v751
def k0_off156 (d0 : Dev nD) : Fin 2 → Nat :=
  let c896_656 : Index := 896#32
  let c2_i32_9 : BitVec 32 := 2#32
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v17 : BitVec 32 := Scalar.subi c1_i32_8 v5
  let v18 : BitVec 32 := Scalar.muli c2_i32_9 v17
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v19 : BitVec 32 := Scalar.addi v18 v9
  let c256_i32_655 : BitVec 32 := 256#32
  let v751 : BitVec 32 := Scalar.muli v19 c256_i32_655
  let v752 : BitVec 32 := v751
  let v753 : Index := Scalar.indexCast v752
  ![896, v753.toNat]
def k0_dev35 (d0 : Dev nD) : Nat :=
  let c0_i32_660 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_659 : BitVec 32 := 8#32
  let v755 : BitVec 32 := Scalar.muli v2 c8_i32_659
  let v756 : BitVec 32 := Scalar.addi c0_i32_660 v755
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_661 : BitVec 32 := 4#32
  let v757 : BitVec 32 := Scalar.muli v5 c4_i32_661
  let v758 : BitVec 32 := Scalar.addi v756 v757
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v12 : BitVec 32 := Scalar.addi v8 c1_i32_5
  let c2_i32_6 : BitVec 32 := 2#32
  let c2_i32_2 : BitVec 32 := 2#32
  let v9 : BitVec 32 := Scalar.remsi v8 c2_i32_2
  let v13 : BitVec 32 := Scalar.muli c2_i32_6 v9
  let v14 : BitVec 32 := Scalar.subi v12 v13
  let c1_i32_662 : BitVec 32 := 1#32
  let v759 : BitVec 32 := Scalar.muli v14 c1_i32_662
  let v760 : BitVec 32 := Scalar.addi v758 v759
  v760.toNat
def k0_mult29 (d0 : Dev nD) : BitVec 32 :=
  let c2_i32_10 : BitVec 32 := 2#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.muli c2_i32_10 v5
  let c1_i32_11 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v21 : BitVec 32 := Scalar.subi c1_i32_11 v9
  let v22 : BitVec 32 := Scalar.addi v20 v21
  let c256_i32_679 : BitVec 32 := 256#32
  let v778 : BitVec 32 := Scalar.muli v22 c256_i32_679
  v778
def k0_off157 (d0 : Dev nD) : Fin 2 → Nat :=
  let c512_680 : Index := 512#32
  let c2_i32_10 : BitVec 32 := 2#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.muli c2_i32_10 v5
  let c1_i32_11 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v21 : BitVec 32 := Scalar.subi c1_i32_11 v9
  let v22 : BitVec 32 := Scalar.addi v20 v21
  let c256_i32_679 : BitVec 32 := 256#32
  let v778 : BitVec 32 := Scalar.muli v22 c256_i32_679
  let v779 : BitVec 32 := v778
  let v780 : Index := Scalar.indexCast v779
  ![512, v780.toNat]
def k0_mult30 (d0 : Dev nD) : BitVec 32 :=
  let c2_i32_10 : BitVec 32 := 2#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.muli c2_i32_10 v5
  let c1_i32_11 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v21 : BitVec 32 := Scalar.subi c1_i32_11 v9
  let v22 : BitVec 32 := Scalar.addi v20 v21
  let c256_i32_693 : BitVec 32 := 256#32
  let v793 : BitVec 32 := Scalar.muli v22 c256_i32_693
  v793
def k0_off158 (d0 : Dev nD) : Fin 2 → Nat :=
  let c640_694 : Index := 640#32
  let c2_i32_10 : BitVec 32 := 2#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.muli c2_i32_10 v5
  let c1_i32_11 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v21 : BitVec 32 := Scalar.subi c1_i32_11 v9
  let v22 : BitVec 32 := Scalar.addi v20 v21
  let c256_i32_693 : BitVec 32 := 256#32
  let v793 : BitVec 32 := Scalar.muli v22 c256_i32_693
  let v794 : BitVec 32 := v793
  let v795 : Index := Scalar.indexCast v794
  ![640, v795.toNat]
def k0_mult31 (d0 : Dev nD) : BitVec 32 :=
  let c2_i32_10 : BitVec 32 := 2#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.muli c2_i32_10 v5
  let c1_i32_11 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v21 : BitVec 32 := Scalar.subi c1_i32_11 v9
  let v22 : BitVec 32 := Scalar.addi v20 v21
  let c256_i32_707 : BitVec 32 := 256#32
  let v808 : BitVec 32 := Scalar.muli v22 c256_i32_707
  v808
def k0_off159 (d0 : Dev nD) : Fin 2 → Nat :=
  let c768_708 : Index := 768#32
  let c2_i32_10 : BitVec 32 := 2#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.muli c2_i32_10 v5
  let c1_i32_11 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v21 : BitVec 32 := Scalar.subi c1_i32_11 v9
  let v22 : BitVec 32 := Scalar.addi v20 v21
  let c256_i32_707 : BitVec 32 := 256#32
  let v808 : BitVec 32 := Scalar.muli v22 c256_i32_707
  let v809 : BitVec 32 := v808
  let v810 : Index := Scalar.indexCast v809
  ![768, v810.toNat]
def k0_mult32 (d0 : Dev nD) : BitVec 32 :=
  let c2_i32_10 : BitVec 32 := 2#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.muli c2_i32_10 v5
  let c1_i32_11 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v21 : BitVec 32 := Scalar.subi c1_i32_11 v9
  let v22 : BitVec 32 := Scalar.addi v20 v21
  let c256_i32_721 : BitVec 32 := 256#32
  let v823 : BitVec 32 := Scalar.muli v22 c256_i32_721
  v823
def k0_off160 (d0 : Dev nD) : Fin 2 → Nat :=
  let c896_722 : Index := 896#32
  let c2_i32_10 : BitVec 32 := 2#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.muli c2_i32_10 v5
  let c1_i32_11 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v21 : BitVec 32 := Scalar.subi c1_i32_11 v9
  let v22 : BitVec 32 := Scalar.addi v20 v21
  let c256_i32_721 : BitVec 32 := 256#32
  let v823 : BitVec 32 := Scalar.muli v22 c256_i32_721
  let v824 : BitVec 32 := v823
  let v825 : Index := Scalar.indexCast v824
  ![896, v825.toNat]
def k0_mult33 (d0 : Dev nD) : BitVec 32 :=
  let c2_i32_9 : BitVec 32 := 2#32
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v17 : BitVec 32 := Scalar.subi c1_i32_8 v5
  let v18 : BitVec 32 := Scalar.muli c2_i32_9 v17
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v19 : BitVec 32 := Scalar.addi v18 v9
  let c256_i32_735 : BitVec 32 := 256#32
  let v838 : BitVec 32 := Scalar.muli v19 c256_i32_735
  v838
def k0_off161 (d0 : Dev nD) : Fin 2 → Nat :=
  let c0_736 : Index := 0#32
  let c2_i32_9 : BitVec 32 := 2#32
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v17 : BitVec 32 := Scalar.subi c1_i32_8 v5
  let v18 : BitVec 32 := Scalar.muli c2_i32_9 v17
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v19 : BitVec 32 := Scalar.addi v18 v9
  let c256_i32_735 : BitVec 32 := 256#32
  let v838 : BitVec 32 := Scalar.muli v19 c256_i32_735
  let v839 : BitVec 32 := v838
  let v840 : Index := Scalar.indexCast v839
  ![0, v840.toNat]
def k0_mult34 (d0 : Dev nD) : BitVec 32 :=
  let c2_i32_9 : BitVec 32 := 2#32
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v17 : BitVec 32 := Scalar.subi c1_i32_8 v5
  let v18 : BitVec 32 := Scalar.muli c2_i32_9 v17
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v19 : BitVec 32 := Scalar.addi v18 v9
  let c256_i32_749 : BitVec 32 := 256#32
  let v853 : BitVec 32 := Scalar.muli v19 c256_i32_749
  v853
def k0_off162 (d0 : Dev nD) : Fin 2 → Nat :=
  let c128_750 : Index := 128#32
  let c2_i32_9 : BitVec 32 := 2#32
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v17 : BitVec 32 := Scalar.subi c1_i32_8 v5
  let v18 : BitVec 32 := Scalar.muli c2_i32_9 v17
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v19 : BitVec 32 := Scalar.addi v18 v9
  let c256_i32_749 : BitVec 32 := 256#32
  let v853 : BitVec 32 := Scalar.muli v19 c256_i32_749
  let v854 : BitVec 32 := v853
  let v855 : Index := Scalar.indexCast v854
  ![128, v855.toNat]
def k0_mult35 (d0 : Dev nD) : BitVec 32 :=
  let c2_i32_9 : BitVec 32 := 2#32
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v17 : BitVec 32 := Scalar.subi c1_i32_8 v5
  let v18 : BitVec 32 := Scalar.muli c2_i32_9 v17
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v19 : BitVec 32 := Scalar.addi v18 v9
  let c256_i32_763 : BitVec 32 := 256#32
  let v868 : BitVec 32 := Scalar.muli v19 c256_i32_763
  v868
def k0_off163 (d0 : Dev nD) : Fin 2 → Nat :=
  let c256_764 : Index := 256#32
  let c2_i32_9 : BitVec 32 := 2#32
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v17 : BitVec 32 := Scalar.subi c1_i32_8 v5
  let v18 : BitVec 32 := Scalar.muli c2_i32_9 v17
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v19 : BitVec 32 := Scalar.addi v18 v9
  let c256_i32_763 : BitVec 32 := 256#32
  let v868 : BitVec 32 := Scalar.muli v19 c256_i32_763
  let v869 : BitVec 32 := v868
  let v870 : Index := Scalar.indexCast v869
  ![256, v870.toNat]
def k0_mult36 (d0 : Dev nD) : BitVec 32 :=
  let c2_i32_9 : BitVec 32 := 2#32
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v17 : BitVec 32 := Scalar.subi c1_i32_8 v5
  let v18 : BitVec 32 := Scalar.muli c2_i32_9 v17
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v19 : BitVec 32 := Scalar.addi v18 v9
  let c256_i32_777 : BitVec 32 := 256#32
  let v883 : BitVec 32 := Scalar.muli v19 c256_i32_777
  v883
def k0_off164 (d0 : Dev nD) : Fin 2 → Nat :=
  let c384_778 : Index := 384#32
  let c2_i32_9 : BitVec 32 := 2#32
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v17 : BitVec 32 := Scalar.subi c1_i32_8 v5
  let v18 : BitVec 32 := Scalar.muli c2_i32_9 v17
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v19 : BitVec 32 := Scalar.addi v18 v9
  let c256_i32_777 : BitVec 32 := 256#32
  let v883 : BitVec 32 := Scalar.muli v19 c256_i32_777
  let v884 : BitVec 32 := v883
  let v885 : Index := Scalar.indexCast v884
  ![384, v885.toNat]
def k0_mult37 (d0 : Dev nD) : BitVec 32 :=
  let c2_i32_13 : BitVec 32 := 2#32
  let c1_i32_12 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v23 : BitVec 32 := Scalar.subi c1_i32_12 v5
  let v24 : BitVec 32 := Scalar.muli c2_i32_13 v23
  let c1_i32_14 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v25 : BitVec 32 := Scalar.subi c1_i32_14 v9
  let v26 : BitVec 32 := Scalar.addi v24 v25
  let c256_i32_791 : BitVec 32 := 256#32
  let v898 : BitVec 32 := Scalar.muli v26 c256_i32_791
  v898
def k0_off165 (d0 : Dev nD) : Fin 2 → Nat :=
  let c0_792 : Index := 0#32
  let c2_i32_13 : BitVec 32 := 2#32
  let c1_i32_12 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v23 : BitVec 32 := Scalar.subi c1_i32_12 v5
  let v24 : BitVec 32 := Scalar.muli c2_i32_13 v23
  let c1_i32_14 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v25 : BitVec 32 := Scalar.subi c1_i32_14 v9
  let v26 : BitVec 32 := Scalar.addi v24 v25
  let c256_i32_791 : BitVec 32 := 256#32
  let v898 : BitVec 32 := Scalar.muli v26 c256_i32_791
  let v899 : BitVec 32 := v898
  let v900 : Index := Scalar.indexCast v899
  ![0, v900.toNat]
def k0_mult38 (d0 : Dev nD) : BitVec 32 :=
  let c2_i32_13 : BitVec 32 := 2#32
  let c1_i32_12 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v23 : BitVec 32 := Scalar.subi c1_i32_12 v5
  let v24 : BitVec 32 := Scalar.muli c2_i32_13 v23
  let c1_i32_14 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v25 : BitVec 32 := Scalar.subi c1_i32_14 v9
  let v26 : BitVec 32 := Scalar.addi v24 v25
  let c256_i32_805 : BitVec 32 := 256#32
  let v913 : BitVec 32 := Scalar.muli v26 c256_i32_805
  v913
def k0_off166 (d0 : Dev nD) : Fin 2 → Nat :=
  let c128_806 : Index := 128#32
  let c2_i32_13 : BitVec 32 := 2#32
  let c1_i32_12 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v23 : BitVec 32 := Scalar.subi c1_i32_12 v5
  let v24 : BitVec 32 := Scalar.muli c2_i32_13 v23
  let c1_i32_14 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v25 : BitVec 32 := Scalar.subi c1_i32_14 v9
  let v26 : BitVec 32 := Scalar.addi v24 v25
  let c256_i32_805 : BitVec 32 := 256#32
  let v913 : BitVec 32 := Scalar.muli v26 c256_i32_805
  let v914 : BitVec 32 := v913
  let v915 : Index := Scalar.indexCast v914
  ![128, v915.toNat]
def k0_mult39 (d0 : Dev nD) : BitVec 32 :=
  let c2_i32_13 : BitVec 32 := 2#32
  let c1_i32_12 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v23 : BitVec 32 := Scalar.subi c1_i32_12 v5
  let v24 : BitVec 32 := Scalar.muli c2_i32_13 v23
  let c1_i32_14 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v25 : BitVec 32 := Scalar.subi c1_i32_14 v9
  let v26 : BitVec 32 := Scalar.addi v24 v25
  let c256_i32_819 : BitVec 32 := 256#32
  let v928 : BitVec 32 := Scalar.muli v26 c256_i32_819
  v928
def k0_off167 (d0 : Dev nD) : Fin 2 → Nat :=
  let c256_820 : Index := 256#32
  let c2_i32_13 : BitVec 32 := 2#32
  let c1_i32_12 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v23 : BitVec 32 := Scalar.subi c1_i32_12 v5
  let v24 : BitVec 32 := Scalar.muli c2_i32_13 v23
  let c1_i32_14 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v25 : BitVec 32 := Scalar.subi c1_i32_14 v9
  let v26 : BitVec 32 := Scalar.addi v24 v25
  let c256_i32_819 : BitVec 32 := 256#32
  let v928 : BitVec 32 := Scalar.muli v26 c256_i32_819
  let v929 : BitVec 32 := v928
  let v930 : Index := Scalar.indexCast v929
  ![256, v930.toNat]
def k0_mult40 (d0 : Dev nD) : BitVec 32 :=
  let c2_i32_13 : BitVec 32 := 2#32
  let c1_i32_12 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v23 : BitVec 32 := Scalar.subi c1_i32_12 v5
  let v24 : BitVec 32 := Scalar.muli c2_i32_13 v23
  let c1_i32_14 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v25 : BitVec 32 := Scalar.subi c1_i32_14 v9
  let v26 : BitVec 32 := Scalar.addi v24 v25
  let c256_i32_833 : BitVec 32 := 256#32
  let v943 : BitVec 32 := Scalar.muli v26 c256_i32_833
  v943
def k0_off168 (d0 : Dev nD) : Fin 2 → Nat :=
  let c384_834 : Index := 384#32
  let c2_i32_13 : BitVec 32 := 2#32
  let c1_i32_12 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v23 : BitVec 32 := Scalar.subi c1_i32_12 v5
  let v24 : BitVec 32 := Scalar.muli c2_i32_13 v23
  let c1_i32_14 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v25 : BitVec 32 := Scalar.subi c1_i32_14 v9
  let v26 : BitVec 32 := Scalar.addi v24 v25
  let c256_i32_833 : BitVec 32 := 256#32
  let v943 : BitVec 32 := Scalar.muli v26 c256_i32_833
  let v944 : BitVec 32 := v943
  let v945 : Index := Scalar.indexCast v944
  ![384, v945.toNat]
def k0_mult41 (d0 : Dev nD) : BitVec 32 :=
  let c2_i32_13 : BitVec 32 := 2#32
  let c1_i32_12 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v23 : BitVec 32 := Scalar.subi c1_i32_12 v5
  let v24 : BitVec 32 := Scalar.muli c2_i32_13 v23
  let c1_i32_14 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v25 : BitVec 32 := Scalar.subi c1_i32_14 v9
  let v26 : BitVec 32 := Scalar.addi v24 v25
  let c256_i32_847 : BitVec 32 := 256#32
  let v958 : BitVec 32 := Scalar.muli v26 c256_i32_847
  v958
def k0_off169 (d0 : Dev nD) : Fin 2 → Nat :=
  let c512_848 : Index := 512#32
  let c2_i32_13 : BitVec 32 := 2#32
  let c1_i32_12 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v23 : BitVec 32 := Scalar.subi c1_i32_12 v5
  let v24 : BitVec 32 := Scalar.muli c2_i32_13 v23
  let c1_i32_14 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v25 : BitVec 32 := Scalar.subi c1_i32_14 v9
  let v26 : BitVec 32 := Scalar.addi v24 v25
  let c256_i32_847 : BitVec 32 := 256#32
  let v958 : BitVec 32 := Scalar.muli v26 c256_i32_847
  let v959 : BitVec 32 := v958
  let v960 : Index := Scalar.indexCast v959
  ![512, v960.toNat]
def k0_mult42 (d0 : Dev nD) : BitVec 32 :=
  let c2_i32_13 : BitVec 32 := 2#32
  let c1_i32_12 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v23 : BitVec 32 := Scalar.subi c1_i32_12 v5
  let v24 : BitVec 32 := Scalar.muli c2_i32_13 v23
  let c1_i32_14 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v25 : BitVec 32 := Scalar.subi c1_i32_14 v9
  let v26 : BitVec 32 := Scalar.addi v24 v25
  let c256_i32_861 : BitVec 32 := 256#32
  let v973 : BitVec 32 := Scalar.muli v26 c256_i32_861
  v973
def k0_off170 (d0 : Dev nD) : Fin 2 → Nat :=
  let c640_862 : Index := 640#32
  let c2_i32_13 : BitVec 32 := 2#32
  let c1_i32_12 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v23 : BitVec 32 := Scalar.subi c1_i32_12 v5
  let v24 : BitVec 32 := Scalar.muli c2_i32_13 v23
  let c1_i32_14 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v25 : BitVec 32 := Scalar.subi c1_i32_14 v9
  let v26 : BitVec 32 := Scalar.addi v24 v25
  let c256_i32_861 : BitVec 32 := 256#32
  let v973 : BitVec 32 := Scalar.muli v26 c256_i32_861
  let v974 : BitVec 32 := v973
  let v975 : Index := Scalar.indexCast v974
  ![640, v975.toNat]
def k0_mult43 (d0 : Dev nD) : BitVec 32 :=
  let c2_i32_13 : BitVec 32 := 2#32
  let c1_i32_12 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v23 : BitVec 32 := Scalar.subi c1_i32_12 v5
  let v24 : BitVec 32 := Scalar.muli c2_i32_13 v23
  let c1_i32_14 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v25 : BitVec 32 := Scalar.subi c1_i32_14 v9
  let v26 : BitVec 32 := Scalar.addi v24 v25
  let c256_i32_875 : BitVec 32 := 256#32
  let v988 : BitVec 32 := Scalar.muli v26 c256_i32_875
  v988
def k0_off171 (d0 : Dev nD) : Fin 2 → Nat :=
  let c768_876 : Index := 768#32
  let c2_i32_13 : BitVec 32 := 2#32
  let c1_i32_12 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v23 : BitVec 32 := Scalar.subi c1_i32_12 v5
  let v24 : BitVec 32 := Scalar.muli c2_i32_13 v23
  let c1_i32_14 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v25 : BitVec 32 := Scalar.subi c1_i32_14 v9
  let v26 : BitVec 32 := Scalar.addi v24 v25
  let c256_i32_875 : BitVec 32 := 256#32
  let v988 : BitVec 32 := Scalar.muli v26 c256_i32_875
  let v989 : BitVec 32 := v988
  let v990 : Index := Scalar.indexCast v989
  ![768, v990.toNat]
def k0_mult44 (d0 : Dev nD) : BitVec 32 :=
  let c2_i32_13 : BitVec 32 := 2#32
  let c1_i32_12 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v23 : BitVec 32 := Scalar.subi c1_i32_12 v5
  let v24 : BitVec 32 := Scalar.muli c2_i32_13 v23
  let c1_i32_14 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v25 : BitVec 32 := Scalar.subi c1_i32_14 v9
  let v26 : BitVec 32 := Scalar.addi v24 v25
  let c256_i32_889 : BitVec 32 := 256#32
  let v1003 : BitVec 32 := Scalar.muli v26 c256_i32_889
  v1003
def k0_off172 (d0 : Dev nD) : Fin 2 → Nat :=
  let c896_890 : Index := 896#32
  let c2_i32_13 : BitVec 32 := 2#32
  let c1_i32_12 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v23 : BitVec 32 := Scalar.subi c1_i32_12 v5
  let v24 : BitVec 32 := Scalar.muli c2_i32_13 v23
  let c1_i32_14 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v25 : BitVec 32 := Scalar.subi c1_i32_14 v9
  let v26 : BitVec 32 := Scalar.addi v24 v25
  let c256_i32_889 : BitVec 32 := 256#32
  let v1003 : BitVec 32 := Scalar.muli v26 c256_i32_889
  let v1004 : BitVec 32 := v1003
  let v1005 : Index := Scalar.indexCast v1004
  ![896, v1005.toNat]
abbrev stage0_0 : Fin 1 → Memref sig .tc .smem S1024 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S1024 : Shape := ⟨1, ![1024]⟩
abbrev S16384x1024 : Shape := ⟨2, ![16384, 1024]⟩
abbrev S_ : Shape := ⟨0, ![]⟩
abbrev S1024x1 : Shape := ⟨2, ![1024, 1]⟩
abbrev S1024x1024 : Shape := ⟨2, ![1024, 1024]⟩

abbrev nBuf : Space → Nat
  | .hbm => 12
  | .vmem => 0
  | .smem => 0
  | _ => 0

abbrev bufTy : (tb : Table) → Fin (tcTables nBuf tb) → BufTy
  | .hbm, ⟨0, _⟩ => ⟨S1024, .i32⟩
  | .hbm, ⟨1, _⟩ => ⟨S16384x1024, .f32⟩
  | .hbm, ⟨2, _⟩ => ⟨S_, .i32⟩
  | .hbm, ⟨3, _⟩ => ⟨S1024, .i32⟩
  | .hbm, ⟨4, _⟩ => ⟨S1024, .i1⟩
  | .hbm, ⟨5, _⟩ => ⟨S_, .i32⟩
  | .hbm, ⟨6, _⟩ => ⟨S1024, .i32⟩
  | .hbm, ⟨7, _⟩ => ⟨S1024, .i32⟩
  | .hbm, ⟨8, _⟩ => ⟨S1024, .i32⟩
  | .hbm, ⟨9, _⟩ => ⟨S1024x1, .i32⟩
  | .hbm, ⟨10, _⟩ => ⟨S1024x1024, .f32⟩
  | .hbm, ⟨11, _⟩ => ⟨S1024x1024, .bf16⟩
  | _, _ => ⟨S1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Proof.Text.lean ====
/-
The kernel as a short program: its per-device function, which is printed as one sequence of some two hundred and
fifty memory operations, is shown equal to a program of a dozen loops over chunks.

A device works on one QUARTER of the columns, 256 of 1024, chosen by its place on `y` and `z`, and on all 1024 rows in
eight chunks of 128. Every transfer between devices moves one chunk; a LANE names one of the 32 transfers a device
starts: chunk `k` along `x` (its partial rows to the other half of the table), the summed chunk `k` along `y` and along
`z`, and the chunks it passes on: those received along `z` go on along `y` (`u`, the first four) and those received along
`y` go on along `z` (`v`, the last four).
-/
module

public import proofs.«01_k».proof.Proof.Gen.KernelIdeal
public import proofs.«01_k».proof.Proof.Gen.KernelIdeal.Skeleton

@[expose] public section

noncomputable section

namespace Cert.KernelIdealRun

open Cert.KernelIdeal Cert.KernelIdeal.Gen

open Idealize.ShloMosaic
open Idealize.ShloMosaic.TcCoe
open Idealize.SL Idealize.SL.Sem

variable {F : FTy → Type} [FloatOps F]

/-- A program of one device's core. -/
abbrev Code (F : FTy → Type) [FloatOps F] (α : Type) : Type 1 := Prog (TpuEff nD τ sig (Elt F) Λ₀ .tc) α

/-- One step for each member of a list, in order. -/
def each {K : Type} (l : List K) (f : K → Code F PUnit) : Code F PUnit :=
  match l with
  | [] => pure ⟨⟩
  | k :: l => do
    f k
    each l f

/-- The transfers a device starts. -/
inductive Lane where
  | x (k : Fin 8)
  | y (k : Fin 8)
  | z (k : Fin 8)
  | u (k : Fin 4)
  | v (k : Fin 4)
  deriving DecidableEq

/-- The four quarters of the columns, as a device sees them: its own, and those of the devices one step along `z`, one
    along `y`, and one along each. -/
inductive Quarter where
  | own
  | byZ
  | byY
  | across
  deriving DecidableEq

/-- The first half of the chunks, -/
def lo (k : Fin 4) : Fin 8 := ⟨k.val, by omega⟩

/-- and the second. -/
def hi (k : Fin 4) : Fin 8 := ⟨k.val + 4, by omega⟩

/-- All eight chunks, -/
def eight : List (Fin 8) := [0, 1, 2, 3, 4, 5, 6, 7]

/-- and the four of a half, or the four slabs of the table. -/
def four : List (Fin 4) := [0, 1, 2, 3]

/-- All lanes. -/
def lanes : List Lane := eight.map .x ++ eight.map .y ++ eight.map .z ++ four.map .u ++ four.map .v

/-- No lane is listed twice, -/
theorem lanes_nodup : lanes.Nodup := by decide

/-- every chunk is one of the eight, -/
theorem mem_eight (k : Fin 8) : k ∈ eight := by fin_cases k <;> decide

/-- every chunk of a half is one of the four, -/
theorem mem_four (k : Fin 4) : k ∈ four := by fin_cases k <;> decide

/-- and every lane is listed. -/
theorem mem_lanes (l : Lane) : l ∈ lanes := by
  simp only [lanes, List.mem_append, List.mem_map]
  cases l <;> simp [mem_eight, mem_four]

instance : Fintype Lane := ⟨⟨lanes, lanes_nodup⟩, mem_lanes⟩

instance : Fintype Quarter := ⟨⟨([.own, .byZ, .byY, .across] : List Quarter), by decide⟩, fun q => by cases q <;> decide⟩

/-! ## Buffers, chunks and semaphores -/

/-- The ids, the device's half of the table, the result, and the kernel's buffers: the staged quarter of the table, the
    device's partial rows, those received along `x`, the summed rows, what is received along `y` and along `z`, and what
    was passed on along `y` and along `z`. -/
abbrev ids : Memref sig .tc .smem S1024 .i32 := Memref.whole cc0_stg0_0
abbrev tab : Memref sig .tc .hbm S8192x1024 .f32 := Memref.whole main_arg1
abbrev res : Memref sig .tc .vmem S1024x1024 .bf16 := Memref.whole cc0_stg1_0
abbrev stg : Memref sig .tc .vmem S8192x256 .f32 := Memref.whole cc0_scratch0
abbrev part : Memref sig .tc .vmem S1024x256 .bf16 := Memref.whole cc0_scratch1
abbrev rx : Memref sig .tc .vmem S1024x256 .bf16 := Memref.whole cc0_scratch2
abbrev red : Memref sig .tc .vmem S1024x256 .bf16 := Memref.whole cc0_scratch3
abbrev ry : Memref sig .tc .vmem S1024x256 .bf16 := Memref.whole cc0_scratch4
abbrev rz : Memref sig .tc .vmem S1024x256 .bf16 := Memref.whole cc0_scratch5
abbrev ru : Memref sig .tc .vmem S512x256 .bf16 := Memref.whole cc0_scratch6
abbrev rv : Memref sig .tc .vmem S512x256 .bf16 := Memref.whole cc0_scratch7

/-- The rows of chunk `k` in a buffer of eight chunks, -/
abbrev ck8 (k : Fin 8) : Rect S1024x256 :=
  Rect.unit (s := S1024x256) ![128 * k.val, 0] S128x256.size (by fin_cases k <;> decide)

/-- and in one of four. -/
abbrev ck4 (k : Fin 4) : Rect S512x256 :=
  Rect.unit (s := S512x256) ![128 * k.val, 0] S128x256.size (by fin_cases k <;> decide)

/-- A chunk of eight begins and ends with whole words, -/
theorem ck8_words (k : Fin 8) : (ck8 k).WholeWords (EltTy.packing .bf16) := by
  fin_cases k
  · exact wordsbf16_S1024x256_S128x256_0_0
  · exact wordsbf16_S1024x256_S128x256_128_0
  · exact wordsbf16_S1024x256_S128x256_256_0
  · exact wordsbf16_S1024x256_S128x256_384_0
  · exact wordsbf16_S1024x256_S128x256_512_0
  · exact wordsbf16_S1024x256_S128x256_640_0
  · exact wordsbf16_S1024x256_S128x256_768_0
  · exact wordsbf16_S1024x256_S128x256_896_0

/-- holds whole packed rows, -/
theorem ck8_packed (k : Fin 8) : (ck8 k).PackedRows (EltTy.packing .bf16) := by
  fin_cases k
  · exact packedbf16_S1024x256_S128x256_0_0
  · exact packedbf16_S1024x256_S128x256_128_0
  · exact packedbf16_S1024x256_S128x256_256_0
  · exact packedbf16_S1024x256_S128x256_384_0
  · exact packedbf16_S1024x256_S128x256_512_0
  · exact packedbf16_S1024x256_S128x256_640_0
  · exact packedbf16_S1024x256_S128x256_768_0
  · exact packedbf16_S1024x256_S128x256_896_0

/-- and a chunk of four begins and ends with whole words. -/
theorem ck4_words (k : Fin 4) : (ck4 k).WholeWords (EltTy.packing .bf16) := by
  fin_cases k
  · exact wordsbf16_S512x256_S128x256_0_0
  · exact wordsbf16_S512x256_S128x256_128_0
  · exact wordsbf16_S512x256_S128x256_256_0
  · exact wordsbf16_S512x256_S128x256_384_0

/-- Chunk `k` of a buffer of eight, and of one of four. -/
abbrev at8 (b : Memref sig .tc .vmem S1024x256 .bf16) (k : Fin 8) : Memref sig .tc .vmem S128x256 .bf16 :=
  b.slice (ck8 k) (fun _ => rfl)
abbrev at4 (b : Memref sig .tc .vmem S512x256 .bf16) (k : Fin 4) : Memref sig .tc .vmem S128x256 .bf16 :=
  b.slice (ck4 k) (fun _ => rfl)

/-- Semaphore `k` of an array of eight, and of one of four. -/
def sem8 (A : DmaSems sig S8) (k : Fin 8) : DmaSem sig :=
  ((A.slice (Rect.unit (s := S8) ![k.val] S1.size (by fin_cases k <;> decide))).squeeze S_ squeezes_S1_S_).sem
def sem4 (A : DmaSems sig S4) (k : Fin 4) : DmaSem sig :=
  ((A.slice (Rect.unit (s := S4) ![k.val] S1.size (by fin_cases k <;> decide))).squeeze S_ squeezes_S1_S_).sem

/-- What a lane's transfer reads, -/
def src : Lane → Memref sig .tc .vmem S128x256 .bf16
  | .x k => at8 part k
  | .y k => at8 red k
  | .z k => at8 red k
  | .u k => at8 rz (lo k)
  | .v k => at8 ry (hi k)

/-- what it writes on the device it names, -/
def dst : Lane → Memref sig .tc .vmem S128x256 .bf16
  | .x k => at8 rx k
  | .y k => at8 ry k
  | .z k => at8 rz k
  | .u k => at4 ru k
  | .v k => at4 rv k

/-- the semaphore of its departure, -/
def sendSem : Lane → DmaSem sig
  | .x k => sem8 cc0_scratch9 k
  | .y k => sem8 cc0_scratch11 k
  | .z k => sem8 cc0_scratch13 k
  | .u k => sem4 cc0_scratch15 k
  | .v k => sem4 cc0_scratch17 k

/-- and that of its arrival. -/
def recvSem : Lane → DmaSem sig
  | .x k => sem8 cc0_scratch10 k
  | .y k => sem8 cc0_scratch12 k
  | .z k => sem8 cc0_scratch14 k
  | .u k => sem4 cc0_scratch16 k
  | .v k => sem4 cc0_scratch18 k

/-- A lane's source is made of whole words, -/
theorem src_words (l : Lane) : (src l).view.WordExact := by
  cases l <;> exact (Memref.isWhole_whole _).wordExact_slice rfl _ (ck8_words _)

/-- so is its landing chunk, -/
theorem dst_words (l : Lane) : (dst l).view.WordExact := by
  cases l
  case u k => exact (Memref.isWhole_whole _).wordExact_slice rfl _ (ck4_words _)
  case v k => exact (Memref.isWhole_whole _).wordExact_slice rfl _ (ck4_words _)
  all_goals exact (Memref.isWhole_whole _).wordExact_slice rfl _ (ck8_words _)

/-- and this is in a core's own memory. -/
theorem dst_shared (l : Lane) : (dst l).view.ref.isScScratch = false := by cases l <;> rfl

/-! ## Places the kernel computes -/

/-- A box of sizes `z` in a shape `s`. -/
@[ext] structure Spot (s : Shape) (z : Fin s.rank → ℕ) where
  off : Fin s.rank → ℕ
  inb : ∀ a, off a + z a ≤ s.size a

/-- The box as a rectangle. -/
abbrev Spot.rect {s : Shape} {z : Fin s.rank → ℕ} (o : Spot s z) : Rect s := Rect.unit (s := s) o.off z o.inb

/-- A box of narrow numbers that fills whole rows of words, as a store needs. -/
@[ext] structure RowSpot (s : Shape) (z : Fin s.rank → ℕ) extends Spot s z where
  packed : (Rect.unit (s := s) off z inb).PackedRows (EltTy.packing .bf16)

/-- Where a block of the result goes. -/
abbrev OutSpot := RowSpot S1024x1024 S128x256.size

/-- One row looked up: where its id is, what is checked of the id, and where the id's row is in the staged quarter. -/
structure RowPlace where
  id : Spot S1024 S1.size
  ok : BitVec 32 → Prop
  dec : ∀ w, Decidable (ok w)
  off : BitVec 32 → Fin 2 → ℕ
  inb : ∀ w, ok w → ∀ a, off w a + S1x256.size a ≤ S8192x256.size a

/-- Two such places with the same id, the same check and the same row are one. -/
theorem RowPlace.eq_of {p q : RowPlace} (h : p.id = q.id) (hk : p.ok = q.ok) (ho : p.off = q.off) : p = q := by
  obtain ⟨i, k, d, o, n⟩ := p
  obtain ⟨i', k', d', o', n'⟩ := q
  obtain rfl : i = i' := h
  obtain rfl : k = k' := hk
  obtain rfl : o = o' := ho
  obtain rfl : d = d' := funext fun w => Subsingleton.elim _ _
  rfl

/-- One trip of the loop that looks rows up: its eight rows, and where they go. -/
@[ext] structure TripSpots where
  row : Fin 8 → RowPlace
  store : RowSpot S1024x256 S8x256.size

/-- What a kernel's run is computed at. -/
structure Places where
  trip : Fin 8 → Dev nD → Fin k0_t1_loop.trips → TripSpots
  dev : Lane → Dev nD → Dev nD
  barX : Dev nD → Dev nD
  barY : Dev nD → Dev nD
  barZ : Dev nD → Dev nD
  slab : Fin 4 → Dev nD → Spot S8192x1024 S2048x256.size
  out : Quarter → Fin 8 → Dev nD → OutSpot

/-- The places of loop `k`'s trip `t`, as the kernel computes them. -/
def tripT : Fin 8 → Dev nD → Fin k0_t1_loop.trips → TripSpots
  | 0, c, t => ⟨![⟨⟨k0_off5 t, k0_off5_inb t⟩, k0_chk1 c, k0_chk1.dec c, k0_off6 c, k0_off6_inb c⟩,
      ⟨⟨k0_off7 t, k0_off7_inb t⟩, k0_chk2 c, k0_chk2.dec c, k0_off8 c, k0_off8_inb c⟩,
      ⟨⟨k0_off9 t, k0_off9_inb t⟩, k0_chk3 c, k0_chk3.dec c, k0_off10 c, k0_off10_inb c⟩,
      ⟨⟨k0_off11 t, k0_off11_inb t⟩, k0_chk4 c, k0_chk4.dec c, k0_off12 c, k0_off12_inb c⟩,
      ⟨⟨k0_off13 t, k0_off13_inb t⟩, k0_chk5 c, k0_chk5.dec c, k0_off14 c, k0_off14_inb c⟩,
      ⟨⟨k0_off15 t, k0_off15_inb t⟩, k0_chk6 c, k0_chk6.dec c, k0_off16 c, k0_off16_inb c⟩,
      ⟨⟨k0_off17 t, k0_off17_inb t⟩, k0_chk7 c, k0_chk7.dec c, k0_off18 c, k0_off18_inb c⟩,
      ⟨⟨k0_off19 t, k0_off19_inb t⟩, k0_chk8 c, k0_chk8.dec c, k0_off20 c, k0_off20_inb c⟩],
      ⟨⟨k0_off21 t, k0_off21_inb t⟩, k0_off21_packedbf16 t⟩⟩
  | 1, c, t => ⟨![⟨⟨k0_off22 t, k0_off22_inb t⟩, k0_chk9 c, k0_chk9.dec c, k0_off23 c, k0_off23_inb c⟩,
      ⟨⟨k0_off24 t, k0_off24_inb t⟩, k0_chk10 c, k0_chk10.dec c, k0_off25 c, k0_off25_inb c⟩,
      ⟨⟨k0_off26 t, k0_off26_inb t⟩, k0_chk11 c, k0_chk11.dec c, k0_off27 c, k0_off27_inb c⟩,
      ⟨⟨k0_off28 t, k0_off28_inb t⟩, k0_chk12 c, k0_chk12.dec c, k0_off29 c, k0_off29_inb c⟩,
      ⟨⟨k0_off30 t, k0_off30_inb t⟩, k0_chk13 c, k0_chk13.dec c, k0_off31 c, k0_off31_inb c⟩,
      ⟨⟨k0_off32 t, k0_off32_inb t⟩, k0_chk14 c, k0_chk14.dec c, k0_off33 c, k0_off33_inb c⟩,
      ⟨⟨k0_off34 t, k0_off34_inb t⟩, k0_chk15 c, k0_chk15.dec c, k0_off35 c, k0_off35_inb c⟩,
      ⟨⟨k0_off36 t, k0_off36_inb t⟩, k0_chk16 c, k0_chk16.dec c, k0_off37 c, k0_off37_inb c⟩],
      ⟨⟨k0_off38 t, k0_off38_inb t⟩, k0_off38_packedbf16 t⟩⟩
  | 2, c, t => ⟨![⟨⟨k0_off39 t, k0_off39_inb t⟩, k0_chk17 c, k0_chk17.dec c, k0_off40 c, k0_off40_inb c⟩,
      ⟨⟨k0_off41 t, k0_off41_inb t⟩, k0_chk18 c, k0_chk18.dec c, k0_off42 c, k0_off42_inb c⟩,
      ⟨⟨k0_off43 t, k0_off43_inb t⟩, k0_chk19 c, k0_chk19.dec c, k0_off44 c, k0_off44_inb c⟩,
      ⟨⟨k0_off45 t, k0_off45_inb t⟩, k0_chk20 c, k0_chk20.dec c, k0_off46 c, k0_off46_inb c⟩,
      ⟨⟨k0_off47 t, k0_off47_inb t⟩, k0_chk21 c, k0_chk21.dec c, k0_off48 c, k0_off48_inb c⟩,
      ⟨⟨k0_off49 t, k0_off49_inb t⟩, k0_chk22 c, k0_chk22.dec c, k0_off50 c, k0_off50_inb c⟩,
      ⟨⟨k0_off51 t, k0_off51_inb t⟩, k0_chk23 c, k0_chk23.dec c, k0_off52 c, k0_off52_inb c⟩,
      ⟨⟨k0_off53 t, k0_off53_inb t⟩, k0_chk24 c, k0_chk24.dec c, k0_off54 c, k0_off54_inb c⟩],
      ⟨⟨k0_off55 t, k0_off55_inb t⟩, k0_off55_packedbf16 t⟩⟩
  | 3, c, t => ⟨![⟨⟨k0_off56 t, k0_off56_inb t⟩, k0_chk25 c, k0_chk25.dec c, k0_off57 c, k0_off57_inb c⟩,
      ⟨⟨k0_off58 t, k0_off58_inb t⟩, k0_chk26 c, k0_chk26.dec c, k0_off59 c, k0_off59_inb c⟩,
      ⟨⟨k0_off60 t, k0_off60_inb t⟩, k0_chk27 c, k0_chk27.dec c, k0_off61 c, k0_off61_inb c⟩,
      ⟨⟨k0_off62 t, k0_off62_inb t⟩, k0_chk28 c, k0_chk28.dec c, k0_off63 c, k0_off63_inb c⟩,
      ⟨⟨k0_off64 t, k0_off64_inb t⟩, k0_chk29 c, k0_chk29.dec c, k0_off65 c, k0_off65_inb c⟩,
      ⟨⟨k0_off66 t, k0_off66_inb t⟩, k0_chk30 c, k0_chk30.dec c, k0_off67 c, k0_off67_inb c⟩,
      ⟨⟨k0_off68 t, k0_off68_inb t⟩, k0_chk31 c, k0_chk31.dec c, k0_off69 c, k0_off69_inb c⟩,
      ⟨⟨k0_off70 t, k0_off70_inb t⟩, k0_chk32 c, k0_chk32.dec c, k0_off71 c, k0_off71_inb c⟩],
      ⟨⟨k0_off72 t, k0_off72_inb t⟩, k0_off72_packedbf16 t⟩⟩
  | 4, c, t => ⟨![⟨⟨k0_off73 t, k0_off73_inb t⟩, k0_chk33 c, k0_chk33.dec c, k0_off74 c, k0_off74_inb c⟩,
      ⟨⟨k0_off75 t, k0_off75_inb t⟩, k0_chk34 c, k0_chk34.dec c, k0_off76 c, k0_off76_inb c⟩,
      ⟨⟨k0_off77 t, k0_off77_inb t⟩, k0_chk35 c, k0_chk35.dec c, k0_off78 c, k0_off78_inb c⟩,
      ⟨⟨k0_off79 t, k0_off79_inb t⟩, k0_chk36 c, k0_chk36.dec c, k0_off80 c, k0_off80_inb c⟩,
      ⟨⟨k0_off81 t, k0_off81_inb t⟩, k0_chk37 c, k0_chk37.dec c, k0_off82 c, k0_off82_inb c⟩,
      ⟨⟨k0_off83 t, k0_off83_inb t⟩, k0_chk38 c, k0_chk38.dec c, k0_off84 c, k0_off84_inb c⟩,
      ⟨⟨k0_off85 t, k0_off85_inb t⟩, k0_chk39 c, k0_chk39.dec c, k0_off86 c, k0_off86_inb c⟩,
      ⟨⟨k0_off87 t, k0_off87_inb t⟩, k0_chk40 c, k0_chk40.dec c, k0_off88 c, k0_off88_inb c⟩],
      ⟨⟨k0_off89 t, k0_off89_inb t⟩, k0_off89_packedbf16 t⟩⟩
  | 5, c, t => ⟨![⟨⟨k0_off90 t, k0_off90_inb t⟩, k0_chk41 c, k0_chk41.dec c, k0_off91 c, k0_off91_inb c⟩,
      ⟨⟨k0_off92 t, k0_off92_inb t⟩, k0_chk42 c, k0_chk42.dec c, k0_off93 c, k0_off93_inb c⟩,
      ⟨⟨k0_off94 t, k0_off94_inb t⟩, k0_chk43 c, k0_chk43.dec c, k0_off95 c, k0_off95_inb c⟩,
      ⟨⟨k0_off96 t, k0_off96_inb t⟩, k0_chk44 c, k0_chk44.dec c, k0_off97 c, k0_off97_inb c⟩,
      ⟨⟨k0_off98 t, k0_off98_inb t⟩, k0_chk45 c, k0_chk45.dec c, k0_off99 c, k0_off99_inb c⟩,
      ⟨⟨k0_off100 t, k0_off100_inb t⟩, k0_chk46 c, k0_chk46.dec c, k0_off101 c, k0_off101_inb c⟩,
      ⟨⟨k0_off102 t, k0_off102_inb t⟩, k0_chk47 c, k0_chk47.dec c, k0_off103 c, k0_off103_inb c⟩,
      ⟨⟨k0_off104 t, k0_off104_inb t⟩, k0_chk48 c, k0_chk48.dec c, k0_off105 c, k0_off105_inb c⟩],
      ⟨⟨k0_off106 t, k0_off106_inb t⟩, k0_off106_packedbf16 t⟩⟩
  | 6, c, t => ⟨![⟨⟨k0_off107 t, k0_off107_inb t⟩, k0_chk49 c, k0_chk49.dec c, k0_off108 c, k0_off108_inb c⟩,
      ⟨⟨k0_off109 t, k0_off109_inb t⟩, k0_chk50 c, k0_chk50.dec c, k0_off110 c, k0_off110_inb c⟩,
      ⟨⟨k0_off111 t, k0_off111_inb t⟩, k0_chk51 c, k0_chk51.dec c, k0_off112 c, k0_off112_inb c⟩,
      ⟨⟨k0_off113 t, k0_off113_inb t⟩, k0_chk52 c, k0_chk52.dec c, k0_off114 c, k0_off114_inb c⟩,
      ⟨⟨k0_off115 t, k0_off115_inb t⟩, k0_chk53 c, k0_chk53.dec c, k0_off116 c, k0_off116_inb c⟩,
      ⟨⟨k0_off117 t, k0_off117_inb t⟩, k0_chk54 c, k0_chk54.dec c, k0_off118 c, k0_off118_inb c⟩,
      ⟨⟨k0_off119 t, k0_off119_inb t⟩, k0_chk55 c, k0_chk55.dec c, k0_off120 c, k0_off120_inb c⟩,
      ⟨⟨k0_off121 t, k0_off121_inb t⟩, k0_chk56 c, k0_chk56.dec c, k0_off122 c, k0_off122_inb c⟩],
      ⟨⟨k0_off123 t, k0_off123_inb t⟩, k0_off123_packedbf16 t⟩⟩
  | 7, c, t => ⟨![⟨⟨k0_off124 t, k0_off124_inb t⟩, k0_chk57 c, k0_chk57.dec c, k0_off125 c, k0_off125_inb c⟩,
      ⟨⟨k0_off126 t, k0_off126_inb t⟩, k0_chk58 c, k0_chk58.dec c, k0_off127 c, k0_off127_inb c⟩,
      ⟨⟨k0_off128 t, k0_off128_inb t⟩, k0_chk59 c, k0_chk59.dec c, k0_off129 c, k0_off129_inb c⟩,
      ⟨⟨k0_off130 t, k0_off130_inb t⟩, k0_chk60 c, k0_chk60.dec c, k0_off131 c, k0_off131_inb c⟩,
      ⟨⟨k0_off132 t, k0_off132_inb t⟩, k0_chk61 c, k0_chk61.dec c, k0_off133 c, k0_off133_inb c⟩,
      ⟨⟨k0_off134 t, k0_off134_inb t⟩, k0_chk62 c, k0_chk62.dec c, k0_off135 c, k0_off135_inb c⟩,
      ⟨⟨k0_off136 t, k0_off136_inb t⟩, k0_chk63 c, k0_chk63.dec c, k0_off137 c, k0_off137_inb c⟩,
      ⟨⟨k0_off138 t, k0_off138_inb t⟩, k0_chk64 c, k0_chk64.dec c, k0_off139 c, k0_off139_inb c⟩],
      ⟨⟨k0_off140 t, k0_off140_inb t⟩, k0_off140_packedbf16 t⟩⟩

/-- The device each lane's transfer names, as the kernel computes it. -/
def devT : Lane → Dev nD → Dev nD
  | .x 0, c => ⟨k0_dev4 c, k0_dev4_lt c⟩
  | .x 1, c => ⟨k0_dev5 c, k0_dev5_lt c⟩
  | .x 2, c => ⟨k0_dev6 c, k0_dev6_lt c⟩
  | .x 3, c => ⟨k0_dev7 c, k0_dev7_lt c⟩
  | .x 4, c => ⟨k0_dev8 c, k0_dev8_lt c⟩
  | .x 5, c => ⟨k0_dev9 c, k0_dev9_lt c⟩
  | .x 6, c => ⟨k0_dev10 c, k0_dev10_lt c⟩
  | .x 7, c => ⟨k0_dev11 c, k0_dev11_lt c⟩
  | .y 0, c => ⟨k0_dev12 c, k0_dev12_lt c⟩
  | .y 1, c => ⟨k0_dev14 c, k0_dev14_lt c⟩
  | .y 2, c => ⟨k0_dev16 c, k0_dev16_lt c⟩
  | .y 3, c => ⟨k0_dev18 c, k0_dev18_lt c⟩
  | .y 4, c => ⟨k0_dev20 c, k0_dev20_lt c⟩
  | .y 5, c => ⟨k0_dev22 c, k0_dev22_lt c⟩
  | .y 6, c => ⟨k0_dev24 c, k0_dev24_lt c⟩
  | .y 7, c => ⟨k0_dev26 c, k0_dev26_lt c⟩
  | .z 0, c => ⟨k0_dev13 c, k0_dev13_lt c⟩
  | .z 1, c => ⟨k0_dev15 c, k0_dev15_lt c⟩
  | .z 2, c => ⟨k0_dev17 c, k0_dev17_lt c⟩
  | .z 3, c => ⟨k0_dev19 c, k0_dev19_lt c⟩
  | .z 4, c => ⟨k0_dev21 c, k0_dev21_lt c⟩
  | .z 5, c => ⟨k0_dev23 c, k0_dev23_lt c⟩
  | .z 6, c => ⟨k0_dev25 c, k0_dev25_lt c⟩
  | .z 7, c => ⟨k0_dev27 c, k0_dev27_lt c⟩
  | .u 0, c => ⟨k0_dev28 c, k0_dev28_lt c⟩
  | .u 1, c => ⟨k0_dev29 c, k0_dev29_lt c⟩
  | .u 2, c => ⟨k0_dev30 c, k0_dev30_lt c⟩
  | .u 3, c => ⟨k0_dev31 c, k0_dev31_lt c⟩
  | .v 0, c => ⟨k0_dev32 c, k0_dev32_lt c⟩
  | .v 1, c => ⟨k0_dev33 c, k0_dev33_lt c⟩
  | .v 2, c => ⟨k0_dev34 c, k0_dev34_lt c⟩
  | .v 3, c => ⟨k0_dev35 c, k0_dev35_lt c⟩

/-- Where quarter `q` of chunk `k` goes in the result, as the kernel computes it: the quarters in the order
    own, along z, along y, across. -/
def outT : Quarter → Fin 8 → Dev nD → OutSpot
  | .own, 0, c => ⟨⟨k0_off141 c, k0_off141_inb c⟩, k0_off141_packedbf16 c⟩
  | .own, 1, c => ⟨⟨k0_off142 c, k0_off142_inb c⟩, k0_off142_packedbf16 c⟩
  | .own, 2, c => ⟨⟨k0_off143 c, k0_off143_inb c⟩, k0_off143_packedbf16 c⟩
  | .own, 3, c => ⟨⟨k0_off144 c, k0_off144_inb c⟩, k0_off144_packedbf16 c⟩
  | .own, 4, c => ⟨⟨k0_off145 c, k0_off145_inb c⟩, k0_off145_packedbf16 c⟩
  | .own, 5, c => ⟨⟨k0_off146 c, k0_off146_inb c⟩, k0_off146_packedbf16 c⟩
  | .own, 6, c => ⟨⟨k0_off147 c, k0_off147_inb c⟩, k0_off147_packedbf16 c⟩
  | .own, 7, c => ⟨⟨k0_off148 c, k0_off148_inb c⟩, k0_off148_packedbf16 c⟩
  | .byZ, 0, c => ⟨⟨k0_off149 c, k0_off149_inb c⟩, k0_off149_packedbf16 c⟩
  | .byZ, 1, c => ⟨⟨k0_off150 c, k0_off150_inb c⟩, k0_off150_packedbf16 c⟩
  | .byZ, 2, c => ⟨⟨k0_off151 c, k0_off151_inb c⟩, k0_off151_packedbf16 c⟩
  | .byZ, 3, c => ⟨⟨k0_off152 c, k0_off152_inb c⟩, k0_off152_packedbf16 c⟩
  | .byZ, 4, c => ⟨⟨k0_off157 c, k0_off157_inb c⟩, k0_off157_packedbf16 c⟩
  | .byZ, 5, c => ⟨⟨k0_off158 c, k0_off158_inb c⟩, k0_off158_packedbf16 c⟩
  | .byZ, 6, c => ⟨⟨k0_off159 c, k0_off159_inb c⟩, k0_off159_packedbf16 c⟩
  | .byZ, 7, c => ⟨⟨k0_off160 c, k0_off160_inb c⟩, k0_off160_packedbf16 c⟩
  | .byY, 0, c => ⟨⟨k0_off161 c, k0_off161_inb c⟩, k0_off161_packedbf16 c⟩
  | .byY, 1, c => ⟨⟨k0_off162 c, k0_off162_inb c⟩, k0_off162_packedbf16 c⟩
  | .byY, 2, c => ⟨⟨k0_off163 c, k0_off163_inb c⟩, k0_off163_packedbf16 c⟩
  | .byY, 3, c => ⟨⟨k0_off164 c, k0_off164_inb c⟩, k0_off164_packedbf16 c⟩
  | .byY, 4, c => ⟨⟨k0_off153 c, k0_off153_inb c⟩, k0_off153_packedbf16 c⟩
  | .byY, 5, c => ⟨⟨k0_off154 c, k0_off154_inb c⟩, k0_off154_packedbf16 c⟩
  | .byY, 6, c => ⟨⟨k0_off155 c, k0_off155_inb c⟩, k0_off155_packedbf16 c⟩
  | .byY, 7, c => ⟨⟨k0_off156 c, k0_off156_inb c⟩, k0_off156_packedbf16 c⟩
  | .across, 0, c => ⟨⟨k0_off165 c, k0_off165_inb c⟩, k0_off165_packedbf16 c⟩
  | .across, 1, c => ⟨⟨k0_off166 c, k0_off166_inb c⟩, k0_off166_packedbf16 c⟩
  | .across, 2, c => ⟨⟨k0_off167 c, k0_off167_inb c⟩, k0_off167_packedbf16 c⟩
  | .across, 3, c => ⟨⟨k0_off168 c, k0_off168_inb c⟩, k0_off168_packedbf16 c⟩
  | .across, 4, c => ⟨⟨k0_off169 c, k0_off169_inb c⟩, k0_off169_packedbf16 c⟩
  | .across, 5, c => ⟨⟨k0_off170 c, k0_off170_inb c⟩, k0_off170_packedbf16 c⟩
  | .across, 6, c => ⟨⟨k0_off171 c, k0_off171_inb c⟩, k0_off171_packedbf16 c⟩
  | .across, 7, c => ⟨⟨k0_off172 c, k0_off172_inb c⟩, k0_off172_packedbf16 c⟩

/-- Where each slab of the device's quarter of the table is, as the kernel computes it. -/
def slabT : Fin 4 → Dev nD → Spot S8192x1024 S2048x256.size
  | 0, c => ⟨k0_off1 c, k0_off1_inb c⟩
  | 1, c => ⟨k0_off2 c, k0_off2_inb c⟩
  | 2, c => ⟨k0_off3 c, k0_off3_inb c⟩
  | 3, c => ⟨k0_off4 c, k0_off4_inb c⟩

/-- The places the kernel computes. -/
def printedPlaces : Places where
  trip := tripT
  dev := devT
  barX := fun c => ⟨k0_dev1 c, k0_dev1_lt c⟩
  barY := fun c => ⟨k0_dev2 c, k0_dev2_lt c⟩
  barZ := fun c => ⟨k0_dev3 c, k0_dev3_lt c⟩
  slab := slabT
  out := outT

/-! ## The steps -/

/-- The first row of the device's half of the table. -/
def base (c : Dev nD) : BitVec 32 := Scalar.muli (Scalar.remsi (Scalar.divsi (Dev.word c) 8#32) 2#32) 8192#32

/-- One when the id `w` names a row of the half that starts at row `b`, and zero otherwise. -/
def inHalf (b : BitVec 32) (w : Elt F .i32) : F .f32 :=
  Scalar.select (Scalar.andi (Scalar.cmpi .sge (Scalar.subi w b) 0#32) (Scalar.cmpi .slt (Scalar.subi w b) 8192#32))
    (Scalar.ofBits .f32 0x3F800000#32 : F .f32) (Scalar.ofBits .f32 0x00000000#32 : F .f32)

/-- A row of the table, kept or cleared, in the result's format. -/
def keepRow (b : BitVec 32) (w : Elt F .i32) (r : Vec F S1x256 .f32) : FVec F S1x256 .bf16 :=
  truncf .bf16 (mulf r (broadcast S1x256 (inHalf b w))) bitsLt_bf16_f32

/-- Eight rows as one block. -/
def stack (r0 r1 r2 r3 r4 r5 r6 r7 : FVec F S1x256 .bf16) : FVec F S8x256 .bf16 :=
  shapeCast S8x256 (concatenate S8x256 0 [⟨S1x256, r0⟩, ⟨S1x256, r1⟩, ⟨S1x256, r2⟩, ⟨S1x256, r3⟩, ⟨S1x256, r4⟩, ⟨S1x256, r5⟩,
    ⟨S1x256, r6⟩, ⟨S1x256, r7⟩]
    concatenates_S1x256_S1x256_S1x256_S1x256_S1x256_S1x256_S1x256_S1x256_S8x256_d0) shapeCasts_S8x256_S8x256

/-- The sum of two chunks. -/
def addChunks (a b : Vec F S128x256 .bf16) : FVec F S128x256 .bf16 :=
  shapeCast S128x256 (addf a b) shapeCasts_S128x256_S128x256

section Steps

variable (p : Places) (c : Dev nD)

/-- Slab `s` of the quarter of the table on its way to the staged copy, -/
def slabSrc (s : Fin 4) : Memref sig .tc .hbm S2048x256 .f32 := tab.slice (p.slab s c).rect (fun _ => rfl)
/-- and where it goes. -/
def slabDst (s : Fin 4) : Memref sig .tc .vmem S2048x256 .f32 :=
  stg.slice (Rect.unit (s := S8192x256) ![2048 * s.val, 0] S2048x256.size (by fin_cases s <;> decide)) (fun _ => rfl)

/-- started, -/
def startSlab (s : Fin 4) : Code F PUnit :=
  Prog.lift (.enqueueDma (slabSrc p c s) (.here (slabDst s)) (.dma (sem4 cc0_scratch8 s)) (View.wordExact_bits rfl)
    (View.wordExact_bits rfl) ⟨Or.inl rfl, trivial⟩)

/-- and awaited. -/
def awaitSlab (s : Fin 4) : Code F PUnit :=
  Prog.lift (.waitDma2 (sem4 cc0_scratch8 s) (slabSrc p c s) (slabDst s) (View.wordExact_bits rfl) (View.wordExact_bits rfl))

/-- The runtime's barrier semaphore. -/
def bar : Sem sig := (SemArray.scalar (sig.barrier 0 rfl) : Sems sig S_).sem

/-- The handshake with the three neighbours. -/
def greet : Code F PUnit := do
  semSignalWord (p.barX c) bar 1#32
  semSignalWord (p.barY c) bar 1#32
  semSignalWord (p.barZ c) bar 1#32
  semWaitWord bar 3#32

/-- One id read, and its row of the staged quarter. -/
def lookup (o : RowPlace) : Code F (FVec F S1x256 .bf16) := do
  let w : Elt F .i32 ← smemLoad ids o.id.rect numel1_S1 rfl
  have h : o.ok w := (← Prog.lift (TpuEff.assume (o.ok w) (o.dec w))).down
  let r : Vec F S1x256 .f32 ← Prog.lift (.load stg
    (Rect.unit (s := S8192x256) (o.off w) S1x256.size (o.inb w h)).toLoadRect (View.loadsAt_vmem h_S1x256))
  pure (keepRow (base c) w r)

/-- Eight ids looked up and their rows stored. -/
def trip (o : TripSpots) : Code F PUnit := do
  let r0 ← lookup c (o.row 0)
  let r1 ← lookup c (o.row 1)
  let r2 ← lookup c (o.row 2)
  let r3 ← lookup c (o.row 3)
  let r4 ← lookup c (o.row 4)
  let r5 ← lookup c (o.row 5)
  let r6 ← lookup c (o.row 6)
  let r7 ← lookup c (o.row 7)
  let _ : Vec F S8x256 .bf16 ← Prog.lift (.load part o.store.rect.toLoadRect (View.loadsAt_vmem h_S8x256))
  Prog.lift (.store part o.store.rect (stack r0 r1 r2 r3 r4 r5 r6 r7) Finset.univ
    (View.stores_vmem h_S8x256 ((Memref.isWhole_whole cc0_scratch1).storeExact_slice rfl _ o.store.packed) (fun _ => rfl))
    (.inl rfl))

/-- The sixteen trips of a chunk. -/
def gather (k : Fin 8) : Code F PUnit :=
  Scf.Loop.for k0_t1_loop k0_t1_ok ⟨⟩ fun t _ => trip c (p.trip k c t)

/-- A lane's transfer started, -/
def send (l : Lane) : Code F PUnit :=
  Prog.lift (.enqueueDma (src l) (.remote (Dev.tc (p.dev l c)) (dst l) (.dma (sendSem l)) (dst_shared l)) (.dma (recvSem l))
    (src_words l) (dst_words l) ⟨⟨rfl, Or.inl rfl⟩, trivial⟩)

/-- its arrival from the other device awaited, -/
def arrive (l : Lane) : Code F PUnit := Prog.lift (.waitDma2 (recvSem l) (src l) (dst l) (src_words l) (dst_words l))

/-- and its departure awaited. -/
def drain (l : Lane) : Code F PUnit := Prog.lift (.waitDma2 (sendSem l) (dst l) (src l) (dst_words l) (src_words l))

/-- A chunk read, out of a buffer of eight -/
def load8 (b : Memref sig .tc .vmem S1024x256 .bf16) (k : Fin 8) : Code F (Vec F S128x256 .bf16) :=
  Prog.lift (.load b (ck8 k).toLoadRect (View.loadsAt_vmem h_S128x256))

/-- and out of one of four. -/
def load4 (b : Memref sig .tc .vmem S512x256 .bf16) (k : Fin 4) : Code F (Vec F S128x256 .bf16) :=
  Prog.lift (.load b (ck4 k).toLoadRect (View.loadsAt_vmem h_S128x256))

/-- A block stored in the result. -/
def place (o : OutSpot) (w : Vec F S128x256 .bf16) : Code F PUnit := do
  let _ : Vec F S128x256 .bf16 ← Prog.lift (.load res o.rect.toLoadRect (View.loadsAt_vmem h_S128x256))
  Prog.lift (.store res o.rect w Finset.univ
    (View.stores_vmem h_S128x256 ((Memref.isWhole_whole cc0_stg1_0).storeExact_slice rfl _ o.packed) (fun _ => rfl)) (.inl rfl))

/-- A chunk gathered and sent along `x`. -/
def gatherSend (k : Fin 8) : Code F PUnit := do
  gather p c k
  send p c (.x k)

/-- The two halves' rows added, -/
def addUp (k : Fin 8) : Code F PUnit := do
  arrive (.x k)
  let a ← load8 part k
  let b ← load8 rx k
  let _ ← load8 red k
  Prog.lift (.store red (ck8 k) (addChunks a b) Finset.univ
    (View.stores_vmem h_S128x256 ((Memref.isWhole_whole cc0_scratch3).storeExact_slice rfl _ (ck8_packed k)) (fun _ => rfl))
    (.inl rfl))

/-- a chunk reduced: sent on along `y` and `z`, and put in the result. -/
def reduce (k : Fin 8) : Code F PUnit := do
  addUp k
  send p c (.y k)
  send p c (.z k)
  let w ← load8 red k
  place (p.out .own k c) w

/-- A chunk received along `z` put in the result and passed on along `y`, -/
def passU (k : Fin 4) : Code F PUnit := do
  arrive (.z (lo k))
  let w ← load8 rz (lo k)
  place (p.out .byZ (lo k) c) w
  send p c (.u k)

/-- one received along `y` put in the result and passed on along `z`, -/
def passV (k : Fin 4) : Code F PUnit := do
  arrive (.y (hi k))
  let w ← load8 ry (hi k)
  place (p.out .byY (hi k) c) w
  send p c (.v k)

/-- and the others put in the result. -/
def takeZ (k : Fin 4) : Code F PUnit := do
  arrive (.z (hi k))
  let w ← load8 rz (hi k)
  place (p.out .byZ (hi k) c) w
def takeY (k : Fin 4) : Code F PUnit := do
  arrive (.y (lo k))
  let w ← load8 ry (lo k)
  place (p.out .byY (lo k) c) w
def takeU (k : Fin 4) : Code F PUnit := do
  arrive (.u k)
  let w ← load4 ru k
  place (p.out .across (lo k) c) w
def takeV (k : Fin 4) : Code F PUnit := do
  arrive (.v k)
  let w ← load4 rv k
  place (p.out .across (hi k) c) w

/-- The whole run of one device. -/
def run : Code F PUnit := do
  each four (startSlab p c)
  greet p c
  each four (awaitSlab p c)
  each eight (gatherSend p c)
  each eight (reduce p c)
  each four (passU p c)
  each four (passV p c)
  each four (takeZ p c)
  each four (takeY p c)
  each four (takeU p c)
  each four (takeV p c)
  each eight fun k => drain (.x k)
  each eight fun k => drain (.y k)
  each eight fun k => drain (.z k)
  each four fun k => drain (.u k)
  each four fun k => drain (.v k)

end Steps

/-- The kernel's function at the buffers it runs on. -/
abbrev printed (F : FTy → Type) [FloatOps F] : Code F PUnit :=
  cc0_body ids (Memref.isWhole_whole _)
    (Memref.whole main_arg1) (Memref.isWhole_whole _) res (Memref.isWhole_whole _)
    (Memref.whole cc0_scratch0) (Memref.isWhole_whole _)
    (Memref.whole cc0_scratch1) (Memref.isWhole_whole _)
    (Memref.whole cc0_scratch2) (Memref.isWhole_whole _)
    (Memref.whole cc0_scratch3) (Memref.isWhole_whole _)
    (Memref.whole cc0_scratch4) (Memref.isWhole_whole _)
    (Memref.whole cc0_scratch5) (Memref.isWhole_whole _)
    (Memref.whole cc0_scratch6) (Memref.isWhole_whole _)
    (Memref.whole cc0_scratch7) (Memref.isWhole_whole _) cc0_scratch8 cc0_scratch9 cc0_scratch10 cc0_scratch11 cc0_scratch12 cc0_scratch13 cc0_scratch14 cc0_scratch15 cc0_scratch16 cc0_scratch17 cc0_scratch18

end Cert.KernelIdealRun

end
-- ==== Proof.Places.lean ====
/-
Where the kernel's places are: the devices its transfers name are the neighbours along `x`, `y` and `z`; the slabs it stages
are the device's quarter of its half of the table; the ids of a trip are the next eight; and the blocks of the result are the
four quarters of each chunk.
-/
module

public import proofs.«01_k».proof.Proof.Text

@[expose] public section

noncomputable section

namespace Cert.KernelIdealRun

open Cert.KernelIdeal Cert.KernelIdeal.Gen

open Idealize.ShloMosaic
open Idealize.ShloMosaic.TcCoe
open Idealize.SL Idealize.SL.Sem

/-! ## Neighbours -/

set_option backward.proofsInPublic true in
/-- The device one step along `x` (the other half of the table), -/
def xpeer (c : Dev nD) : Dev nD := ⟨(4 * ((c.val / 4) % 2) + (c.val % 4) + 8) - 8 * (c.val / 8), by revert c; decide⟩
set_option backward.proofsInPublic true in
/-- along `y`, -/
def ypeer (c : Dev nD) : Dev nD := ⟨(8 * (c.val / 8) + (c.val % 4) + 4) - 4 * ((c.val / 4) % 2), by revert c; decide⟩
set_option backward.proofsInPublic true in
/-- and along `z` within its pair. -/
def zpeer (c : Dev nD) : Dev nD := ⟨(c.val + 1) - 2 * ((c.val % 4) % 2), by revert c; decide⟩

/-- The neighbour along one of the three axes. -/
def near : Fin 3 → Dev nD → Dev nD
  | 0 => xpeer
  | 1 => ypeer
  | 2 => zpeer

/-- Each device is its neighbour's neighbour. -/
theorem near_near : ∀ (d : Fin 3) (c : Dev nD), near d (near d c) = c := by decide

/-- The neighbours along `y` and `z` are met in either order. -/
theorem ypeer_zpeer : ∀ c : Dev nD, ypeer (zpeer c) = zpeer (ypeer c) := by decide

/-- The axis a lane goes along. -/
def axis : Lane → Fin 3
  | .x _ => 0
  | .y _ => 1
  | .z _ => 2
  | .u _ => 1
  | .v _ => 2

/-- The device a lane's transfer goes to, which is also the one it comes from. -/
abbrev peer (l : Lane) (c : Dev nD) : Dev nD := near (axis l) c

/-- The peer of the peer is the device itself. -/
theorem peer_peer (l : Lane) (c : Dev nD) : peer l (peer l c) = c := near_near _ c

/-! ## Quarters -/

set_option backward.proofsInPublic true in
/-- The number of the quarter a device sees as `q`. -/
def quarterOf (c : Dev nD) : Quarter → Fin 4
  | .own => ⟨2 * ((c.val / 4) % 2) + (c.val % 4) % 2, by omega⟩
  | .byZ => ⟨2 * ((c.val / 4) % 2) + 1 - (c.val % 4) % 2, by omega⟩
  | .byY => ⟨2 + (c.val % 4) % 2 - 2 * ((c.val / 4) % 2), by omega⟩
  | .across => ⟨3 - 2 * ((c.val / 4) % 2) - (c.val % 4) % 2, by omega⟩

/-- The four quarters a device sees are the four. -/
theorem quarterOf_injective : ∀ (c : Dev nD) (q q' : Quarter), quarterOf c q = quarterOf c q' → q = q' := by decide
/-- Each of the four numbers is the number of one of them. -/
theorem quarterOf_surjective : ∀ (c : Dev nD) (n : Fin 4), ∃ q, quarterOf c q = n := by decide

/-- Each is the own quarter of the device it comes from, -/
theorem quarter_byZ : ∀ c : Dev nD, quarterOf c .byZ = quarterOf (zpeer c) .own := by decide
theorem quarter_byY : ∀ c : Dev nD, quarterOf c .byY = quarterOf (ypeer c) .own := by decide
theorem quarter_across : ∀ c : Dev nD, quarterOf c .across = quarterOf (zpeer (ypeer c)) .own := by decide
/-- and the neighbour along `x` works on the same one. -/
theorem quarter_xpeer : ∀ c : Dev nD, quarterOf (xpeer c) .own = quarterOf c .own := by decide

/-! ## Rows -/

/-- The row of the staged quarter an id is looked up at: its distance from the device's first row, or row zero when the id
    names no row of the device's half. -/
def rowOf (c : Dev nD) (w : BitVec 32) : Fin 2 → ℕ := k0_off6 c w

/-- It is a row of the quarter, whatever the id. -/
theorem rowOf_inb (c : Dev nD) (w : BitVec 32) : ∀ a, rowOf c w a + S1x256.size a ≤ S8192x256.size a := k0_chk1_all c w

/-- What a run's correctness asks of the places it is computed at. -/
structure Laid (p : Places) : Prop where
  dev : ∀ l c, p.dev l c = peer l c
  barX : ∀ c, p.barX c = near 0 c
  barY : ∀ c, p.barY c = near 1 c
  barZ : ∀ c, p.barZ c = near 2 c
  slab : ∀ s c, (p.slab s c).off = ![2048 * s.val, 256 * (quarterOf c .own).val]
  out : ∀ q k c, (p.out q k c).off = ![128 * k.val, 256 * (quarterOf c q).val]
  id : ∀ k c t j, ((p.trip k c t).row j).id.off = ![128 * k.val + 8 * t.val + j.val]
  row : ∀ k c t j w, ((p.trip k c t).row j).off w = rowOf c w
  ok : ∀ k c t j w, ((p.trip k c t).row j).ok w
  store : ∀ k c t, (p.trip k c t).store.off = ![128 * k.val + 8 * t.val, 0]

/-- The kernel's places are laid so. -/
theorem printed_laid : Laid printedPlaces where
  dev l c := by
    rcases l with k | k | k | k | k <;> fin_cases k <;> revert c <;> decide +kernel
  barX := by decide +kernel
  barY := by decide +kernel
  barZ := by decide +kernel
  slab s c := by fin_cases s <;> revert c <;> decide +kernel
  out q k c := by rcases q <;> fin_cases k <;> revert c <;> decide +kernel
  id k c t j := by fin_cases k <;> fin_cases j <;> revert c t <;> decide +kernel
  row k c t j w := by fin_cases k <;> fin_cases j <;> rfl
  ok k c t j w := by fin_cases k <;> fin_cases j <;> exact rowOf_inb c w
  store k c t := by fin_cases k <;> revert c t <;> decide +kernel

end Cert.KernelIdealRun

end
-- ==== Proof.Cells.lean ====
/-
The semaphore cells of the protocol: the runtime's barrier cell, and for each lane the cell of its departures and that of its
arrivals. They are sixty-five different semaphores of a device.
-/
module

public import proofs.«01_k».proof.Proof.Places

@[expose] public section

noncomputable section

namespace Cert.KernelIdealRun

open Cert.KernelIdeal Cert.KernelIdeal.Gen

open Idealize.ShloMosaic
open Idealize.ShloMosaic.TcCoe

/-- A cell: the barrier's, or a lane's of departures (`false`) or arrivals (`true`). -/
abbrev Cell : Type := Option (Lane × Bool)

/-- The semaphore of a lane's end. -/
def endSem (l : Lane) : Bool → DmaSem sig
  | false => sendSem l
  | true => recvSem l

/-- Its number among the device's transfer semaphores, counted from the first of the lanes'. -/
def endNo : Lane × Bool → ℕ
  | (.x k, b) => k.val + if b then 8 else 0
  | (.y k, b) => 16 + k.val + if b then 8 else 0
  | (.z k, b) => 32 + k.val + if b then 8 else 0
  | (.u k, b) => 48 + k.val + if b then 4 else 0
  | (.v k, b) => 56 + k.val + if b then 4 else 0

/-- The place of an end's semaphore among the device's. -/
theorem endSem_val (p : Lane × Bool) : (endSem p.1 p.2).val = endNo p + 6 := by
  obtain ⟨l, b⟩ := p
  rcases l with k | k | k | k | k <;> fin_cases k <;> cases b <;> rfl

/-- Ends with one number are one end. -/
theorem endNo_injective : ∀ p q : Lane × Bool, endNo p = endNo q → p = q := by decide +kernel

/-- The semaphore of a cell. -/
def cellSem : Cell → SemLoc sig
  | none => .reg bar
  | some p => .dma (endSem p.1 p.2)

/-- Different cells have different semaphores. -/
theorem cellSem_injective : Function.Injective cellSem := by
  intro a b h
  rcases a with _ | p <;> rcases b with _ | q
  · rfl
  · cases h
  · cases h
  · refine congrArg some (endNo_injective p q ?_)
    have hs : endSem p.1 p.2 = endSem q.1 q.2 := by
      simp only [cellSem, SemLoc.dma.injEq] at h
      exact h
    have hv := congrArg Fin.val hs
    rw [endSem_val, endSem_val] at hv
    omega

/-- Slab `s`'s semaphore is none of theirs. -/
theorem slabSem_val (s : Fin 4) : (sem4 cc0_scratch8 s).val = 2 + s.val := by fin_cases s <;> rfl

/-- So a slab's semaphore is no cell's. -/
theorem slabSem_ne (s : Fin 4) (k : Cell) : SemLoc.dma (sem4 cc0_scratch8 s) ≠ cellSem k := by
  rcases k with _ | p
  · intro h; cases h
  · intro h
    simp only [cellSem, SemLoc.dma.injEq] at h
    have hv := congrArg Fin.val h
    rw [endSem_val, slabSem_val] at hv
    have := s.isLt
    omega

/-- Cell `k` of device `c`. -/
abbrev kcell (p : Dev nD × Cell) : GSem nD τ sig := ((p.1 : Thread nD τ), cellSem p.2)

/-- Different cells, or cells of different devices, are different semaphores of the mesh. -/
theorem kcell_injective : Function.Injective kcell := by
  rintro ⟨c, k⟩ ⟨c', k'⟩ h
  have h1 : c = c' := congrArg (fun g : GSem nD τ sig => g.1.1) h
  have h2 : k = k' := cellSem_injective (congrArg Prod.snd h)
  rw [h1, h2]

/-- The barrier's cell of a device, that of a lane's departures, and that of its arrivals. -/
abbrev barCell (c : Dev nD) : GSem nD τ sig := kcell (c, none)
abbrev sendCell (c : Dev nD) (l : Lane) : GSem nD τ sig := kcell (c, some (l, false))
abbrev recvCell (c : Dev nD) (l : Lane) : GSem nD τ sig := kcell (c, some (l, true))

/-- What a transfer of a chunk is worth to the semaphores it names. -/
def N : ℕ := (dst (.x 0)).view.dmaCredit

/-- Every lane's landing chunk is worth the same, -/
theorem dst_amount (l : Lane) : (dst l).view.dmaCredit = N := by cases l <;> rfl
/-- and so is every lane's source. -/
theorem src_amount (l : Lane) : (src l).view.dmaCredit = N := by cases l <;> rfl

/-- This is more than nothing. -/
theorem N_pos : 0 < N := View.dmaCredit_pos _ (by decide)

/-- The kernel's own semaphores: the slabs' and the lanes'. -/
def ownSem : Fin 4 ⊕ (Lane × Bool) → SemLoc sig
  | .inl s => .dma (sem4 cc0_scratch8 s)
  | .inr p => cellSem (some p)

end Cert.KernelIdealRun

end
-- ==== Proof.Schedule.lean ====
/-
The protocol between the devices, as a schedule of one round on each semaphore cell: the three units of a barrier cell hand
over the neighbours' landing chunks, the arrival of a lane's transfer hands over the chunk that landed, and its departure
hands back the share of the source it read.

It is stated for any contents `pv c k` of chunk `k` of device `c`'s partial rows.
-/
module

public import proofs.«01_k».proof.Proof.Cells
public import proofs.«01_k».proof.Proof.Gen.KernelIdeal.Launch
public import Idealize.ShloMosaic.Lib.Pipeline.Launch
public import Idealize.ShloMosaic.Lib.Pipeline.Kit
public import Idealize.ShloMosaic.Lib.Pipeline.BigSepL
public import Idealize.ShloMosaic.Lib.Memref
public import Idealize.ShloMosaic.Lib.Transfers
public import Idealize.ShloMosaic.Lib.Tactic

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resources -/

/-- The protocol's ghost state (its duties are named by an axis), beside that of the staging of the arguments and that of the
    transfers within a device. -/
abbrev UB : Type := URounds (GSem nD τ sig) (Fin 3)
/-- All of the ghost state. -/
abbrev UU : Type := UR sig nD τ × (UB × Counters)

local notation "𝕄" => MT nD τ sig Unit (Elt F) ℕ UU ℕ

/-- Its part for the staging of the arguments, and its part for the protocol. -/
abbrev EP : Emb (UR sig nD τ) (MT nD τ sig Unit (Elt F) ℕ UU ℕ) := embL
abbrev ER : Emb UB (MT nD τ sig Unit (Elt F) ℕ UU ℕ) := (Emb.inl : Emb UB (UB × Counters)).trans embR

/-- The contents of a chunk. -/
abbrev Chunk (F : FTy → Type) [FloatOps F] : Type := Vec F S128x256 .bf16

/-- The contents of every chunk of every device's partial rows. -/
abbrev Parts (F : FTy → Type) [FloatOps F] : Type := Dev nD → Fin 8 → Chunk F

variable (pv : Parts F)

/-! ## Contents -/

/-- The summed chunk `k` of device `c`: its own partial rows and those of the device that holds the other half. -/
def total (c : Dev nD) (k : Fin 8) : Chunk F := addChunks (pv c k) (pv (xpeer c) k)

/-- What device `c` sends over a lane. -/
def sent : Lane → Dev nD → Chunk F
  | .x k, c => pv c k
  | .y k, c => total pv c k
  | .z k, c => total pv c k
  | .u k, c => total pv (zpeer c) (lo k)
  | .v k, c => total pv (ypeer c) (hi k)

/-- The share of its source a transfer takes along: half a chunk of partial rows, as these are still to be read, a half and
    a quarter of a summed one, which goes along two lanes and is still to be read, and all of one passed on. -/
def shareOf : Lane → PosShare TreeShare
  | .x _ => fullShare.left
  | .y _ => fullShare.left
  | .z _ => fullShare.right.left
  | .u _ => fullShare
  | .v _ => fullShare

/-! ## The schedule -/

/-- A landing chunk of device `c`, whatever it holds. -/
def landing (c : Dev nD) (l : Lane) : sProp 𝕄 := iprop(∃ X, owns (c : Thread nD τ) (dst l) fullShare X)

/-- A lane's chunk landed at device `c`. -/
def landed (c : Dev nD) (l : Lane) : sProp 𝕄 := owns (c : Thread nD τ) (dst l) fullShare (sent pv l (peer l c))

/-- The share of a lane's source that a transfer of device `c` reads. -/
def source (c : Dev nD) (l : Lane) : sProp 𝕄 := owns (c : Thread nD τ) (src l) (shareOf l) (sent pv l c)

/-- What the cells hand over can be kept in an invariant. -/
instance landing_storable (c : Dev nD) (l : Lane) : BI.Storable (upEmb : UEmb _ 𝕄) (landing (F := F) c l) := by
  unfold landing; infer_instance
instance landed_storable (c : Dev nD) (l : Lane) : BI.Storable (upEmb : UEmb _ 𝕄) (landed (F := F) pv c l) := by
  unfold landed; infer_instance
instance source_storable (c : Dev nD) (l : Lane) : BI.Storable (upEmb : UEmb _ 𝕄) (source (F := F) pv c l) := by
  unfold source; infer_instance

/-- The lanes along an axis. -/
def along (d : Fin 3) : Finset Lane := Finset.univ.filter fun l => axis l = d

/-- What a cell of device `c` hands over. -/
def pay (c : Dev nD) : Cell → Fin 3 → sProp 𝕄
  | none, d => bigSep (along d) fun l => landing (near d c) l
  | some (l, true), _ => landed pv c l
  | some (l, false), _ => source pv c l

/-- So it is with whatever a cell hands over. -/
instance pay_storable (c : Dev nD) (k : Cell) (d : Fin 3) : BI.Storable (upEmb : UEmb _ 𝕄) (pay (F := F) pv c k d) := by
  rcases k with _ | ⟨l, _ | _⟩ <;> dsimp only [pay] <;> infer_instance

/-- The cell of a semaphore. -/
def cellOfSem (sm : SemLoc sig) : Option Cell := Function.partialInv cellSem sm

/-- The cell of a cell's semaphore is that cell. -/
theorem cellOfSem_cellSem (k : Cell) : cellOfSem (cellSem k) = some k := Function.partialInv_left cellSem_injective k

/-- Its duties, -/
def dutiesOf : Option Cell → Finset (Fin 3)
  | some none => Finset.univ
  | some (some _) => {0}
  | none => ∅

/-- what each is worth, -/
def worth : Option Cell → ℕ
  | some none => 1
  | _ => N

/-- (which is more than nothing), -/
theorem worth_pos (k : Option Cell) : 0 < worth k := by
  rcases k with _ | _ | _
  · exact N_pos
  · exact Nat.one_pos
  · exact N_pos

/-- and what it hands over. -/
def payOf (c : Dev nD) : Option Cell → Fin 3 → sProp 𝕄
  | some k, d => pay pv c k d
  | none, _ => iprop(emp)

/-- This can be kept in an invariant. -/
instance payOf_storable (c : Dev nD) (k : Option Cell) (d : Fin 3) :
    BI.Storable (upEmb : UEmb _ 𝕄) (payOf (F := F) pv c k d) := by
  rcases k with _ | k <;> dsimp only [payOf] <;> infer_instance

/-- One round on each cell of each device's core. -/
def sched : Rounds.Schedule (GSem nD τ sig) (Fin 3) 𝕄 where
  duties g r := if r = 0 ∧ g.1.2 = .tc then dutiesOf (cellOfSem g.2) else ∅
  unitless _ := False
  amount g _ _ := worth (cellOfSem g.2)
  payload g _ d := payOf pv g.1.1 (cellOfSem g.2) d
  amount_pos g _ _ _ := worth_pos _

/-- What the schedule hands over can be kept in an invariant. -/
instance sched_storable (g : GSem nD τ sig) (r : ℕ) (d : Fin 3) :
    BI.Storable (upEmb : UEmb _ 𝕄) ((sched (F := F) pv).payload g r d) := by
  show BI.Storable upEmb (payOf pv g.1.1 (cellOfSem g.2) d)
  infer_instance

section Sched

variable (c : Dev nD)

/-- The duties of a cell's only round, -/
theorem duties_kcell (k : Cell) : (sched (F := F) pv).duties (kcell (c, k)) 0 = dutiesOf (some k) := by
  dsimp only [sched, kcell]
  rw [if_pos ⟨rfl, rfl⟩, cellOfSem_cellSem]

/-- of which there are none later, -/
theorem duties_later (g : GSem nD τ sig) : ∀ r, 1 ≤ r → (sched (F := F) pv).duties g r = ∅ :=
  fun r hr => if_neg fun h => by omega

/-- what each is worth, -/
theorem amount_kcell (k : Cell) (d : Fin 3) : (sched (F := F) pv).amount (kcell (c, k)) 0 d = worth (some k) := by
  show worth (cellOfSem (cellSem k)) = _
  rw [cellOfSem_cellSem]

/-- and what it hands over. -/
theorem payload_kcell (k : Cell) (d : Fin 3) : (sched (F := F) pv).payload (kcell (c, k)) 0 d = pay pv c k d := by
  show payOf pv c (cellOfSem (cellSem k)) d = _
  rw [cellOfSem_cellSem]
  rfl

/-- Each of the three axes is a duty on a barrier cell, -/
theorem duty_bar (d : Fin 3) : d ∈ (sched (F := F) pv).duties (barCell c) 0 := by
  rw [duties_kcell]; exact Finset.mem_univ d

/-- and an end of a lane has one duty. -/
theorem duty_lane (l : Lane) (b : Bool) : (0 : Fin 3) ∈ (sched (F := F) pv).duties (kcell (c, some (l, b))) 0 := by
  rw [duties_kcell]; exact Finset.mem_singleton_self 0

/-- A barrier cell's round is three units, -/
theorem expect_bar : (sched (F := F) pv).expect (barCell c) 0 = 3 := by
  unfold Schedule.expect Schedule.amountOf
  rw [duties_kcell, Finset.sum_congr rfl fun d _ => amount_kcell pv c none d]
  rfl

/-- and that of an end of a lane is a transfer's worth. -/
theorem expect_lane (l : Lane) (b : Bool) : (sched (F := F) pv).expect (kcell (c, some (l, b))) 0 = N := by
  unfold Schedule.expect Schedule.amountOf
  rw [duties_kcell, Finset.sum_congr rfl fun d _ => amount_kcell pv c (some (l, b)) d]
  exact Finset.sum_singleton _ _

/-- A barrier cell's round in full: the landing chunk of every lane at the device the lane goes to. -/
theorem rest_bar : bigSep ((sched (F := F) pv).duties (barCell c) 0 \ ∅) (fun d => (sched (F := F) pv).payload (barCell c) 0 d)
    = bigSep Finset.univ fun l : Lane => landing (F := F) (peer l c) l := by
  rw [Finset.sdiff_empty, duties_kcell, bigSep_congr fun d _ => payload_kcell pv c none d,
    bigSep_fiberwise (Finset.univ : Finset Lane) axis, show (Finset.univ : Finset Lane).image axis = Finset.univ by decide]
  refine bigSep_congr fun d _ => bigSep_congr fun l hl => ?_
  rw [show peer l c = near d c from congrArg (near · c) (Finset.mem_filter.mp hl).2]

/-- A lane's round in full: what its end hands over. -/
theorem rest_lane (l : Lane) (b : Bool) :
    bigSep ((sched (F := F) pv).duties (kcell (c, some (l, b))) 0 \ ∅) (fun d => (sched (F := F) pv).payload (kcell (c, some (l, b))) 0 d)
    = pay pv c (some (l, b)) 0 := by
  rw [Finset.sdiff_empty, duties_kcell, bigSep_congr fun d _ => payload_kcell pv c (some (l, b)) d]
  exact bigSep_singleton

end Sched

/-! ## What each device owes, and the levels -/

/-- The order in which a device starts its transfers: all along `x`, each summed chunk along `y` and `z`, and those passed on. -/
def order : List Lane := eight.map .x ++ (eight.flatMap (fun k => [.y k, .z k]) ++ (four.map .u ++ four.map .v))

/-- What device `c` owes while the transfers of a list are still to be started. -/
def owedL (c : Dev nD) : List Lane → CellTallies nD τ sig Unit
  | [] => 0
  | l :: L => owedL c L + tallyAt (recvCell (peer l c) l) () N

/-- And at launch: every transfer, and a unit to each neighbour's barrier cell. -/
def owed₀ (c : Dev nD) : CellTallies nD τ sig Unit :=
  owedL c order + tallyAt (barCell (near 2 c)) () 1 + tallyAt (barCell (near 1 c)) () 1 + tallyAt (barCell (near 0 c)) () 1

/-- The level of a lane's arrivals: those along `x` come before the summed chunks', and these before the ones passed on. -/
def laneLevel : Lane → ℕ
  | .x _ => 2
  | .y _ => 3
  | .z _ => 3
  | .u _ => 4
  | .v _ => 4

/-- The level of a cell. -/
def levelOf : Option Cell → ℕ
  | some none => 1
  | some (some (l, true)) => laneLevel l
  | _ => 0

/-- Each semaphore of a core has a level: that of its cell. -/
def lab (g : GSem nD τ sig) : Finset Unit := if g.1.2 = .tc then {()} else ∅
def lev (g : GSem nD τ sig) (_ : Unit) : ℕ := levelOf (cellOfSem g.2)

/-- The levels of all cells. -/
def levels : sProp 𝕄 := levAts lab lev

/-- The levels last. -/
instance levels_persistent : BI.Persistent (levels (F := F)) := by unfold levels; infer_instance

/-- A semaphore that is no core's has no level, -/
theorem lab_of_ne (g : GSem nD τ sig) (h : g.1.2 ≠ .tc) : lab g = ∅ := if_neg h
/-- a core's has one, -/
theorem lab_tc (c : Dev nD) (sm : SemLoc sig) : lab ((c : Thread nD τ), sm) = {()} := if_pos rfl
/-- and a cell's is the cell's. -/
theorem lev_kcell (c : Dev nD) (k : Cell) (u : Unit) : lev (kcell (c, k)) u = levelOf (some k) := by
  show levelOf (cellOfSem (cellSem k)) = _
  rw [cellOfSem_cellSem]

/-- Every lane comes after the handshake. -/
theorem two_le_laneLevel (l : Lane) : 2 ≤ laneLevel l := by cases l <;> simp only [laneLevel] <;> omega

/-- Only the arrivals of the listed lanes are owed. -/
theorem owedL_pos {c : Dev nD} {g : GSem nD τ sig} {u : Unit} :
    ∀ {L : List Lane}, 0 < owedL c L g u → ∃ l ∈ L, g = recvCell (peer l c) l
  | [], h => absurd h (Nat.lt_irrefl 0)
  | l :: L, h => by
    have h' : 0 < owedL c L g u + (tallyAt (recvCell (peer l c) l) () N : CellTallies nD τ sig Unit) g u := h
    by_cases hz : 0 < owedL c L g u
    · obtain ⟨l', hl', e⟩ := owedL_pos hz
      exact ⟨l', List.mem_cons_of_mem _ hl', e⟩
    · rw [tallyAt_apply] at h'
      by_cases hg : g = recvCell (peer l c) l ∧ u = ()
      · exact ⟨l, List.mem_cons_self, hg.1⟩
      · rw [if_neg hg] at h'
        omega

/-- And at launch the neighbours' barrier cells. -/
theorem owed₀_pos {c : Dev nD} {g : GSem nD τ sig} {u : Unit} (h : 0 < owed₀ c g u) :
    (∃ l, g = recvCell (peer l c) l) ∨ ∃ d, g = barCell (near d c) := by
  unfold owed₀ at h
  have h' : 0 < owedL c order g u + (tallyAt (barCell (near 2 c)) () 1 : CellTallies nD τ sig Unit) g u
      + (tallyAt (barCell (near 1 c)) () 1 : CellTallies nD τ sig Unit) g u
      + (tallyAt (barCell (near 0 c)) () 1 : CellTallies nD τ sig Unit) g u := h
  by_cases hz : 0 < owedL c order g u
  · obtain ⟨l, -, e⟩ := owedL_pos hz
    exact .inl ⟨l, e⟩
  · refine .inr ?_
    rw [tallyAt_apply, tallyAt_apply, tallyAt_apply] at h'
    by_contra hn
    rw [not_exists] at hn
    rw [if_neg (fun h => hn _ h.1), if_neg (fun h => hn _ h.1), if_neg (fun h => hn _ h.1)] at h'
    omega

/-- A device may wait at a cell below everything it owes. -/
theorem mayWait (c : Dev nD) (sm : SemLoc sig) (L : List Lane) (h : ∀ l ∈ L, levelOf (cellOfSem sm) < laneLevel l) :
    levels (F := F) ⊢ MayWait (c : Thread nD τ) sm () (owedL c L) :=
  MayOwe.of_cut (L := lab) (lev := lev) (levelOf (cellOfSem sm))
    (fun p hp => by rw [Finset.mem_singleton.mp hp, lab_tc]; exact Finset.mem_singleton_self _)
    (fun g u hg => by obtain ⟨l, _, rfl⟩ := owedL_pos hg; exact (lab_tc _ _).symm ▸ Finset.mem_singleton_self _)
    (fun p hp => by rw [Finset.mem_singleton.mp hp]; exact le_refl _)
    (fun g u hg => by obtain ⟨l, hl, rfl⟩ := owedL_pos hg; rw [lev_kcell]; exact h l hl)

/-- And for its arguments to be staged, whatever it owes. -/
theorem mayWait_stage (c : Dev nD) (sm : SemLoc sig) (h : ∀ k, sm ≠ cellSem k) (O : CellTallies nD τ sig Unit)
    (hO : O = owed₀ c ∨ O = 0) : levels (F := F) ⊢ MayWait (c : Thread nD τ) sm () O := by
  have hz : cellOfSem sm = none := by
    by_contra hn
    obtain ⟨k, hk⟩ := Option.ne_none_iff_exists'.mp hn
    exact h k ((Function.partialInv_of_injective cellSem_injective k sm).mp hk).symm
  rcases hO with rfl | rfl
  · refine MayOwe.of_cut (L := lab) (lev := lev) 0
      (fun p hp => by rw [Finset.mem_singleton.mp hp, lab_tc]; exact Finset.mem_singleton_self _)
      (fun g u hg => by
        rcases owed₀_pos hg with ⟨l, rfl⟩ | ⟨d, rfl⟩ <;> exact (lab_tc _ _).symm ▸ Finset.mem_singleton_self _)
      (fun p hp => by rw [Finset.mem_singleton.mp hp]; show levelOf (cellOfSem sm) ≤ 0; rw [hz]; exact le_refl 0)
      (fun g u hg => by
        rcases owed₀_pos hg with ⟨l, rfl⟩ | ⟨d, rfl⟩
        · rw [lev_kcell]; exact Nat.lt_of_lt_of_le (by decide) (two_le_laneLevel l)
        · rw [lev_kcell]; exact Nat.one_pos)
  · rw [MayWait_zero]; iintro -; iempintro

end Cert.KernelIdealRun

end
-- ==== Proof.Steps.lean ====
/-
What each step of the kernel does to the resources of its device: a chunk loaded or stored, a transfer started, its arrival or
its departure awaited. Each is stated for the step alone, and the steps of a list are put together by `each_wp`.
-/
module

public import proofs.«01_k».proof.Proof.Schedule

@[expose] public section

set_option maxRecDepth 4000

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- No loop of the body is measured. -/
abbrev 𝒱₀ : Variants := Variants.none

/-- A program of device `c`'s core runs to its end, and then `Q` holds of its result. -/
abbrev runs (c : Dev nD) {α : Type} (p : Code F α) (Q : α → sProp 𝕄) : sProp 𝕄 :=
  wp frame (wpE (defs₀ (F := F)) 𝒱₀ (c : Thread nD τ) none) Set.univ p Q

/-- One program, and then another with what it leaves. -/
theorem runs_then (c : Dev nD) {α β : Type} {p : Code F α} {k : α → Code F β} {Q : β → sProp 𝕄} {R : α → sProp 𝕄} {P : sProp 𝕄}
    (hp : P ⊢ runs c p R) : P ⊢ iprop((∀ a, R a -∗ runs c (k a) Q) -∗ runs c (p >>= k) Q) := by
  unfold runs
  rw [wp_bind]
  exact hp.trans (wp_wand _ _ _)

/-- A last program, whose leavings are the end's. -/
theorem runs_last (c : Dev nD) {α : Type} {p : Code F α} {Q R : α → sProp 𝕄} {P : sProp 𝕄}
    (hp : P ⊢ runs c p R) : P ⊢ iprop((∀ a, R a -∗ Q a) -∗ runs c p Q) := hp.trans (wp_wand _ _ _)

/-- No step leaves everything as it is. -/
theorem runs_pure (c : Dev nD) {α : Type} (a : α) (Q : α → sProp 𝕄) : Q a ⊢ runs c (pure a) Q := by
  unfold runs
  rw [Prog.pure_eq_ret, wp_ret]
  iintro H
  imodintro
  iexact H

/-- Steps one after another, each turning its own resources and leaving the rest of the steps theirs. -/
theorem each_wp (c : Dev nD) {K : Type} (step : K → Code F PUnit) (R : sProp 𝕄) [BI.Persistent R] (S : List K → sProp 𝕄)
    (A B : K → sProp 𝕄) (h : ∀ k l, iprop(R ∗ S (k :: l) ∗ A k) ⊢ runs c (step k) fun _ => iprop(S l ∗ B k)) :
    ∀ l : List K, iprop(R ∗ S l ∗ bigSepL l A) ⊢ runs c (each l step) fun _ => iprop(S [] ∗ bigSepL l B)
  | [] => by
    unfold each
    have e : iprop(R ∗ S [] ∗ bigSepL [] A) ⊢ (iprop(S [] ∗ bigSepL [] B) : sProp 𝕄) := by
      iintro ⟨-, H⟩
      iexact H
    exact e.trans (runs_pure c PUnit.unit fun _ => iprop(S [] ∗ bigSepL [] B))
  | k :: l => by
    unfold each
    rw [bigSepL_cons', bigSepL_cons']
    iintro ⟨#HR, HS, HA, HAs⟩
    iapply (runs_then c (h k l)) $$ [HS HA]
    · isplitr; · iexact HR
      isplitl [HS]; · iexact HS
      iexact HA
    iintro %a ⟨HS, HB⟩
    iapply (runs_last c (each_wp c step R S A B h l)) $$ [HS HAs]
    · isplitr; · iexact HR
      isplitl [HS]; · iexact HS
      iexact HAs
    iintro %a ⟨HS, HBs⟩
    isplitl [HS]; · iexact HS
    isplitl [HB]; · iexact HB
    iexact HBs

/-! ## Loads and stores -/

/-- A rectangle of a buffer loaded. -/
theorem load_wp (c : Dev nD) {sp : CoreSpace} {s : Shape} {e : EltTy} (m : Memref sig .tc sp s e) (r : Rect s) (hr : ∀ a, r.stride a = 1)
    (hl : m.view.LoadsAt r.toLoadRect) (q : PosShare TreeShare) (X : r.shape.Idx → Elt F e) :
    owns (c : Thread nD τ) (m.slice r hr) q X
      ⊢ runs c (Prog.lift (.load m r.toLoadRect hl)) fun w => iprop(⌜w = X⌝ ∗ owns (c : Thread nD τ) (m.slice r hr) q X) := by
  unfold runs owns
  rw [Prog.lift]
  iintro ⟨%f, %hf, H⟩
  iapply (wp_load_rect 𝒱₀ (c : Thread nD τ) none Set.univ (m := m) (r := r) (S := (m.slice r hr).view.set) (f := f) (Finset.Subset.refl _)) $$ H
  iintro H
  rw [wp_ret]
  imodintro
  isplitr; · ipureintro; exact hf
  iexists f
  isplitr; · ipureintro; exact hf
  iexact H

/-- A rectangle of a buffer stored. -/
theorem store_wp (c : Dev nD) {sp : CoreSpace} {s : Shape} {e : EltTy} (m : Memref sig .tc sp s e) (r : Rect s) (hr : ∀ a, r.stride a = 1)
    (w : r.shape.Idx → Elt F e) (hx : (m.access r).Stores Finset.univ)
    (hm : (Finset.univ : Finset r.shape.Idx) = Finset.univ ∨ ∀ a, r.stride a = 1) (X : r.shape.Idx → Elt F e) :
    owns (c : Thread nD τ) (m.slice r hr) fullShare X
      ⊢ runs c (Prog.lift (.store m r w Finset.univ hx hm)) fun _ => owns (c : Thread nD τ) (m.slice r hr) fullShare w := by
  unfold runs owns
  rw [Prog.lift]
  iintro ⟨%f, %hf, H⟩
  iapply (wp_store 𝒱₀ (c : Thread nD τ) none Set.univ (m := m) (r := r) (Mk := Finset.univ) (S := (m.slice r hr).view.set) (f := f) (Finset.Subset.refl _)) $$ H
  iintro H
  rw [wp_ret]
  imodintro
  iexists _
  isplitr
  rotate_left
  · iexact H
  · ipureintro
    exact View.read_write_univ _ _

/-! ## Transfers -/

variable (pv : Parts F) (K : Dev nD × Cell → ℕ)

/-- What stays true of a cell, -/
def record (p : Dev nD × Cell) : sProp 𝕄 := iprop(cellInv ER (sched pv) (K p) (kcell p) ∗ reached ER (kcell p) 0)

/-- This lasts. -/
instance record_persistent (p : Dev nD × Cell) : BI.Persistent (record (F := F) pv K p) := by unfold record; infer_instance

/-- of all cells, and of the levels. -/
def facts : sProp 𝕄 := iprop((bigSep Finset.univ (record pv K)) ∗ levels (F := F))

/-- All of it lasts. -/
instance facts_persistent : BI.Persistent (facts (F := F) pv K) := by unfold facts; infer_instance

/-- Among it is what stays true of any one cell: -/
theorem facts_record (p : Dev nD × Cell) : facts (F := F) pv K ⊢ record pv K p := by
  have h : bigSep Finset.univ (record (F := F) pv K) ⊢ record pv K p := bigSep_elim (Finset.mem_univ p)
  unfold facts
  iintro ⟨H, -⟩
  iapply h
  iexact H

/-- its invariant, -/
theorem facts_inv (p : Dev nD × Cell) : facts (F := F) pv K ⊢ cellInv ER (sched pv) (K p) (kcell p) := by
  refine (facts_record pv K p).trans ?_
  unfold record
  iintro ⟨H, -⟩
  iexact H

/-- and that its round was reached. -/
theorem facts_reached (p : Dev nD × Cell) : facts (F := F) pv K ⊢ reached ER (kcell p) 0 := by
  refine (facts_record pv K p).trans ?_
  unfold record
  iintro ⟨-, H⟩
  iexact H

/-- A device may wait at a cell below everything it owes. -/
theorem facts_mayWait (c : Dev nD) (sm : SemLoc sig) (L : List Lane) (h : ∀ l ∈ L, levelOf (cellOfSem sm) < laneLevel l) :
    facts (F := F) pv K ⊢ MayWait (c : Thread nD τ) sm () (owedL c L) := by
  unfold facts
  iintro ⟨-, H⟩
  iapply (mayWait (F := F) c sm L h)
  iexact H

/-- Device `c` owes the transfers of a list. -/
def debt (c : Dev nD) (L : List Lane) : sProp 𝕄 := iprop(∃ W, owes (c : Thread nD τ) (owedL c L) W)

/-- What a device needs to start a lane's transfer, besides the source: the landing chunk, and the right to each cell's duty. -/
def ready (c : Dev nD) (l : Lane) : sProp 𝕄 :=
  iprop(landing (peer l c) l ∗ dutyTok ER (sendCell c l) 0 0 ∗ dutyTok ER (recvCell (peer l c) l) 0 0)

/-- What it needs to await a lane's arrival, -/
def coming (c : Dev nD) (l : Lane) : sProp 𝕄 :=
  iprop(cred (tallyAt (recvCell c l) () N) ∗ atPos ER (recvCell c l) 0 ∅ 0)

/-- what a started transfer leaves, -/
def going (c : Dev nD) (l : Lane) : sProp 𝕄 := cred (tallyAt (sendCell c l) () N)

/-- and a semaphore that is done with. -/
def idle (c : Dev nD) (l : Lane) (b : Bool) : sProp 𝕄 := semVal (kcell (c, some (l, b))) 0

/-- A transfer to the device a lane goes to, started. -/
theorem send_at_wp (c n : Dev nD) (l : Lane) (L : List Lane) (hn : n = peer l c)
    (hsem : DmaTarget.Typed .vmem (.dma (recvSem l)) (.remote (Dev.tc n : Thread nD τ) (dst l) (.dma (sendSem l)) (dst_shared l))) :
    iprop(facts pv K ∗ debt c (l :: L) ∗ source pv c l ∗ ready c l)
      ⊢ runs (F := F) c (Prog.lift (.enqueueDma (src l) (.remote (Dev.tc n : Thread nD τ) (dst l) (.dma (sendSem l)) (dst_shared l)) (.dma (recvSem l))
          (src_words l) (dst_words l) hsem)) fun _ => iprop(debt c L ∗ going c l) := by
  subst hn
  unfold runs debt source ready landing going owns
  rw [Prog.lift]
  iintro ⟨#HF, ⟨%W, HO⟩, ⟨%fs, %hfs, HS⟩, ⟨%X, %fd, %hfd, HD⟩, HT₁, HT₂⟩
  iapply (Rounds.wp_send_pointsTo 𝒱₀ ER (sched pv) (c : Thread nD τ) none (c' := (peer l c : Thread nD τ))
    (sS := cellSem (some (l, false))) (sem := cellSem (some (l, true)))
    (κ₁ := K (c, some (l, false))) (κ₂ := K (peer l c, some (l, true)))
    (r₁ := 0) (r₂ := 0) (d₁ := 0) (d₂ := 0) (fs := fs) (fd := fd) (duty_lane pv c l false) (duty_lane pv (peer l c) l true)
    () () N (dst_amount l) (amount_kcell pv c (some (l, false)) 0) (amount_kcell pv (peer l c) (some (l, true)) 0)
    (owedL c L) rfl (W := W)
    (by
      rw [show (sched pv).payload ((c : Thread nD τ), cellSem (some (l, false))) 0 0 = source pv c l from payload_kcell pv c (some (l, false)) 0]
      unfold source owns
      iintro H
      iexists fs
      isplitr; · ipureintro; exact hfs
      iexact H)
    (by
      rw [show (sched pv).payload ((peer l c : Thread nD τ), cellSem (some (l, true))) 0 0 = landed pv (peer l c) l from payload_kcell pv (peer l c) (some (l, true)) 0]
      unfold landed owns
      iintro H
      iexists _
      isplitr
      rotate_left
      · iexact H
      · ipureintro
        rw [View.read_write_univ, peer_peer]
        exact hfs)) $$ [HO HS HD HT₁ HT₂]
  · isplitr; · iapply (facts_inv pv K (c, some (l, false))); iexact HF
    isplitr; · iapply (facts_inv pv K (peer l c, some (l, true))); iexact HF
    isplitl [HS]; · iexact HS
    isplitl [HD]; · iexact HD
    isplitl [HO]; · iexact HO
    isplitl [HT₁]; · iexact HT₁
    isplitr; · iapply (facts_reached pv K (c, some (l, false))); iexact HF
    isplitl [HT₂]; · iexact HT₂
    iapply (facts_reached pv K (peer l c, some (l, true))); iexact HF
  iintro ⟨HC, HO⟩
  rw [wp_ret]
  imodintro
  isplitl [HO]; · iexists _; iexact HO
  iexact HC

/-- A lane's transfer started. -/
theorem send_wp (p : Places) (hp : Laid p) (c : Dev nD) (l : Lane) (L : List Lane) :
    iprop(facts pv K ∗ debt c (l :: L) ∗ source pv c l ∗ ready c l)
      ⊢ runs c (send p c l) fun _ => iprop(debt c L ∗ going c l) :=
  send_at_wp pv K c (p.dev l c) l L (hp.dev l c) _

/-- Its arrival awaited. -/
theorem arrive_wp (c : Dev nD) (l : Lane) (L : List Lane) (hL : ∀ l' ∈ L, laneLevel l < laneLevel l') :
    iprop(facts pv K ∗ debt c L ∗ coming c l)
      ⊢ runs c (arrive l) fun _ => iprop(debt c L ∗ landed pv c l ∗ idle c l true) := by
  unfold arrive runs debt coming
  rw [Prog.lift]
  iintro ⟨#HF, ⟨%W, HO⟩, HC, HP⟩
  iapply (Rounds.wp_wait_rest_token 𝒱₀ ER (sched pv) (c : Thread nD τ) none (sm := cellSem (some (l, true))) (κ := K (c, some (l, true)))
      (wpE_waitDma2_eq 𝒱₀ (c : Thread nD τ) none Set.univ) (Set.mem_univ _) () (O := owedL c L) (W := W) (R := 0) (m := 0) (T := ∅)
      (by rw [Nat.zero_add, dst_amount]; exact (expect_lane pv c l true).symm)) $$ [HC HO HP]
  · isplitr; · iapply (facts_inv pv K (c, some (l, true))); iexact HF
    isplitl [HC]; · iapply (Entails.of_eq (congrArg (fun n => (cred (tallyAt (kcell (c, some (l, true))) () n) : sProp 𝕄)) (dst_amount l).symm)); iexact HC
    isplitl [HO]; · iexact HO
    isplitr
    · iapply (facts_mayWait pv K c (cellSem (some (l, true))) L (by rw [cellOfSem_cellSem]; exact hL)); iexact HF
    iexact HP
  iintro ⟨HO, HP, -, Hpay⟩
  ihave Hpay := (Entails.of_eq ((rest_lane pv c l true).trans (show _ = landed pv c l from rfl))) $$ Hpay
  imod (Rounds.cell_close ER (sched pv) (Set.mem_univ (K (c, some (l, true)))) (fun h => h) (R := 0 + 1) (duties_later pv (recvCell c l))) $$ [HP] with HZ
  · isplitr; · iapply (facts_inv pv K (c, some (l, true))); iexact HF
    iexact HP
  rw [wp_ret]
  imodintro
  isplitl [HO]; · iexists _; iexact HO
  isplitl [Hpay]; · iexact Hpay
  unfold idle; iexact HZ

/-- And its departure. -/
theorem drain_wp (c : Dev nD) (l : Lane) (L : List Lane) (hL : ∀ l' ∈ L, 0 < laneLevel l') :
    iprop(facts pv K ∗ debt c L ∗ going c l ∗ atPos ER (sendCell c l) 0 ∅ 0)
      ⊢ runs c (drain l) fun _ => iprop(debt c L ∗ source pv c l ∗ idle c l false) := by
  unfold drain runs debt going
  rw [Prog.lift]
  iintro ⟨#HF, ⟨%W, HO⟩, HC, HP⟩
  iapply (Rounds.wp_wait_rest_token 𝒱₀ ER (sched pv) (c : Thread nD τ) none (sm := cellSem (some (l, false))) (κ := K (c, some (l, false)))
      (wpE_waitDma2_eq 𝒱₀ (c : Thread nD τ) none Set.univ) (Set.mem_univ _) () (O := owedL c L) (W := W) (R := 0) (m := 0) (T := ∅)
      (by rw [Nat.zero_add, src_amount]; exact (expect_lane pv c l false).symm)) $$ [HC HO HP]
  · isplitr; · iapply (facts_inv pv K (c, some (l, false))); iexact HF
    isplitl [HC]; · iapply (Entails.of_eq (congrArg (fun n => (cred (tallyAt (kcell (c, some (l, false))) () n) : sProp 𝕄)) (src_amount l).symm)); iexact HC
    isplitl [HO]; · iexact HO
    isplitr
    · iapply (facts_mayWait pv K c (cellSem (some (l, false))) L (by rw [cellOfSem_cellSem]; exact hL)); iexact HF
    iexact HP
  iintro ⟨HO, HP, -, Hpay⟩
  ihave Hpay := (Entails.of_eq ((rest_lane pv c l false).trans (show _ = source pv c l from rfl))) $$ Hpay
  imod (Rounds.cell_close ER (sched pv) (Set.mem_univ (K (c, some (l, false)))) (fun h => h) (R := 0 + 1) (duties_later pv (sendCell c l))) $$ [HP] with HZ
  · isplitr; · iapply (facts_inv pv K (c, some (l, false))); iexact HF
    iexact HP
  rw [wp_ret]
  imodintro
  isplitl [HO]; · iexists _; iexact HO
  isplitl [Hpay]; · iexact Hpay
  unfold idle; iexact HZ

end Cert.KernelIdealRun

end
-- ==== Proof.Chunks.lean ====
/-
The steps that move a chunk, once it has been gathered: the two halves' rows added and sent on, a received chunk put in the
result and passed on, the rest put in the result.
-/
module

public import proofs.«01_k».proof.Proof.Steps

@[expose] public section

set_option maxRecDepth 4000

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Shares -/

/-- A memref's elements shared between two holders, -/
theorem owns_split (c : Dev nD) {sp : Space} {s : Shape} {e : EltTy} (m : Memref sig .tc sp s e) (q : PosShare TreeShare)
    (X : s.Idx → Elt F e) :
    (owns (c : Thread nD τ) m q X : sProp 𝕄) ⊢ iprop(owns (c : Thread nD τ) m q.left X ∗ owns (c : Thread nD τ) m q.right X) := by
  unfold owns
  iintro ⟨%f, %hf, H⟩
  ihave H := (pointsTo_share (PosShare.mem_left_op_right q)).1 $$ H
  icases H with ⟨H₁, H₂⟩
  isplitl [H₁]
  · iexists f
    isplitr; · ipureintro; exact hf
    iexact H₁
  · iexists f
    isplitr; · ipureintro; exact hf
    iexact H₂

/-- and joined again. -/
theorem owns_join (c : Dev nD) {sp : Space} {s : Shape} {e : EltTy} (m : Memref sig .tc sp s e) (q : PosShare TreeShare)
    (X Y : s.Idx → Elt F e) :
    (iprop(owns (c : Thread nD τ) m q.left X ∗ owns (c : Thread nD τ) m q.right Y) : sProp 𝕄) ⊢ owns (c : Thread nD τ) m q X := by
  unfold owns
  iintro ⟨⟨%f, %hf, H₁⟩, ⟨%g, %hg, H₂⟩⟩
  ihave %hfg := pointsTo_agree $$ [H₁ H₂]
  · isplitl [H₁]; · iexact H₁
    iexact H₂
  ihave H₂ := (Entails.of_eq (pointsTo_congr (f := g) (g := f) fun i hi => (hfg i (Finset.mem_inter.mpr ⟨hi, hi⟩)).1.symm)) $$ H₂
  iexists f
  isplitr; · ipureintro; exact hf
  iapply (pointsTo_share (PosShare.mem_left_op_right q)).2
  isplitl [H₁]; · iexact H₁
  iexact H₂

/-! ## Loads, and blocks of the result -/

variable (pv : Parts F) (K : Dev nD × Cell → ℕ) (p : Places) (c : Dev nD)

/-- Chunk `k` of a buffer of eight, -/
abbrev has8 (b : Memref sig .tc .vmem S1024x256 .bf16) (k : Fin 8) (q : PosShare TreeShare) (X : Chunk F) : sProp 𝕄 :=
  owns (c : Thread nD τ) (at8 b k) q X

/-- and of one of four. -/
abbrev has4 (b : Memref sig .tc .vmem S512x256 .bf16) (k : Fin 4) (q : PosShare TreeShare) (X : Chunk F) : sProp 𝕄 :=
  owns (c : Thread nD τ) (at4 b k) q X

/-- Quarter `q` of chunk `k` in the result. -/
def block (q : Quarter) (k : Fin 8) (X : Chunk F) : sProp 𝕄 :=
  owns (c : Thread nD τ) (res.slice (p.out q k c).rect fun _ => rfl) fullShare X

/-- Reading a chunk of a buffer of eight gives its contents, -/
theorem load8_wp (b : Memref sig .tc .vmem S1024x256 .bf16) (k : Fin 8) (q : PosShare TreeShare) (X : Chunk F) :
    has8 c b k q X ⊢ runs c (load8 b k) fun w => iprop(⌜w = X⌝ ∗ has8 c b k q X) := load_wp c b (ck8 k) (fun _ => rfl) _ q X

/-- and so does reading one of four. -/
theorem load4_wp (b : Memref sig .tc .vmem S512x256 .bf16) (k : Fin 4) (q : PosShare TreeShare) (X : Chunk F) :
    has4 c b k q X ⊢ runs c (load4 b k) fun w => iprop(⌜w = X⌝ ∗ has4 c b k q X) := load_wp c b (ck4 k) (fun _ => rfl) _ q X

/-- A block put in the result. -/
theorem place_wp (q : Quarter) (k : Fin 8) (w : Chunk F) :
    iprop(∃ X, block p c q k X) ⊢ runs (F := F) c (place (p.out q k c) w) fun _ => block p c q k w := by
  unfold place block
  iintro ⟨%X, H⟩
  iapply (runs_then c (load_wp c res (p.out q k c).rect (fun _ => rfl) _ fullShare X)) $$ H
  iintro %w' ⟨-, H⟩
  iapply (store_wp c res (p.out q k c).rect (fun _ => rfl) w _ _ X)
  iexact H

/-! ## What the lanes hand over -/

/-- Along `x` a transfer reads half the share of a chunk of partial rows, -/
theorem source_x (k : Fin 8) : source pv c (.x k) = has8 c part k fullShare.left (pv c k) := rfl
/-- along `y` half the share of a summed chunk, -/
theorem source_y (k : Fin 8) : source pv c (.y k) = has8 c red k fullShare.left (total pv c k) := rfl
/-- and along `z` a quarter of it. -/
theorem source_z (k : Fin 8) : source pv c (.z k) = has8 c red k fullShare.right.left (total pv c k) := rfl
/-- What is passed on along `y` is read where it arrived along `z`, -/
theorem source_u (k : Fin 4) : source pv c (.u k) = has8 c rz (lo k) fullShare (total pv (zpeer c) (lo k)) := rfl
/-- and what is passed on along `z` where it arrived along `y`. -/
theorem source_v (k : Fin 4) : source pv c (.v k) = has8 c ry (hi k) fullShare (total pv (ypeer c) (hi k)) := rfl
/-- Along `x` the partial rows of the device with the other half land, -/
theorem landed_x (k : Fin 8) : landed pv c (.x k) = has8 c rx k fullShare (pv (xpeer c) k) := rfl
/-- along `y` the summed chunk of the neighbour there, -/
theorem landed_y (k : Fin 8) : landed pv c (.y k) = has8 c ry k fullShare (total pv (ypeer c) k) := rfl
/-- and so along `z`. -/
theorem landed_z (k : Fin 8) : landed pv c (.z k) = has8 c rz k fullShare (total pv (zpeer c) k) := rfl
/-- What is passed on along `y` is the summed chunk of the device one step along each, -/
theorem landed_u (k : Fin 4) : landed pv c (.u k) = has4 c ru k fullShare (total pv (zpeer (ypeer c)) (lo k)) := rfl
/-- and so is what is passed on along `z`. -/
theorem landed_v (k : Fin 4) : landed pv c (.v k) = has4 c rv k fullShare (total pv (zpeer (ypeer c)) (hi k)) := by
  rw [← ypeer_zpeer]; rfl

/-! ## The two halves added -/

/-- The chunk received along `x` awaited, and added to the device's own. -/
theorem addUp_wp (k : Fin 8) (L : List Lane) (hL : ∀ l ∈ L, 2 < laneLevel l) :
    iprop(facts pv K ∗ debt c L ∗ coming c (.x k) ∗ has8 c part k fullShare.right (pv c k) ∗ ∃ X, has8 c red k fullShare X)
      ⊢ runs c (addUp k) fun _ => iprop(debt c L ∗ landed pv c (.x k) ∗ idle c (.x k) true
          ∗ has8 c part k fullShare.right (pv c k) ∗ has8 c red k fullShare (total pv c k)) := by
  unfold addUp
  iintro ⟨#HF, HO, HC, HP, ⟨%X, HR⟩⟩
  iapply (runs_then c (arrive_wp pv K c (.x k) L hL)) $$ [HO HC]
  · isplitr; · iexact HF
    isplitl [HO]; · iexact HO
    iexact HC
  iintro %_ ⟨HO, HX, HI⟩
  ihave HX := (Entails.of_eq (landed_x pv c k)) $$ HX
  iapply (runs_then c (load8_wp c part k fullShare.right (pv c k))) $$ HP
  iintro %a ⟨%ha, HP⟩
  iapply (runs_then c (load8_wp c rx k fullShare (pv (xpeer c) k))) $$ HX
  iintro %b ⟨%hb, HX⟩
  iapply (runs_then c (load8_wp c red k fullShare X)) $$ HR
  iintro %_ ⟨-, HR⟩
  subst ha hb
  iapply (runs_last c (store_wp c red (ck8 k) (fun _ => rfl) (total pv c k) _ _ X)) $$ HR
  iintro %_ HR
  isplitl [HO]; · iexact HO
  isplitl [HX]; · iapply (Entails.of_eq (landed_x pv c k).symm); iexact HX
  isplitl [HI]; · iexact HI
  isplitl [HP]; · iexact HP
  iexact HR

/-- What reducing a chunk takes, -/
def toReduce (k : Fin 8) : sProp 𝕄 :=
  iprop(coming c (.x k) ∗ has8 c part k fullShare.right (pv c k) ∗ (∃ X, has8 c red k fullShare X) ∗ ready c (.y k) ∗ ready c (.z k)
    ∗ ∃ X, block p c .own k X)

/-- and leaves. -/
def reduced (k : Fin 8) : sProp 𝕄 :=
  iprop(landed pv c (.x k) ∗ idle c (.x k) true ∗ has8 c part k fullShare.right (pv c k)
    ∗ has8 c red k fullShare.right.right (total pv c k) ∗ going c (.y k) ∗ going c (.z k) ∗ block p c .own k (total pv c k))

/-- A chunk reduced. -/
theorem reduce_wp (hp : Laid p) (k : Fin 8) (L : List Lane) (hL : ∀ l ∈ L, 2 < laneLevel l) :
    iprop(facts pv K ∗ debt c (.y k :: .z k :: L) ∗ toReduce pv p c k)
      ⊢ runs c (reduce p c k) fun _ => iprop(debt c L ∗ reduced pv p c k) := by
  unfold reduce toReduce reduced
  iintro ⟨#HF, HO, HC, HP, HR, HY, HZ, HB⟩
  iapply (runs_then c (addUp_wp pv K c k (.y k :: .z k :: L) (by
    intro l hl
    rcases List.mem_cons.mp hl with rfl | hl
    · exact Nat.lt_succ_self 2
    rcases List.mem_cons.mp hl with rfl | hl
    · exact Nat.lt_succ_self 2
    exact hL l hl))) $$ [HO HC HP HR]
  · isplitr; · iexact HF
    isplitl [HO]; · iexact HO
    isplitl [HC]; · iexact HC
    isplitl [HP]; · iexact HP
    iexact HR
  iintro %_ ⟨HO, HX, HI, HP, HR⟩
  ihave HR := (owns_split c (at8 red k) fullShare (total pv c k)) $$ HR
  icases HR with ⟨HR₁, HR⟩
  ihave HR := (owns_split c (at8 red k) fullShare.right (total pv c k)) $$ HR
  icases HR with ⟨HR₂, HR⟩
  iapply (runs_then c (send_wp pv K p hp c (.y k) (.z k :: L))) $$ [HO HR₁ HY]
  · isplitr; · iexact HF
    isplitl [HO]; · iexact HO
    isplitl [HR₁]; · rw [source_y]; iexact HR₁
    iexact HY
  iintro %_ ⟨HO, HY⟩
  iapply (runs_then c (send_wp pv K p hp c (.z k) L)) $$ [HO HR₂ HZ]
  · isplitr; · iexact HF
    isplitl [HO]; · iexact HO
    isplitl [HR₂]; · rw [source_z]; iexact HR₂
    iexact HZ
  iintro %_ ⟨HO, HZ⟩
  iapply (runs_then c (load8_wp c red k fullShare.right.right (total pv c k))) $$ HR
  iintro %w ⟨%hw, HR⟩
  subst hw
  iapply (runs_last c (place_wp p c .own k (total pv c k))) $$ HB
  iintro %_ HB
  isplitl [HO]; · iexact HO
  isplitl [HX]; · iexact HX
  isplitl [HI]; · iexact HI
  isplitl [HP]; · iexact HP
  isplitl [HR]; · iexact HR
  isplitl [HY]; · iexact HY
  isplitl [HZ]; · iexact HZ
  iexact HB

/-! ## A received chunk put in the result -/

/-- A chunk received in a buffer of eight and put in the result, -/
theorem take8_wp (l : Lane) (b : Memref sig .tc .vmem S1024x256 .bf16) (k : Fin 8) (q : Quarter) (X : Chunk F)
    (hl : landed pv c l = has8 c b k fullShare X) (L : List Lane) (hL : ∀ l' ∈ L, laneLevel l < laneLevel l') :
    iprop(facts pv K ∗ debt c L ∗ coming c l ∗ ∃ X, block p c q k X)
      ⊢ runs c (do
          arrive l
          let w ← load8 b k
          place (p.out q k c) w) fun _ => iprop(debt c L ∗ landed pv c l ∗ idle c l true ∗ block p c q k X) := by
  iintro ⟨#HF, HO, HC, HB⟩
  iapply (runs_then c (arrive_wp pv K c l L hL)) $$ [HO HC]
  · isplitr; · iexact HF
    isplitl [HO]; · iexact HO
    iexact HC
  iintro %_ ⟨HO, HX, HI⟩
  ihave HX := (Entails.of_eq hl) $$ HX
  iapply (runs_then c (load8_wp c b k fullShare X)) $$ HX
  iintro %w ⟨%hw, HX⟩
  subst hw
  iapply (runs_last c (place_wp p c q k w)) $$ HB
  iintro %_ HB
  isplitl [HO]; · iexact HO
  isplitl [HX]; · iapply (Entails.of_eq hl.symm); iexact HX
  isplitl [HI]; · iexact HI
  iexact HB

/-- and one received in a buffer of four. -/
theorem take4_wp (l : Lane) (b : Memref sig .tc .vmem S512x256 .bf16) (j : Fin 4) (k : Fin 8) (q : Quarter) (X : Chunk F)
    (hl : landed pv c l = has4 c b j fullShare X) (L : List Lane) (hL : ∀ l' ∈ L, laneLevel l < laneLevel l') :
    iprop(facts pv K ∗ debt c L ∗ coming c l ∗ ∃ X, block p c q k X)
      ⊢ runs c (do
          arrive l
          let w ← load4 b j
          place (p.out q k c) w) fun _ => iprop(debt c L ∗ landed pv c l ∗ idle c l true ∗ block p c q k X) := by
  iintro ⟨#HF, HO, HC, HB⟩
  iapply (runs_then c (arrive_wp pv K c l L hL)) $$ [HO HC]
  · isplitr; · iexact HF
    isplitl [HO]; · iexact HO
    iexact HC
  iintro %_ ⟨HO, HX, HI⟩
  ihave HX := (Entails.of_eq hl) $$ HX
  iapply (runs_then c (load4_wp c b j fullShare X)) $$ HX
  iintro %w ⟨%hw, HX⟩
  subst hw
  iapply (runs_last c (place_wp p c q k w)) $$ HB
  iintro %_ HB
  isplitl [HO]; · iexact HO
  isplitl [HX]; · iapply (Entails.of_eq hl.symm); iexact HX
  isplitl [HI]; · iexact HI
  iexact HB

/-- What the result holds in quarter `q` of chunk `k`: the summed chunk of the device whose quarter it is. -/
def outChunk : Quarter → Fin 8 → Chunk F
  | .own, k => total pv c k
  | .byZ, k => total pv (zpeer c) k
  | .byY, k => total pv (ypeer c) k
  | .across, k => total pv (zpeer (ypeer c)) k

/-- What putting a received chunk in the result takes, -/
def toTake (l : Lane) (q : Quarter) (k : Fin 8) : sProp 𝕄 := iprop(coming c l ∗ ∃ X, block (F := F) p c q k X)

/-- and leaves. -/
def taken (l : Lane) (q : Quarter) (k : Fin 8) : sProp 𝕄 :=
  iprop(landed pv c l ∗ idle c l true ∗ block p c q k (outChunk pv c q k))

/-- One of the last four chunks received along `z`, put in the result. -/
theorem takeZ_wp (k : Fin 4) :
    iprop(facts pv K ∗ debt c [] ∗ toTake p c (.z (hi k)) .byZ (hi k))
      ⊢ runs c (takeZ p c k) fun _ => iprop(debt c [] ∗ taken pv p c (.z (hi k)) .byZ (hi k)) :=
  take8_wp pv K p c (.z (hi k)) rz (hi k) .byZ _ (landed_z pv c (hi k)) [] (fun _ h => absurd h List.not_mem_nil)

/-- One of the first four received along `y`. -/
theorem takeY_wp (k : Fin 4) :
    iprop(facts pv K ∗ debt c [] ∗ toTake p c (.y (lo k)) .byY (lo k))
      ⊢ runs c (takeY p c k) fun _ => iprop(debt c [] ∗ taken pv p c (.y (lo k)) .byY (lo k)) :=
  take8_wp pv K p c (.y (lo k)) ry (lo k) .byY _ (landed_y pv c (lo k)) [] (fun _ h => absurd h List.not_mem_nil)

/-- One passed on to the device along `y`. -/
theorem takeU_wp (k : Fin 4) :
    iprop(facts pv K ∗ debt c [] ∗ toTake p c (.u k) .across (lo k))
      ⊢ runs c (takeU p c k) fun _ => iprop(debt c [] ∗ taken pv p c (.u k) .across (lo k)) :=
  take4_wp pv K p c (.u k) ru k (lo k) .across _ (landed_u pv c k) [] (fun _ h => absurd h List.not_mem_nil)

/-- One passed on to it along `z`. -/
theorem takeV_wp (k : Fin 4) :
    iprop(facts pv K ∗ debt c [] ∗ toTake p c (.v k) .across (hi k))
      ⊢ runs c (takeV p c k) fun _ => iprop(debt c [] ∗ taken pv p c (.v k) .across (hi k)) :=
  take4_wp pv K p c (.v k) rv k (hi k) .across _ (landed_v pv c k) [] (fun _ h => absurd h List.not_mem_nil)

/-! ## And passed on -/

/-- What passing a received chunk on takes, -/
def toPass (l l' : Lane) (q : Quarter) (k : Fin 8) : sProp 𝕄 := iprop(toTake (F := F) p c l q k ∗ ready c l')

/-- and leaves. -/
def passed (l l' : Lane) (q : Quarter) (k : Fin 8) : sProp 𝕄 :=
  iprop(idle c l true ∗ block p c q k (outChunk pv c q k) ∗ going c l')

/-- A chunk received in a buffer of eight, put in the result and sent on. -/
theorem pass_wp (hp : Laid p) (l l' : Lane) (b : Memref sig .tc .vmem S1024x256 .bf16) (k : Fin 8) (q : Quarter) (X : Chunk F)
    (hl : landed pv c l = has8 c b k fullShare X) (hs : source pv c l' = has8 c b k fullShare X) (L : List Lane)
    (hL : ∀ l₁ ∈ l' :: L, laneLevel l < laneLevel l₁) :
    iprop(facts pv K ∗ debt c (l' :: L) ∗ toPass p c l l' q k)
      ⊢ runs c (do
          arrive l
          let w ← load8 b k
          place (p.out q k c) w
          send p c l') fun _ => iprop(debt c L ∗ idle c l true ∗ block p c q k X ∗ going c l') := by
  unfold toPass toTake
  iintro ⟨#HF, HO, ⟨HC, HB⟩, HR⟩
  iapply (runs_then c (arrive_wp pv K c l (l' :: L) hL)) $$ [HO HC]
  · isplitr; · iexact HF
    isplitl [HO]; · iexact HO
    iexact HC
  iintro %_ ⟨HO, HX, HI⟩
  ihave HX := (Entails.of_eq hl) $$ HX
  iapply (runs_then c (load8_wp c b k fullShare X)) $$ HX
  iintro %w ⟨%hw, HX⟩
  subst hw
  iapply (runs_then c (place_wp p c q k w)) $$ HB
  iintro %_ HB
  iapply (runs_last c (send_wp pv K p hp c l' L)) $$ [HO HX HR]
  · isplitr; · iexact HF
    isplitl [HO]; · iexact HO
    isplitl [HX]; · iapply (Entails.of_eq hs.symm); iexact HX
    iexact HR
  iintro %_ ⟨HO, HG⟩
  isplitl [HO]; · iexact HO
  isplitl [HI]; · iexact HI
  isplitl [HB]; · iexact HB
  iexact HG

/-- One of the first four chunks received along `z`, put in the result and passed on along `y`. -/
theorem passU_wp (hp : Laid p) (k : Fin 4) (L : List Lane) (hL : ∀ l ∈ L, 3 < laneLevel l) :
    iprop(facts pv K ∗ debt c (.u k :: L) ∗ toPass p c (.z (lo k)) (.u k) .byZ (lo k))
      ⊢ runs c (passU p c k) fun _ => iprop(debt c L ∗ passed pv p c (.z (lo k)) (.u k) .byZ (lo k)) :=
  pass_wp pv K p c hp (.z (lo k)) (.u k) rz (lo k) .byZ _ (landed_z pv c (lo k)) (source_u pv c k) L
    (List.forall_mem_cons.mpr ⟨Nat.lt_succ_self 3, hL⟩)

/-- One of the last four received along `y`, put in the result and passed on along `z`. -/
theorem passV_wp (hp : Laid p) (k : Fin 4) (L : List Lane) (hL : ∀ l ∈ L, 3 < laneLevel l) :
    iprop(facts pv K ∗ debt c (.v k :: L) ∗ toPass p c (.y (hi k)) (.v k) .byY (hi k))
      ⊢ runs c (passV p c k) fun _ => iprop(debt c L ∗ passed pv p c (.y (hi k)) (.v k) .byY (hi k)) :=
  pass_wp pv K p c hp (.y (hi k)) (.v k) ry (hi k) .byY _ (landed_y pv c (hi k)) (source_v pv c k) L
    (List.forall_mem_cons.mpr ⟨Nat.lt_succ_self 3, hL⟩)

end Cert.KernelIdealRun

end
-- ==== Proof.Gather.lean ====
/-
The rows a device gathers: an id read, its row of the staged quarter kept or cleared, eight rows stored at a time, sixteen
times a chunk, and the chunk sent along `x`.
-/
module

public import proofs.«01_k».proof.Proof.Chunks
public import Idealize.ShloMosaic.Lib.Pointwise.Index
public import Idealize.ShloMosaic.Lib.Pointwise.Reshape
public import Idealize.ShloMosaic.Lib.Pointwise.Select

@[expose] public section

set_option maxRecDepth 4000

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Loads out of a memref held whole -/

/-- A rectangle of a memref loaded, with the whole of it at hand. -/
theorem load_in_wp (c : Dev nD) {sp : CoreSpace} {s : Shape} {e : EltTy} (m : Memref sig .tc sp s e) (r : Rect s)
    (hl : m.view.LoadsAt r.toLoadRect) (q : PosShare TreeShare) (X : s.Idx → Elt F e) :
    owns (c : Thread nD τ) m q X
      ⊢ runs c (Prog.lift (.load m r.toLoadRect hl)) fun w => iprop(⌜w = fun j => X (r.emb j)⌝ ∗ owns (c : Thread nD τ) m q X) := by
  unfold runs owns
  rw [Prog.lift]
  iintro ⟨%f, %hf, H⟩
  iapply (wp_load_rect 𝒱₀ (c : Thread nD τ) none Set.univ (m := m) (r := r) (S := m.view.set) (f := f) (View.set_slice_subset _ _)) $$ H
  iintro H
  rw [wp_ret]
  imodintro
  isplitr; · ipureintro; subst hf; rfl
  iexists f
  isplitr; · ipureintro; exact hf
  iexact H

/-- One word loaded. -/
theorem word_wp (c : Dev nD) {s : Shape} {e : EltTy} (m : Memref sig .tc .smem s e) (r : Rect s) (h1 : r.shape.numel = 1)
    (hp : e.packing = 1) (q : PosShare TreeShare) (X : s.Idx → Elt F e) :
    owns (c : Thread nD τ) m q X
      ⊢ runs c (smemLoad m r h1 hp) fun w =>
          iprop(⌜w = X (r.emb (Shape.Idx.first (h1.symm ▸ Nat.one_pos)))⌝ ∗ owns (c : Thread nD τ) m q X) := by
  unfold runs owns smemLoad
  iintro ⟨%f, %hf, H⟩
  iapply (wp_smemLoadElt 𝒱₀ (c : Thread nD τ) none Set.univ (m := m) (r := r) (S := m.view.set) (f := f) (View.set_slice_subset _ _)) $$ H
  iintro H
  rw [wp_ret]
  imodintro
  isplitr; · ipureintro; subst hf; rfl
  iexists f
  isplitr; · ipureintro; exact hf
  iexact H

/-- A rectangle inside a held one loaded, -/
theorem load_sub_wp (c : Dev nD) {sp : CoreSpace} {s : Shape} {e : EltTy} (m : Memref sig .tc sp s e) (r r' : Rect s)
    (hr : ∀ a, r.stride a = 1) (hs : r'.set ⊆ r.set) (hl : m.view.LoadsAt r'.toLoadRect) (q : PosShare TreeShare)
    (X : r.shape.Idx → Elt F e) :
    owns (c : Thread nD τ) (m.slice r hr) q X
      ⊢ runs c (Prog.lift (.load m r'.toLoadRect hl)) fun w => owns (c : Thread nD τ) (m.slice r hr) q X := by
  have hS : (m.access r').set ⊆ (m.slice r hr).view.set := by
    rw [View.set_slice]
    exact (Finset.map_subset_map.mpr hs).trans (View.set_slice m.view r).symm.subset
  unfold runs owns
  rw [Prog.lift]
  iintro ⟨%f, %hf, H⟩
  iapply (wp_load_rect 𝒱₀ (c : Thread nD τ) none Set.univ (m := m) (r := r') (S := (m.slice r hr).view.set) (f := f) hS) $$ H
  iintro H
  rw [wp_ret]
  imodintro
  iexists f
  isplitr; · ipureintro; exact hf
  iexact H

/-- and stored. -/
theorem store_sub_wp (c : Dev nD) {sp : CoreSpace} {s : Shape} {e : EltTy} (m : Memref sig .tc sp s e) (r r' : Rect s)
    (hr : ∀ a, r.stride a = 1) (hs : r'.set ⊆ r.set) (w : r'.shape.Idx → Elt F e) (hx : (m.access r').Stores Finset.univ)
    (hm : (Finset.univ : Finset r'.shape.Idx) = Finset.univ ∨ ∀ a, r'.stride a = 1) (X : r.shape.Idx → Elt F e) :
    owns (c : Thread nD τ) (m.slice r hr) fullShare X
      ⊢ runs c (Prog.lift (.store m r' w Finset.univ hx hm)) fun _ =>
          iprop(∃ f, ⌜(m.slice r hr).view.read (Elt F) f = X⌝
            ∗ owns (c : Thread nD τ) (m.slice r hr) fullShare ((m.slice r hr).view.read (Elt F) ((m.access r').write (Elt F) f w Finset.univ))) := by
  have hS : (m.access r').setOn Finset.univ ⊆ (m.slice r hr).view.set := by
    rw [View.setOn_univ, View.set_slice]
    exact (Finset.map_subset_map.mpr hs).trans (View.set_slice m.view r).symm.subset
  unfold runs owns
  rw [Prog.lift]
  iintro ⟨%f, %hf, H⟩
  iapply (wp_store 𝒱₀ (c : Thread nD τ) none Set.univ (m := m) (r := r') (Mk := Finset.univ) (S := (m.slice r hr).view.set) (f := f) hS) $$ H
  iintro H
  rw [wp_ret]
  imodintro
  iexists f
  isplitr; · ipureintro; exact hf
  iexists _
  isplitr
  rotate_left
  · iexact H
  · ipureintro; rfl

/-- A checked assumption that holds. -/
theorem assume_wp (c : Dev nD) (P : Prop) (d : Decidable P) (h : P) (Q : PLift P → sProp 𝕄) :
    Q ⟨h⟩ ⊢ runs c (Prog.lift (.assume P d)) Q := by
  unfold runs
  rw [Prog.lift]
  refine .trans ?_ (wp_assume 𝒱₀ (c : Thread nD τ) none Set.univ h)
  rw [wp_ret]
  iintro H
  imodintro
  iexact H

/-! ## What a device gathers -/

/-- The ids' contents, and the staged quarter's. -/
abbrev Ids (F : FTy → Type) [FloatOps F] : Type := S1024.Idx → Elt F .i32
abbrev Stage (F : FTy → Type) [FloatOps F] : Type := S8192x256.Idx → Elt F .f32

/-- The row of the staged quarter an id names on device `c`, kept when the row is of the device's half. -/
def foundRow (c : Dev nD) (G : Stage F) (w : Elt F .i32) : FVec F S1x256 .bf16 :=
  keepRow (base c) w fun j => G ((Rect.unit (s := S8192x256) (rowOf c w) S1x256.size (rowOf_inb c w)).emb j)

/-- Row `n` of what the device gathers, -/
def gatheredRow (c : Dev nD) (I : Ids F) (G : Stage F) (n : Fin 1024) : FVec F S1x256 .bf16 := foundRow c G (I (ix1 n))

/-- a row and a column of a chunk of it, -/
def gatheredAt (c : Dev nD) (I : Ids F) (G : Stage F) (k : Fin 8) (r : Fin 128) (b : Fin 256) : F .bf16 :=
  gatheredRow c I G ⟨128 * k.val + r.val, by omega⟩ (ix2 0 b)

/-- and the chunk. -/
def gathered (c : Dev nD) (I : Ids F) (G : Stage F) (k : Fin 8) : Chunk F := fun j => gatheredAt c I G k (j 0) (j 1)

/-! ## One row -/

section Rows

variable (p : Places) (c : Dev nD) (I : Ids F) (G : Stage F)

/-- A device's ids and its staged quarter. -/
def desk : sProp 𝕄 := iprop(owns (c : Thread nD τ) ids fullShare I ∗ owns (c : Thread nD τ) stg fullShare G)

/-- A row looked up. -/
theorem lookup_wp (o : RowPlace) (n : Fin 1024) (hid : o.id.off = ![n.val]) (hrow : ∀ w, o.off w = rowOf c w) (hok : ∀ w, o.ok w) :
    desk c I G ⊢ runs c (lookup c o) fun r => iprop(⌜r = gatheredRow c I G n⌝ ∗ desk c I G) := by
  unfold lookup desk
  iintro ⟨HI, HG⟩
  iapply (runs_then c (word_wp c ids o.id.rect numel1_S1 rfl fullShare I)) $$ HI
  iintro %w ⟨%hw, HI⟩
  iapply (runs_then c (assume_wp c (o.ok w) (o.dec w) (hok w) fun _ => iprop(⌜True⌝))) $$ []
  · ipureintro; trivial
  iintro %a -
  iapply (runs_then c (load_in_wp c stg (Rect.unit (s := S8192x256) (o.off w) S1x256.size (o.inb w a.down)) _ fullShare G)) $$ HG
  iintro %r ⟨%hr, HG⟩
  iapply (runs_pure c (keepRow (base c) w r))
  isplitr
  · ipureintro
    have hn : o.id.rect.emb (Shape.Idx.first (numel1_S1.symm ▸ Nat.one_pos)) = ix1 n := by
      funext a
      refine Fin.ext ?_
      rw [Rect.emb_apply]
      match a with
      | ⟨0, _⟩ => exact congrFun hid 0
    rw [hn] at hw
    subst hw hr
    refine congrArg (keepRow (base c) _) (funext fun j => congrArg G (funext fun a => Fin.ext ?_))
    rw [Rect.emb_apply, Rect.emb_apply]
    exact congrArg (· + 1 * (j a).val) (congrFun (hrow _) a)
  isplitl [HI]; · iexact HI
  iexact HG

/-! ## Eight rows -/

/-- Row `a` of a stack of eight rows is the `a`-th of them. -/
theorem stack_apply (r : Fin 8 → FVec F S1x256 .bf16) (a : Fin 8) (b : Fin 256) :
    stack (r 0) (r 1) (r 2) (r 3) (r 4) (r 5) (r 6) (r 7) (ix2 a b) = r a (ix2 0 b) := by
  unfold stack
  rw [shapeCast_id, concatenate_apply]
  fin_cases a <;> exact congrArg (r _) (eq_ix2 _)

/-- Chunk `k` of the gathered rows, gathered up to row `m`. -/
def upTo (k : Fin 8) (m : ℕ) : sProp 𝕄 :=
  iprop(∃ X : Chunk F, ⌜∀ j : S128x256.Idx, (j 0).val < m → X j = gathered c I G k j⌝ ∗ has8 c part k fullShare X)

/-- Eight rows stored into a chunk: the rows they go to hold them, the others what they held. -/
theorem store_rows (k : Fin 8) (t : Fin 16) (o : RowSpot S1024x256 S8x256.size) (ho : o.off = ![128 * k.val + 8 * t.val, 0])
    (f : Buf (Elt F) ((c : Thread nD τ).loc cc0_scratch1)) (w : FVec F S8x256 .bf16) (j : S128x256.Idx) :
    (at8 part k).view.read (Elt F) ((part.access o.rect).write (Elt F) f w Finset.univ) j
      = if h : 8 * t.val ≤ (j 0).val ∧ (j 0).val < 8 * t.val + 8 then w (ix2 ⟨(j 0).val - 8 * t.val, by omega⟩ (j 1))
        else (at8 part k).view.read (Elt F) f j := by
  split
  case isTrue h =>
    have e : (at8 part k).view.emb j = (part.access o.rect).emb (ix2 ⟨(j 0).val - 8 * t.val, by omega⟩ (j 1)) := by
      change (ck8 k).emb j = o.rect.emb _
      funext a
      refine Fin.ext ?_
      rw [Rect.emb_apply, Rect.emb_apply, Rect.off_unit, Rect.off_unit, Rect.stride_unit, Rect.stride_unit, ho]
      match a with
      | ⟨0, _⟩ =>
        change 128 * k.val + 1 * (j 0).val = 128 * k.val + 8 * t.val + 1 * ((j 0).val - 8 * t.val)
        omega
      | ⟨1, _⟩ => rfl
    rw [View.read_apply, e, View.write_emb_of_mem (v := part.access o.rect) f w (Finset.mem_univ _)]
    rfl
  case isFalse h =>
    rw [View.read_apply, View.write_of_not_mem (v := part.access o.rect) f w Finset.univ]
    · rfl
    · rw [View.setOn_univ]
      change (ck8 k).emb j ∉ ((View.whole cc0_scratch1).slice o.rect).set
      rw [View.set_slice_whole, Rect.mem_set_unit]
      intro hin
      have h0 := hin 0
      rw [Rect.emb_apply, Rect.off_unit, Rect.stride_unit, ho] at h0
      change 128 * k.val + 8 * t.val ≤ 128 * k.val + 1 * (j 0).val ∧ 128 * k.val + 1 * (j 0).val < 128 * k.val + 8 * t.val + 8 at h0
      omega

/-- One trip. -/
theorem trip_wp (k : Fin 8) (t : Fin 16) (o : TripSpots) (hid : ∀ j, (o.row j).id.off = ![128 * k.val + 8 * t.val + j.val])
    (hrow : ∀ j w, (o.row j).off w = rowOf c w) (hok : ∀ j w, (o.row j).ok w) (ho : o.store.off = ![128 * k.val + 8 * t.val, 0]) :
    iprop(desk c I G ∗ upTo c I G k (8 * t.val)) ⊢ runs c (trip c o) fun _ => iprop(desk c I G ∗ upTo c I G k (8 * (t.val + 1))) := by
  have look : ∀ j : Fin 8, desk c I G ⊢ runs c (lookup c (o.row j)) fun r =>
      iprop(⌜r = gatheredRow c I G ⟨128 * k.val + 8 * t.val + j.val, by omega⟩⌝ ∗ desk c I G) :=
    fun j => lookup_wp c I G (o.row j) ⟨128 * k.val + 8 * t.val + j.val, by omega⟩ (hid j) (hrow j) (hok j)
  have hsub : o.store.rect.set ⊆ (ck8 k).set := by
    intro i hi
    rw [Rect.mem_set_unit] at hi ⊢
    intro a
    have h := hi a
    rw [ho] at h
    match a with
    | ⟨0, _⟩ =>
      change 128 * k.val + 8 * t.val ≤ (i 0).val ∧ (i 0).val < 128 * k.val + 8 * t.val + 8 at h
      change 128 * k.val ≤ (i 0).val ∧ (i 0).val < 128 * k.val + 128
      omega
    | ⟨1, _⟩ => exact h
  unfold trip upTo
  iintro ⟨HD, ⟨%X, %hX, HP⟩⟩
  iapply (runs_then c (look 0)) $$ HD
  iintro %r0 ⟨%h0, HD⟩
  iapply (runs_then c (look 1)) $$ HD
  iintro %r1 ⟨%h1, HD⟩
  iapply (runs_then c (look 2)) $$ HD
  iintro %r2 ⟨%h2, HD⟩
  iapply (runs_then c (look 3)) $$ HD
  iintro %r3 ⟨%h3, HD⟩
  iapply (runs_then c (look 4)) $$ HD
  iintro %r4 ⟨%h4, HD⟩
  iapply (runs_then c (look 5)) $$ HD
  iintro %r5 ⟨%h5, HD⟩
  iapply (runs_then c (look 6)) $$ HD
  iintro %r6 ⟨%h6, HD⟩
  iapply (runs_then c (look 7)) $$ HD
  iintro %r7 ⟨%h7, HD⟩
  iapply (runs_then c (load_sub_wp c part (ck8 k) o.store.rect (fun _ => rfl) hsub _ fullShare X)) $$ HP
  iintro %w HP
  iapply (runs_last c (store_sub_wp c part (ck8 k) o.store.rect (fun _ => rfl) hsub (stack r0 r1 r2 r3 r4 r5 r6 r7) _ _ X)) $$ HP
  iintro %_ ⟨%f, %hf, HP⟩
  isplitl [HD]; · iexact HD
  iexists _
  isplitr
  rotate_left
  · iexact HP
  · ipureintro
    intro j hj
    rw [store_rows c k t o.store ho f _ j, h0, h1, h2, h3, h4, h5, h6, h7]
    split
    case isTrue h =>
      refine (stack_apply (fun a => gatheredRow c I G ⟨128 * k.val + 8 * t.val + a.val, by omega⟩) _ (j 1)).trans ?_
      unfold gathered gatheredAt
      have e : (⟨128 * k.val + 8 * t.val + ((j 0).val - 8 * t.val), by omega⟩ : Fin 1024) = ⟨128 * k.val + (j 0).val, by omega⟩ :=
        Fin.ext (show 128 * k.val + 8 * t.val + ((j 0).val - 8 * t.val) = 128 * k.val + (j 0).val by omega)
      exact congrArg (fun n => gatheredRow c I G n (ix2 0 (j 1))) e
    case isFalse h =>
      rw [hf]
      exact hX j (by omega)

/-! ## A chunk -/

/-- The printed loop over a chunk's groups of eight rows runs sixteen times. -/
theorem sixteen_trips : k0_t1_loop.trips = 16 := by decide +kernel

/-- A chunk gathered. -/
theorem gather_wp (hp : Laid p) (k : Fin 8) :
    iprop(desk c I G ∗ ∃ X, has8 c part k fullShare X)
      ⊢ runs c (gather p c k) fun _ => iprop(desk c I G ∗ has8 c part k fullShare (gathered c I G k)) := by
  unfold gather runs
  refine .trans ?_ (Scf.wp_for frame (wpE (defs₀ (F := F)) 𝒱₀ (c : Thread nD τ) none) Set.univ k0_t1_loop.lb k0_t1_loop.ub
    k0_t1_loop.st k0_t1_ok (PUnit.unit : PUnit.{1}) _ (fun m _ => iprop(desk c I G ∗ upTo c I G k (8 * m))) fun t _ => ?_)
  · iintro ⟨HD, ⟨%X, HP⟩⟩
    isplitl
    · isplitl [HD]; · iexact HD
      unfold upTo
      iexists X
      isplitr
      · ipureintro
        intro j hj
        exact absurd hj (by omega)
      iexact HP
    · iintro %_ ⟨HD, HU⟩
      isplitl [HD]; · iexact HD
      unfold upTo
      icases HU with ⟨%X, %hX, HP⟩
      have e : X = gathered c I G k := funext fun j => hX j (by
        have h := sixteen_trips
        have hj : (j 0).val < 128 := (j 0).isLt
        exact lt_of_lt_of_eq hj (congrArg (8 * ·) h).symm)
      subst e
      iexact HP
  · exact trip_wp c I G k ⟨t.val, lt_of_lt_of_eq t.isLt sixteen_trips⟩ (p.trip k c t) (fun j => hp.id k c t j)
      (fun j w => hp.row k c t j w) (fun j w => hp.ok k c t j w) (hp.store k c t)

variable (pv : Parts F) (K : Dev nD × Cell → ℕ)

/-- What gathering a chunk and sending it along `x` takes, -/
def toGather (k : Fin 8) : sProp 𝕄 := iprop((∃ X, has8 c part k fullShare X) ∗ ready c (.x k))

/-- and leaves. -/
def gatherSent (k : Fin 8) : sProp 𝕄 := iprop(has8 c part k fullShare.right (pv c k) ∗ going c (.x k))

/-- A chunk gathered and sent. -/
theorem gatherSend_wp (hp : Laid p) (hpv : ∀ k, pv c k = gathered c I G k) (k : Fin 8) (L : List Lane) :
    iprop(facts pv K ∗ (debt c (.x k :: L) ∗ desk c I G) ∗ toGather c k)
      ⊢ runs c (gatherSend p c k) fun _ => iprop((debt c L ∗ desk c I G) ∗ gatherSent c pv k) := by
  unfold gatherSend toGather gatherSent
  iintro ⟨#HF, ⟨HO, HD⟩, HP, HR⟩
  iapply (runs_then c (gather_wp p c I G hp k)) $$ [HD HP]
  · isplitl [HD]; · iexact HD
    iexact HP
  iintro %_ ⟨HD, HP⟩
  ihave HP := (owns_split c (at8 part k) fullShare (gathered c I G k)) $$ HP
  icases HP with ⟨HP, HP'⟩
  iapply (runs_last c (send_wp pv K p hp c (.x k) L)) $$ [HO HP HR]
  · isplitr; · iexact HF
    isplitl [HO]; · iexact HO
    isplitl [HP]
    · iapply (Entails.of_eq (source_x pv c k).symm)
      rw [hpv k]
      iexact HP
    iexact HR
  iintro %_ ⟨HO, HG⟩
  isplitl [HO HD]
  · isplitl [HO]; · iexact HO
    iexact HD
  rw [hpv k]
  isplitl [HP']; · iexact HP'
  iexact HG

end Rows

end Cert.KernelIdealRun

end
-- ==== Proof.Rows.lean ====
/-
What a device makes of an id: the distance of the row it names from the first row of the device's half of the table, whether
that row is of the half, and the scale and the row the device looks up, as numbers.
-/
module

public import proofs.«01_k».proof.Proof.Gather
public import Idealize.ShloMosaic.Lib.IdealHost
public import Idealize.ShloMosaic.Lib.WordCmp
public import Idealize.ShloMosaic.Lib.ValueIdxCore

@[expose] public section

set_option maxRecDepth 4000

noncomputable section

namespace Cert.KernelIdealRun

open Cert.KernelIdeal Cert.KernelIdeal.Gen

open Idealize.ShloMosaic

/-! ## Halves -/

/-- The number of the half of the table a device holds. -/
def half (c : Dev nD) : ℕ := c.val / 8

/-- There are two halves. -/
theorem half_lt (c : Dev nD) : half c < 2 := by
  have h : c.val < 16 := c.isLt
  unfold half
  omega

/-- The neighbour along `x` holds the other one, -/
theorem half_xpeer : ∀ c : Dev nD, half (xpeer c) = 1 - half c := by decide

/-- and a half starts at row 0 or at row 8192. -/
theorem base_eq : ∀ c : Dev nD, base c = BitVec.ofNat 32 (8192 * half c) := by decide

/-! ## An id's distance from the first row of a half -/

variable (h : ℕ) (hh : h < 2) (w : BitVec 32) (hw : w.toNat < 16384)

include hh hw

/-- For an id of the table the distance, as a signed number, is the difference. -/
theorem distance : (w - BitVec.ofNat 32 (8192 * h)).toInt = (w.toNat : ℤ) - 8192 * h := by
  rw [BitVec.toInt_eq_toNat_cond, BitVec.toNat_sub, BitVec.toNat_ofNat]
  have e : 8192 * h % 2 ^ 32 = 8192 * h := Nat.mod_eq_of_lt (by omega)
  rw [e]
  split <;> omega

/-- Whether the row an id names is of the half, as the device asks it. -/
theorem inside : Scalar.andi (Scalar.cmpi .sge (Scalar.subi w (BitVec.ofNat 32 (8192 * h))) 0#32)
    (Scalar.cmpi .slt (Scalar.subi w (BitVec.ofNat 32 (8192 * h))) 8192#32) = BitVec.ofBool (decide (w.toNat / 8192 = h)) := by
  have hd := distance h hh w hw
  have h1 : Scalar.cmpi .sge (Scalar.subi w (BitVec.ofNat 32 (8192 * h))) 0#32 = BitVec.ofBool (decide (h ≤ w.toNat / 8192)) := by
    refine (WordCmp.cmpi_sge_eq (w - BitVec.ofNat 32 (8192 * h)) 0#32).trans (congrArg BitVec.ofBool (decide_eq_decide.mpr ?_))
    rw [hd, show (0#32 : BitVec 32).toInt = 0 from rfl]
    omega
  have h2 : Scalar.cmpi .slt (Scalar.subi w (BitVec.ofNat 32 (8192 * h))) 8192#32 = BitVec.ofBool (decide (w.toNat / 8192 ≤ h)) := by
    refine (WordCmp.cmpi_slt_eq (w - BitVec.ofNat 32 (8192 * h)) 8192#32).trans (congrArg BitVec.ofBool (decide_eq_decide.mpr ?_))
    rw [hd, show (8192#32 : BitVec 32).toInt = 8192 from rfl]
    omega
  rw [h1, h2]
  show BitVec.ofBool _ &&& BitVec.ofBool _ = _
  by_cases e : w.toNat / 8192 = h
  · rw [decide_eq_true (show h ≤ w.toNat / 8192 by omega), decide_eq_true (show w.toNat / 8192 ≤ h by omega), decide_eq_true e]
    rfl
  · rw [decide_eq_false e]
    by_cases e' : h ≤ w.toNat / 8192
    · rw [decide_eq_true e', decide_eq_false (show ¬ w.toNat / 8192 ≤ h by omega)]
      rfl
    · rw [decide_eq_false e', decide_eq_true (show w.toNat / 8192 ≤ h by omega)]
      rfl

/-- The scale is one when the row is of the half and zero when it is not. -/
theorem scale : inHalf (F := Ideal) (BitVec.ofNat 32 (8192 * h)) w = if w.toNat / 8192 = h then (1 : EReal) else 0 := by
  unfold inHalf
  rw [inside h hh w hw]
  by_cases e : w.toNat / 8192 = h
  · rw [if_pos e, decide_eq_true e]
    exact Ideal.ofBits_one_f32
  · rw [if_neg e, decide_eq_false e]
    exact Ideal.ofBits_zero_f32

omit hh

/-- The row looked up is the id's own row of the half, when it is of the half. -/
theorem row_found (c : Dev nD) (hc : w.toNat / 8192 = half c) : rowOf c w = ![w.toNat % 8192, 0] := by
  have e : rowOf c w = ![(Scalar.select (Scalar.andi (Scalar.cmpi .sge (Scalar.subi w (base c)) 0#32)
      (Scalar.cmpi .slt (Scalar.subi w (base c)) 8192#32)) (Scalar.subi w (base c)) (0#32 : BitVec 32)).toNat, 0] := rfl
  rw [e, base_eq, inside (half c) (half_lt c) w hw, decide_eq_true hc]
  have e2 : (w - BitVec.ofNat 32 (8192 * half c)).toNat = w.toNat % 8192 := by
    have := half_lt c
    rw [BitVec.toNat_sub, BitVec.toNat_ofNat, Nat.mod_eq_of_lt (show 8192 * half c < 2 ^ 32 by omega)]
    omega
  exact congrArg (fun n : ℕ => (![n, 0] : Fin 2 → ℕ)) e2

end Cert.KernelIdealRun

end
-- ==== Proof.Staging.lean ====
/-
The start of a run: the device's quarter of its half of the table staged in four slabs, and the handshake by which each
device gives its neighbours leave to write to it.
-/
module

public import proofs.«01_k».proof.Proof.Gather

@[expose] public section

set_option maxRecDepth 4000

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The staged quarter -/

/-- The rows of slab `s` in the staged quarter. -/
abbrev stgRect (s : Fin 4) : Rect S8192x256 :=
  Rect.unit (s := S8192x256) ![2048 * s.val, 0] S2048x256.size (by fin_cases s <;> decide)

/-- The four slabs are apart, -/
theorem stgRect_disjoint (s s' : Fin 4) (h : s ≠ s') : Disjoint (stgRect s).set (stgRect s').set := by
  rw [Finset.disjoint_left]
  intro i hi hi'
  rw [Rect.mem_set_unit] at hi hi'
  have h0 := hi 0
  have h0' := hi' 0
  change 2048 * s.val ≤ (i 0).val ∧ (i 0).val < 2048 * s.val + 2048 at h0
  change 2048 * s'.val ≤ (i 0).val ∧ (i 0).val < 2048 * s'.val + 2048 at h0'
  exact h (Fin.ext (by omega))

/-- and make up the whole. -/
theorem stgRect_cover : (Finset.univ : Finset (Fin 4)).biUnion (fun s => (stgRect s).set) = Finset.univ := by
  ext i
  rw [Finset.mem_biUnion]
  refine ⟨fun _ => Finset.mem_univ i, fun _ => ?_⟩
  have h0 : (i 0).val < 8192 := (i 0).isLt
  have h1 : (i 1).val < 256 := (i 1).isLt
  refine ⟨⟨(i 0).val / 2048, by omega⟩, Finset.mem_univ _, ?_⟩
  rw [Rect.mem_set_unit]
  intro a
  match a with
  | ⟨0, _⟩ =>
    change 2048 * ((i 0).val / 2048) ≤ (i 0).val ∧ (i 0).val < 2048 * ((i 0).val / 2048) + 2048
    omega
  | ⟨1, _⟩ =>
    change 0 ≤ (i 1).val ∧ (i 1).val < 0 + 256
    omega

/-- The contents of a device's half of the table. -/
abbrev Half (F : FTy → Type) [FloatOps F] : Type := S8192x1024.Idx → Elt F .f32

/-- The quarter of it the device stages: its columns from 256 times the quarter's number on. -/
def quarterCol (c : Dev nD) (b : Fin 256) : Fin 1024 := ⟨256 * (quarterOf c .own).val + b.val, by
  have := (quarterOf c .own).isLt
  omega⟩

/-- The staged quarter: these columns of the device's half of the table. -/
def stageOf (c : Dev nD) (T : Half F) : Stage F := fun i => T (ix2 (i 0) (quarterCol c (i 1)))

section Staging

variable (p : Places) (c : Dev nD) (T : Half F) (q : PosShare TreeShare) (s : Fin 4)

/-- The semaphore of a slab's transfer. -/
abbrev slabSem : SemLoc sig := .dma (sem4 cc0_scratch8 s)

/-- A slab's transfer is worth more than nothing. -/
theorem slab_amount : 0 < (slabDst s).view.dmaCredit := View.dmaCredit_pos _ (by decide)

/-- What starting a slab's transfer takes, -/
def toStage : sProp 𝕄 :=
  iprop(owns (c : Thread nD τ) tab q T ∗ (∃ Y, owns (c : Thread nD τ) (slabDst s) fullShare Y) ∗ semVal ((c : Thread nD τ), slabSem s) 0)

/-- what is in flight, -/
def staging : sProp 𝕄 :=
  iprop(∃ (f : Buf (Elt F) ((slabSrc p c s).view.loc (c : Thread nD τ))) (fd : Buf (Elt F) ((slabDst s).view.loc (c : Thread nD τ))),
    ⌜tab.view.read (Elt F) f = T⌝
    ∗ Transfers.Flight countersEmb (c : Thread nD τ) (slabSem s) () ((slabDst s).view.dmaCredit)
        iprop(((slabDst s).view.loc (c : Thread nD τ) ↦[(slabDst s).view.set]{fullShare}
            ((slabDst s).view.write (Elt F) fd ((slabSrc p c s).view.read (Elt F) f) Finset.univ))
          ∗ ((slabSrc p c s).view.loc (c : Thread nD τ) ↦[(slabSrc p c s).view.set]{q} f))
    ∗ (tab.view.loc (c : Thread nD τ) ↦[tab.view.set \ (slabSrc p c s).view.set]{q} f))

/-- and what its end gives. -/
def staged : sProp 𝕄 :=
  iprop(owns (c : Thread nD τ) tab q T ∗ owns (c : Thread nD τ) (slabDst s) fullShare (fun j => T ((p.slab s c).rect.emb j))
    ∗ semVal ((c : Thread nD τ), slabSem s) 0)

/-- A slab's transfer started, -/
theorem startSlab_wp : toStage c T q s ⊢ runs c (startSlab p c s) fun _ => staging p c T q s := by
  have hsub : (slabSrc p c s).view.set ⊆ tab.view.set := View.set_slice_subset _ _
  unfold startSlab toStage owns runs
  rw [Prog.lift]
  iintro ⟨⟨%f, %hf, HT⟩, ⟨%Y, %fd, %hY, HD⟩, HV⟩
  ihave HT := (pointsTo_split_subset hsub).1 $$ HT
  icases HT with ⟨HT, HR⟩
  iapply (Transfers.wp_dmaLocal countersEmb 𝒱₀ (c : Thread nD τ) none (src := slabSrc p c s) (dst := slabDst s) (q := q) (fs := f) (fd := fd)
    (Sd := (slabDst s).view.set) () ((slabDst s).view.dmaCredit) rfl (slab_amount s) (Finset.Subset.refl _)) $$ [HT HD HV]
  · isplitl [HT]; · iexact HT
    isplitl [HD]; · iexact HD
    iexact HV
  iintro HF
  rw [wp_ret]
  imodintro
  unfold staging
  iexists f, fd
  isplitr; · ipureintro; exact hf
  isplitl [HF]; · iexact HF
  iexact HR

variable (pv : Parts F) (K : Dev nD × Cell → ℕ)

/-- A slab's semaphore is no cell of the protocol. -/
theorem cellOfSem_slab : cellOfSem (slabSem s) = none := by
  by_contra hn
  obtain ⟨k, hk⟩ := Option.ne_none_iff_exists'.mp hn
  exact slabSem_ne s k ((Function.partialInv_of_injective cellSem_injective k (slabSem s)).mp hk).symm

/-- and awaited. -/
theorem awaitSlab_wp (L : List Lane) :
    iprop(facts pv K ∗ debt c L ∗ staging p c T q s) ⊢ runs c (awaitSlab p c s) fun _ => iprop(debt c L ∗ staged p c T q s) := by
  have hsub : (slabSrc p c s).view.set ⊆ tab.view.set := View.set_slice_subset _ _
  unfold awaitSlab debt staging staged owns runs
  rw [Prog.lift]
  iintro ⟨#HF, ⟨%W, HO⟩, ⟨%f, %fd, %hf, HG, HR⟩⟩
  iapply (Transfers.wp_waitLocalO countersEmb 𝒱₀ (c : Thread nD τ) none () rfl (O := owedL c L) (W := W)) $$ [HO HG]
  · isplitl [HG]; · iexact HG
    isplitl [HO]; · iexact HO
    iapply (facts_mayWait pv K c (slabSem s) L (by
      rw [cellOfSem_slab]; exact fun l _ => Nat.lt_of_lt_of_le (by decide) (two_le_laneLevel l)))
    iexact HF
  iintro ⟨⟨HD, HT⟩, HV, HO⟩
  rw [wp_ret]
  imodintro
  isplitl [HO]; · iexists _; iexact HO
  isplitl [HT HR]
  · iexists f
    isplitr; · ipureintro; exact hf
    iapply (pointsTo_split_subset hsub).2
    isplitl [HT]; · iexact HT
    iexact HR
  isplitl [HD]
  · iexists _
    isplitr
    rotate_left
    · iexact HD
    · ipureintro
      rw [View.read_write_univ]
      subst hf
      rfl
  iexact HV

end Staging

/-- The four slabs are the staged quarter. -/
theorem staged_whole (p : Places) (hp : Laid p) (c : Dev nD) (T : Half F) :
    (bigSep Finset.univ fun s : Fin 4 => owns (c : Thread nD τ) (slabDst s) fullShare (fun j => T ((p.slab s c).rect.emb j)))
      ⊢ (owns (c : Thread nD τ) stg fullShare (stageOf c T) : sProp 𝕄) := by
  have e (s : Fin 4) (j : S2048x256.Idx) : T ((p.slab s c).rect.emb j) = stageOf c T ((stgRect s).emb j) := by
    refine congrArg T (funext fun a => Fin.ext ?_)
    rw [Rect.emb_apply, Rect.off_unit, Rect.stride_unit, hp.slab]
    match a with
    | ⟨0, _⟩ => rfl
    | ⟨1, _⟩ =>
      change 256 * (quarterOf c .own).val + 1 * (j 1).val = 256 * (quarterOf c .own).val + (0 + 1 * (j 1).val)
      omega
  refine .trans (Entails.of_eq (bigSep_congr fun s _ => ?_))
    (owns_of_rects (c : Thread nD τ) stg fullShare stgRect (fun _ _ => rfl) stgRect_disjoint stgRect_cover (stageOf c T))
  exact congrArg (fun X : S2048x256.Idx → Elt F .f32 => (owns (c : Thread nD τ) (slabDst s) fullShare X : sProp 𝕄)) (funext (e s))

/-! ## The handshake -/

section Greet

variable (pv : Parts F) (K : Dev nD × Cell → ℕ) (c : Dev nD)

/-- The landing chunks along an axis handed to the neighbour there. -/
theorem signal_wp (d : Fin 3) (n : Dev nD) (hn : n = near d c) (O : CellTallies nD τ sig Unit) :
    iprop(facts pv K ∗ (∃ W, owes (c : Thread nD τ) (O + tallyAt (barCell (near d c)) () 1) W) ∗ dutyTok ER (barCell (near d c)) 0 d
        ∗ bigSep (along d) fun l => landing c l)
      ⊢ runs c (semSignalWord n bar 1#32) fun _ => iprop(∃ W, owes (c : Thread nD τ) O W) := by
  subst hn
  unfold runs semSignalWord
  iintro ⟨#HF, ⟨%W, HO⟩, HT, HL⟩
  iapply (Rounds.wp_signal 𝒱₀ ER (sched pv) (c : Thread nD τ) none (dst := (near d c : Thread nD τ)) (κ := K (near d c, none))
      (d := d) (r := 0) (duty_bar pv (near d c) d) ((amount_kcell pv (near d c) none d).trans (by decide)) () O rfl (W := W)) $$ [HO HT HL]
  · isplitr; · iapply (facts_inv pv K (near d c, none)); iexact HF
    isplitl [HO]; · iexact HO
    isplitl [HT]; · iexact HT
    isplitl [HL]
    · iapply (Entails.of_eq (show (bigSep (along d) fun l => landing c l) = (sched pv).payload ((near d c : Thread nD τ), .reg bar) 0 d from
        (congrArg (fun e : Dev nD => (bigSep (along d) fun l => landing e l : sProp 𝕄)) (near_near d c).symm).trans
          (payload_kcell pv (near d c) none d).symm))
      iexact HL
    iapply (facts_reached pv K (near d c, none)); iexact HF
  iintro HO
  rw [wp_ret]
  imodintro
  iexists W
  iexact HO

/-- Something for each of the three axes. -/
theorem bigSep_three (Φ : Fin 3 → sProp 𝕄) : bigSep Finset.univ Φ = iprop(Φ 0 ∗ Φ 1 ∗ Φ 2) :=
  bigSep_univ_eq_bigSepL [0, 1, 2] (by decide) (by decide) Φ

/-- What the handshake takes -/
def toGreet : sProp 𝕄 :=
  iprop((∃ W, owes (c : Thread nD τ) (owed₀ c) W)
    ∗ (bigSep Finset.univ fun d : Fin 3 => iprop(dutyTok ER (barCell (near d c)) 0 d ∗ bigSep (along d) fun l => landing c l))
    ∗ cred (tallyAt (barCell c) () 3) ∗ atPos ER (barCell c) 0 ∅ 0)

/-- and leaves. -/
def greeted : sProp 𝕄 :=
  iprop(debt c order ∗ (bigSep Finset.univ fun l : Lane => landing (peer l c) l) ∗ semVal (barCell c) 0)

/-- The handshake: a unit to each neighbour's barrier with the chunks that are to be filled from there, and three units
    awaited. -/
theorem greet_wp (p : Places) (hp : Laid p) : iprop(facts pv K ∗ toGreet c) ⊢ runs c (greet p c) fun _ => greeted c := by
  unfold greet toGreet owed₀ greeted
  rw [bigSep_three]
  iintro ⟨#HF, HO, ⟨⟨HT0, HL0⟩, ⟨HT1, HL1⟩, ⟨HT2, HL2⟩⟩, HC, HA⟩
  iapply (runs_then c (signal_wp pv K c 0 (p.barX c) (hp.barX c) _)) $$ [HO HT0 HL0]
  · isplitr; · iexact HF
    isplitl [HO]; · iexact HO
    isplitl [HT0]; · iexact HT0
    iexact HL0
  iintro %_ HO
  iapply (runs_then c (signal_wp pv K c 1 (p.barY c) (hp.barY c) _)) $$ [HO HT1 HL1]
  · isplitr; · iexact HF
    isplitl [HO]; · iexact HO
    isplitl [HT1]; · iexact HT1
    iexact HL1
  iintro %_ HO
  iapply (runs_then c (signal_wp pv K c 2 (p.barZ c) (hp.barZ c) _)) $$ [HO HT2 HL2]
  · isplitr; · iexact HF
    isplitl [HO]; · iexact HO
    isplitl [HT2]; · iexact HT2
    iexact HL2
  iintro %_ ⟨%W, HO⟩
  unfold runs semWaitWord
  iapply (Rounds.wp_wait_rest_token 𝒱₀ ER (sched pv) (c : Thread nD τ) none (sm := cellSem none) (κ := K (c, none))
      (wpE_semWait_eq 𝒱₀ (c : Thread nD τ) none Set.univ) (Set.mem_univ _) () (O := owedL c order) (W := W) (R := 0) (m := 0) (T := ∅)
      (by rw [Nat.zero_add]; exact (expect_bar pv c).symm ▸ (by decide))) $$ [HC HO HA]
  · isplitr; · iapply (facts_inv pv K (c, none)); iexact HF
    isplitl [HC]; · iexact HC
    isplitl [HO]; · iexact HO
    isplitr
    · iapply (facts_mayWait pv K c (cellSem none) order (by
        rw [cellOfSem_cellSem]; exact fun l _ => Nat.lt_of_lt_of_le (by decide) (two_le_laneLevel l)))
      iexact HF
    iexact HA
  iintro ⟨HO, HA, -, HP⟩
  ihave HP := (Entails.of_eq (rest_bar pv c)) $$ HP
  imod (Rounds.cell_close ER (sched pv) (Set.mem_univ (K (c, none))) (fun h => h) (R := 0 + 1) (duties_later pv (barCell c))) $$ [HA] with HZ
  · isplitr; · iapply (facts_inv pv K (c, none)); iexact HF
    iexact HA
  rw [wp_ret]
  imodintro
  isplitl [HO]; · unfold debt; iexists _; iexact HO
  isplitl [HP]; · iexact HP
  iexact HZ

end Greet

end Cert.KernelIdealRun

end
-- ==== Proof.Buffers.lean ====
/-
The buffers cut into the pieces the kernel's steps work on, and put together again: the chunks of the scratch buffers, the
slabs of the staged quarter, the blocks of the result, and the shares of the table.
-/
module

public import proofs.«01_k».proof.Proof.Staging

@[expose] public section

set_option maxRecDepth 4000

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Lists of resources -/

section Lists

variable {M : Type _} [URA M] {I : Type _}

/-- Two resources for each member of a list, as one list each. -/
theorem bigSepL_sep (l : List I) (A B : I → sProp M) :
    bigSepL l (fun k => iprop(A k ∗ B k)) = iprop(bigSepL l A ∗ bigSepL l B) := by
  induction l with
  | nil => exact (equiv_iff.mp emp_sep).symm
  | cons i l ih =>
    rw [bigSepL_cons', bigSepL_cons', bigSepL_cons', ih]
    have h : iprop((A i ∗ B i) ∗ bigSepL l A ∗ bigSepL l B) ⊢ (iprop((A i ∗ bigSepL l A) ∗ B i ∗ bigSepL l B) : sProp M) := by
      iintro ⟨⟨H1, H2⟩, H3, H4⟩
      isplitl [H1 H3]
      · isplitl [H1]; · iexact H1
        iexact H3
      isplitl [H2]; · iexact H2
      iexact H4
    have h' : iprop((A i ∗ bigSepL l A) ∗ B i ∗ bigSepL l B) ⊢ (iprop((A i ∗ B i) ∗ bigSepL l A ∗ bigSepL l B) : sProp M) := by
      iintro ⟨⟨H1, H3⟩, H2, H4⟩
      isplitl [H1 H2]
      · isplitl [H1]; · iexact H1
        iexact H2
      isplitl [H3]; · iexact H3
      iexact H4
    exact h.antisymm h'

/-- Something for each chunk: for each of the first four, and for each of the others. -/
theorem halves (A : Fin 8 → sProp M) :
    bigSepL eight A = iprop((bigSepL four fun k => A (lo k)) ∗ bigSepL four fun k => A (hi k)) := by
  rw [show eight = four.map lo ++ four.map hi by decide, bigSepL_append, bigSepL_map, bigSepL_map]

/-- Something for each of the eight chunks, as a list. -/
theorem all_eight (A : Fin 8 → sProp M) : bigSep Finset.univ A = bigSepL eight A :=
  bigSep_univ_eq_bigSepL eight (by decide) (by decide) A

/-- Something for each of the four, as a list. -/
theorem all_four (A : Fin 4 → sProp M) : bigSep Finset.univ A = bigSepL four A :=
  bigSep_univ_eq_bigSepL four (by decide) (by decide) A

/-- Something for each lane. -/
theorem all_lanes (A : Lane → sProp M) :
    bigSep Finset.univ A = iprop((bigSepL eight fun k => A (.x k)) ∗ (bigSepL eight fun k => A (.y k)) ∗ (bigSepL eight fun k => A (.z k))
      ∗ (bigSepL four fun k => A (.u k)) ∗ bigSepL four fun k => A (.v k)) := by
  rw [bigSep_univ_eq_bigSepL (eight.map Lane.x ++ (eight.map .y ++ (eight.map .z ++ (four.map .u ++ four.map .v)))) (by decide) (by decide) A,
    bigSepL_append, bigSepL_append, bigSepL_append, bigSepL_append, bigSepL_map, bigSepL_map, bigSepL_map, bigSepL_map, bigSepL_map]

/-- Something for each quarter. -/
theorem all_quarters (A : Quarter → sProp M) : bigSep Finset.univ A = iprop(A .own ∗ A .byZ ∗ A .byY ∗ A .across) :=
  bigSep_univ_eq_bigSepL [Quarter.own, .byZ, .byY, .across] (by decide) (by decide) A

end Lists

/-! ## Buffers and their pieces -/

section Pieces

variable (c : Dev nD) {sp : Space} {s : Shape} {e : EltTy} (m : Memref sig .tc sp s e) {T : Type} [Fintype T] [DecidableEq T]
  (r : T → Rect s) (hr : ∀ t a, (r t).stride a = 1) (hd : ∀ t t', t ≠ t' → Disjoint (r t).set (r t').set)
  (hcov : (Finset.univ : Finset T).biUnion (fun t => (r t).set) = Finset.univ)

include hd hcov

/-- A buffer is its pieces, -/
theorem pieces :
    iprop(∃ Y, owns (c : Thread nD τ) m fullShare Y)
      ⊢ (bigSep Finset.univ fun t => iprop(∃ X, owns (c : Thread nD τ) (m.slice (r t) (hr t)) fullShare X) : sProp 𝕄) := by
  have h (Y : s.Idx → Elt F e) (t : T) : owns (c : Thread nD τ) (m.slice (r t) (hr t)) fullShare (fun j => Y ((r t).emb j))
      ⊢ (iprop(∃ X, owns (c : Thread nD τ) (m.slice (r t) (hr t)) fullShare X) : sProp 𝕄) := by
    iintro H
    iexists _
    iexact H
  have h' (Y : s.Idx → Elt F e) : owns (c : Thread nD τ) m fullShare Y
      ⊢ (bigSep Finset.univ fun t => iprop(∃ X, owns (c : Thread nD τ) (m.slice (r t) (hr t)) fullShare X) : sProp 𝕄) :=
    (owns_rects (c : Thread nD τ) m fullShare r hr hd hcov Y).trans (bigSep_mono fun t _ => h Y t)
  iintro ⟨%Y, H⟩
  iapply (h' Y)
  iexact H

/-- and back, when `Y` is what the pieces hold, -/
theorem whole (X : (t : T) → (r t).shape.Idx → Elt F e) (Y : s.Idx → Elt F e) (hY : ∀ t j, Y ((r t).emb j) = X t j) :
    (bigSep Finset.univ fun t => owns (c : Thread nD τ) (m.slice (r t) (hr t)) fullShare (X t))
      ⊢ (owns (c : Thread nD τ) m fullShare Y : sProp 𝕄) := by
  refine .trans (Entails.of_eq (bigSep_congr fun t _ => ?_)) (owns_of_rects (c : Thread nD τ) m fullShare r hr hd hcov Y)
  exact congrArg (fun X : (r t).shape.Idx → Elt F e => (owns (c : Thread nD τ) (m.slice (r t) (hr t)) fullShare X : sProp 𝕄))
    (funext fun j => (hY t j).symm)

/-- whatever they hold. -/
theorem whole_any (X : (t : T) → (r t).shape.Idx → Elt F e) :
    (bigSep Finset.univ fun t => owns (c : Thread nD τ) (m.slice (r t) (hr t)) fullShare (X t))
      ⊢ (iprop(∃ Y, owns (c : Thread nD τ) m fullShare Y) : sProp 𝕄) := by
  have setIn (t : T) (j : (r t).shape.Idx) : (r t).emb j ∈ (r t).set := by
    rw [← Rect.map_emb_univ]; exact Finset.mem_map_of_mem _ (Finset.mem_univ j)
  have ex (i : s.Idx) : ∃ (t : T) (j : (r t).shape.Idx), (r t).emb j = i := by
    obtain ⟨t, -, h⟩ := Finset.mem_biUnion.mp (hcov.symm ▸ Finset.mem_univ i)
    rw [← Rect.map_emb_univ] at h
    obtain ⟨j, -, hj⟩ := Finset.mem_map.mp h
    exact ⟨t, j, hj⟩
  choose tt jj hj using ex
  have hY (t : T) (j : (r t).shape.Idx) : X (tt ((r t).emb j)) (jj ((r t).emb j)) = X t j := by
    have key (t' : T) (j' : (r t').shape.Idx) (h : (r t').emb j' = (r t).emb j) : X t' j' = X t j := by
      obtain rfl : t' = t := by
        by_contra hne
        have m1 : (r t').emb j' ∈ (r t').set := setIn t' j'
        have m2 : (r t').emb j' ∈ (r t).set := by rw [h]; exact setIn t j
        exact Finset.disjoint_left.mp (hd t' t hne) m1 m2
      exact congrArg (X t') ((r t').emb.injective h)
    exact key _ _ (hj _)
  iintro H
  iexists fun i => X (tt i) (jj i)
  iapply (whole c m r hr hd hcov X _ hY)
  iexact H

end Pieces

variable (c : Dev nD)

/-! ## Chunks -/

/-- Stripes of `h` rows are apart, -/
theorem stripes_disjoint {n w h : ℕ} {T : Type} (r : T → Rect ⟨2, ![n, w]⟩) (v : T → ℕ) (hv : ∀ t t', v t = v t' → t = t')
    (hs : ∀ t i, i ∈ (r t).set → h * v t ≤ (i 0).val ∧ (i 0).val < h * v t + h) (t t' : T) (hne : t ≠ t') :
    Disjoint (r t).set (r t').set := by
  rw [Finset.disjoint_left]
  intro i hi hi'
  have h1 := hs t i hi
  have h2 := hs t' i hi'
  refine hne (hv t t' ?_)
  rcases Nat.lt_trichotomy (v t) (v t') with hlt | heq | hgt
  · have := Nat.mul_le_mul_left h (Nat.succ_le_of_lt hlt)
    rw [Nat.mul_succ] at this
    omega
  · exact heq
  · have := Nat.mul_le_mul_left h (Nat.succ_le_of_lt hgt)
    rw [Nat.mul_succ] at this
    omega

/-- A place is in chunk `k` of eight when its row is one of the 128 from `128 k` on. -/
theorem mem_ck8 (k : Fin 8) (i : S1024x256.Idx) : i ∈ (ck8 k).set ↔ 128 * k.val ≤ (i 0).val ∧ (i 0).val < 128 * k.val + 128 := by
  rw [Rect.mem_set_unit]
  refine ⟨fun h => h 0, fun h a => ?_⟩
  match a with
  | ⟨0, _⟩ => exact h
  | ⟨1, _⟩ => exact ⟨Nat.zero_le _, lt_of_lt_of_eq (i 1).isLt (Nat.zero_add 256).symm⟩

/-- And so it is with four chunks. -/
theorem mem_ck4 (k : Fin 4) (i : S512x256.Idx) : i ∈ (ck4 k).set ↔ 128 * k.val ≤ (i 0).val ∧ (i 0).val < 128 * k.val + 128 := by
  rw [Rect.mem_set_unit]
  refine ⟨fun h => h 0, fun h a => ?_⟩
  match a with
  | ⟨0, _⟩ => exact h
  | ⟨1, _⟩ => exact ⟨Nat.zero_le _, lt_of_lt_of_eq (i 1).isLt (Nat.zero_add 256).symm⟩

/-- Two chunks of eight have no place in common. -/
theorem ck8_disjoint (k k' : Fin 8) (h : k ≠ k') : Disjoint (ck8 k).set (ck8 k').set :=
  stripes_disjoint (h := 128) ck8 (fun k => k.val) (fun _ _ => Fin.ext) (fun k i => (mem_ck8 k i).mp) k k' h

/-- Nor have two of four. -/
theorem ck4_disjoint (k k' : Fin 4) (h : k ≠ k') : Disjoint (ck4 k).set (ck4 k').set :=
  stripes_disjoint (h := 128) ck4 (fun k => k.val) (fun _ _ => Fin.ext) (fun k i => (mem_ck4 k i).mp) k k' h

/-- The eight chunks are the whole buffer. -/
theorem ck8_cover : (Finset.univ : Finset (Fin 8)).biUnion (fun k => (ck8 k).set) = Finset.univ := by
  ext i
  refine ⟨fun _ => Finset.mem_univ i, fun _ => Finset.mem_biUnion.mpr ?_⟩
  have h : (i 0).val < 1024 := (i 0).isLt
  refine ⟨⟨(i 0).val / 128, by omega⟩, Finset.mem_univ _, (mem_ck8 _ i).mpr ?_⟩
  show 128 * ((i 0).val / 128) ≤ (i 0).val ∧ (i 0).val < 128 * ((i 0).val / 128) + 128
  omega

/-- And so are the four. -/
theorem ck4_cover : (Finset.univ : Finset (Fin 4)).biUnion (fun k => (ck4 k).set) = Finset.univ := by
  ext i
  refine ⟨fun _ => Finset.mem_univ i, fun _ => Finset.mem_biUnion.mpr ?_⟩
  have h : (i 0).val < 512 := (i 0).isLt
  refine ⟨⟨(i 0).val / 128, by omega⟩, Finset.mem_univ _, (mem_ck4 _ i).mpr ?_⟩
  show 128 * ((i 0).val / 128) ≤ (i 0).val ∧ (i 0).val < 128 * ((i 0).val / 128) + 128
  omega

/-- A buffer of eight chunks, whatever it holds. -/
def some8 (b : Memref sig .tc .vmem S1024x256 .bf16) : sProp 𝕄 := iprop(∃ Y, owns (c : Thread nD τ) b fullShare Y)
/-- A buffer of four. -/
def some4 (b : Memref sig .tc .vmem S512x256 .bf16) : sProp 𝕄 := iprop(∃ Y, owns (c : Thread nD τ) b fullShare Y)

/-- A buffer of eight chunks is cut into them, -/
theorem split8 (b : Memref sig .tc .vmem S1024x256 .bf16) :
    some8 (F := F) c b ⊢ bigSepL eight fun k => iprop(∃ X, has8 c b k fullShare X) := by
  rw [← all_eight]
  exact pieces c b ck8 (fun _ _ => rfl) ck8_disjoint ck8_cover

/-- and one of four into four. -/
theorem split4 (b : Memref sig .tc .vmem S512x256 .bf16) :
    some4 (F := F) c b ⊢ bigSepL four fun k => iprop(∃ X, has4 c b k fullShare X) := by
  rw [← all_four]
  exact pieces c b ck4 (fun _ _ => rfl) ck4_disjoint ck4_cover

/-- Eight chunks, whatever each holds, are put together to a buffer, -/
theorem join8 (b : Memref sig .tc .vmem S1024x256 .bf16) (X : Fin 8 → Chunk F) :
    (bigSepL eight fun k => has8 c b k fullShare (X k)) ⊢ some8 c b := by
  rw [← all_eight]
  exact whole_any c b ck8 (fun _ _ => rfl) ck8_disjoint ck8_cover X

/-- and so are four. -/
theorem join4 (b : Memref sig .tc .vmem S512x256 .bf16) (X : Fin 4 → Chunk F) :
    (bigSepL four fun k => has4 c b k fullShare (X k)) ⊢ some4 c b := by
  rw [← all_four]
  exact whole_any c b ck4 (fun _ _ => rfl) ck4_disjoint ck4_cover X

/-- The staged quarter in slabs. -/
theorem split_stage :
    iprop(∃ Y, owns (c : Thread nD τ) stg fullShare Y)
      ⊢ (bigSepL four fun s => iprop(∃ Y, owns (c : Thread nD τ) (slabDst s) fullShare Y) : sProp 𝕄) := by
  rw [← all_four]
  exact pieces c stg stgRect (fun _ _ => rfl) stgRect_disjoint stgRect_cover

/-! ## The result -/

/-- The quarter of the result that is numbered `n`. -/
def quarterAt (n : Fin 4) : Quarter := Classical.choose (quarterOf_surjective c n)

/-- The quarter with the number of quarter `q` is `q`, -/
theorem quarterAt_of (q : Quarter) : quarterAt c (quarterOf c q) = q :=
  quarterOf_injective c _ _ (Classical.choose_spec (quarterOf_surjective c (quarterOf c q)))

/-- and the number of the quarter numbered `n` is `n`. -/
theorem quarterOf_at (n : Fin 4) : quarterOf c (quarterAt c n) = n := Classical.choose_spec (quarterOf_surjective c n)

variable (pv : Parts F) (p : Places) (hp : Laid p)

/-- An element of the result: its quarter, its chunk, and its place in the chunk. -/
def outAt (i : Fin 1024) (j : Fin 1024) : F .bf16 :=
  outChunk pv c (quarterAt c ⟨j.val / 256, by omega⟩) ⟨i.val / 128, by omega⟩
    (ix2 (⟨i.val % 128, Nat.mod_lt _ (by decide)⟩ : Fin 128) (⟨j.val % 256, Nat.mod_lt _ (by decide)⟩ : Fin 256))

/-- The result. -/
def outOf : S1024x1024.Idx → Elt F .bf16 := fun i => outAt c pv (i 0) (i 1)

/-- Block `t` of the result: a quarter of the columns of a chunk of the rows. -/
abbrev outRect (t : Quarter × Fin 8) : Rect S1024x1024 := (p.out t.1 t.2 c).rect

include hp in
/-- A place is in a block when its row is of the chunk and its column of the quarter. -/
theorem mem_out (t : Quarter × Fin 8) (i : S1024x1024.Idx) :
    i ∈ (outRect c p t).set ↔ (128 * t.2.val ≤ (i 0).val ∧ (i 0).val < 128 * t.2.val + 128)
      ∧ 256 * (quarterOf c t.1).val ≤ (i 1).val ∧ (i 1).val < 256 * (quarterOf c t.1).val + 256 := by
  rw [Rect.mem_set_unit, hp.out]
  refine ⟨fun h => ⟨h 0, h 1⟩, fun h a => ?_⟩
  match a with
  | ⟨0, _⟩ => exact h.1
  | ⟨1, _⟩ => exact h.2

include hp in
/-- Two blocks have no place in common. -/
theorem out_disjoint (t t' : Quarter × Fin 8) (h : t ≠ t') : Disjoint (outRect c p t).set (outRect c p t').set := by
  rw [Finset.disjoint_left]
  intro i hi hi'
  have h1 := (mem_out c p hp t i).mp hi
  have h2 := (mem_out c p hp t' i).mp hi'
  exact h (Prod.ext (quarterOf_injective c _ _ (Fin.ext (by omega))) (Fin.ext (by omega)))

include hp in
/-- The 32 blocks are the whole result. -/
theorem out_cover : (Finset.univ : Finset (Quarter × Fin 8)).biUnion (fun t => (outRect c p t).set) = Finset.univ := by
  ext i
  refine ⟨fun _ => Finset.mem_univ i, fun _ => Finset.mem_biUnion.mpr ?_⟩
  have h0 : (i 0).val < 1024 := (i 0).isLt
  have h1 : (i 1).val < 1024 := (i 1).isLt
  refine ⟨(quarterAt c ⟨(i 1).val / 256, by omega⟩, ⟨(i 0).val / 128, by omega⟩), Finset.mem_univ _, (mem_out c p hp _ i).mpr ?_⟩
  rw [quarterOf_at]
  show (128 * ((i 0).val / 128) ≤ (i 0).val ∧ (i 0).val < 128 * ((i 0).val / 128) + 128)
    ∧ 256 * ((i 1).val / 256) ≤ (i 1).val ∧ (i 1).val < 256 * ((i 1).val / 256) + 256
  omega

/-- A place of a block. -/
theorem outAt_block (q : Quarter) (k : Fin 8) (a : Fin 128) (b : Fin 256) (i j : Fin 1024) (hi : i.val = 128 * k.val + a.val)
    (hj : j.val = 256 * (quarterOf c q).val + b.val) : outAt c pv i j = outChunk pv c q k (ix2 a b) := by
  have e1 : (⟨j.val / 256, by omega⟩ : Fin 4) = quarterOf c q := Fin.ext (by show j.val / 256 = _; omega)
  have e2 : (⟨i.val / 128, by omega⟩ : Fin 8) = k := Fin.ext (by show i.val / 128 = _; omega)
  have e3 : (⟨i.val % 128, Nat.mod_lt _ (by decide)⟩ : Fin 128) = a := Fin.ext (by show i.val % 128 = _; omega)
  have e4 : (⟨j.val % 256, Nat.mod_lt _ (by decide)⟩ : Fin 256) = b := Fin.ext (by show j.val % 256 = _; omega)
  unfold outAt
  rw [e1, e2, e3, e4, quarterAt_of]

include hp in
/-- The result, read in a block, is what the device put there. -/
theorem outOf_block (t : Quarter × Fin 8) (j : (outRect c p t).shape.Idx) :
    outOf c pv ((outRect c p t).emb j) = outChunk pv c t.1 t.2 j := by
  have e (a : Fin 2) : (((outRect c p t).emb j) a).val = (![128 * t.2.val, 256 * (quarterOf c t.1).val] : Fin 2 → ℕ) a + (j a).val := by
    rw [Rect.emb_apply, Rect.off_unit, Rect.stride_unit, hp.out, Nat.one_mul]
  exact (outAt_block c pv t.1 t.2 (j 0) (j 1) _ _ (e 0) (e 1)).trans (congrArg (outChunk pv c t.1 t.2) (eq_ix2 _).symm)

include hp

/-- The result in blocks, -/
theorem split_result :
    iprop(∃ Y, owns (c : Thread nD τ) res fullShare Y)
      ⊢ (bigSep Finset.univ fun q : Quarter => bigSepL eight fun k => iprop(∃ X, block p c q k X) : sProp 𝕄) := by
  have h := pieces (F := F) c res (outRect c p) (fun _ _ => rfl) (out_disjoint c p hp) (out_cover c p hp)
  rw [bigSep_univ_prod] at h
  simp only [all_eight] at h
  exact h

/-- and whole. -/
theorem join_result :
    (bigSep Finset.univ fun q : Quarter => bigSepL eight fun k => block p c q k (outChunk pv c q k))
      ⊢ (owns (c : Thread nD τ) res fullShare (outOf c pv) : sProp 𝕄) := by
  have h := whole (F := F) c res (outRect c p) (fun _ _ => rfl) (out_disjoint c p hp) (out_cover c p hp)
    (fun t => outChunk pv c t.1 t.2) (outOf c pv) (outOf_block c pv p hp)
  rw [bigSep_univ_prod] at h
  simp only [all_eight] at h
  exact h

omit hp

/-! ## The table, read by four transfers at once -/

/-- A quarter of the whole share. -/
def quad : Fin 4 → PosShare TreeShare := ![fullShare.left.left, fullShare.left.right, fullShare.right.left, fullShare.right.right]

/-- The table's share in quarters, one for each slab's transfer, -/
theorem split_table (T : Half F) :
    owns (c : Thread nD τ) tab fullShare T ⊢ (bigSepL four fun s => owns (c : Thread nD τ) tab (quad s) T : sProp 𝕄) := by
  unfold four
  simp only [bigSepL_cons', bigSepL_singleton]
  iintro H
  ihave H := owns_split c tab fullShare T $$ H
  icases H with ⟨H1, H2⟩
  ihave H1 := owns_split c tab fullShare.left T $$ H1
  icases H1 with ⟨H11, H12⟩
  ihave H2 := owns_split c tab fullShare.right T $$ H2
  icases H2 with ⟨H21, H22⟩
  isplitl [H11]; · iexact H11
  isplitl [H12]; · iexact H12
  isplitl [H21]; · iexact H21
  isplitl [H22]; · iexact H22
  rw [bigSepL_nil]
  iempintro

/-- and whole again. -/
theorem join_table (T : Half F) :
    (bigSepL four fun s => owns (c : Thread nD τ) tab (quad s) T) ⊢ (owns (c : Thread nD τ) tab fullShare T : sProp 𝕄) := by
  unfold four
  simp only [bigSepL_cons', bigSepL_singleton]
  iintro ⟨H11, H12, H21, H22, -⟩
  iapply (owns_join c tab fullShare T T)
  isplitl [H11 H12]
  · iapply (owns_join c tab fullShare.left T T)
    isplitl [H11]; · iexact H11
    iexact H12
  · iapply (owns_join c tab fullShare.right T T)
    isplitl [H21]; · iexact H21
    iexact H22

end Cert.KernelIdealRun

end
-- ==== Proof.Value.lean ====
/-
The result, over the extended reals: when every id names a row of the table and each device holds its half of it, entry
`(i, j)` of every device's result is the table's entry in column `j` of the row that id `i` names.
-/
module

public import proofs.«01_k».proof.Proof.Rows
public import proofs.«01_k».proof.Proof.Buffers
public import Idealize.ShloMosaic.Lib.Pipeline.Value

@[expose] public section

set_option maxRecDepth 4000

noncomputable section

namespace Cert.KernelIdealRun

open Cert.KernelIdeal Cert.KernelIdeal.Gen

open Idealize.ShloMosaic

/-- The whole table. -/
abbrev Table : Type := (⟨2, ![16384, 1024]⟩ : Shape).Idx → EReal

variable (W : Table) (I : Ids Ideal) (T : Dev nD → Half Ideal)

/-- The row of the table that id `n` names. -/
def named (hI : ∀ n, (I n).toNat < 16384) (n : Fin 1024) : Fin 16384 := ⟨(I (ix1 n)).toNat, hI _⟩

/-- Row `a` of device `c`'s half of the table. -/
def rowIn (c : Dev nD) (a : Fin 8192) : Fin 16384 := ⟨8192 * half c + a.val, by have := half_lt c; omega⟩

variable (hI : ∀ n, (I n).toNat < 16384) (hT : ∀ c i, T c i = W (ix2 (rowIn c (i 0)) (i 1)))

include hT

/-- What a device gathers at a place: the table's entry when the id's row is of the device's half, and zero when it is not. -/
theorem part_value (c : Dev nD) (k : Fin 8) (r : Fin 128) (b : Fin 256) :
    gatheredAt c I (stageOf c (T c)) k r b
      = if (named I hI ⟨128 * k.val + r.val, by omega⟩).val / 8192 = half c
        then W (ix2 (named I hI ⟨128 * k.val + r.val, by omega⟩) (quarterCol c b)) else 0 := by
  set n : Fin 1024 := ⟨128 * k.val + r.val, by omega⟩ with hn
  have e : gatheredAt c I (stageOf c (T c)) k r b
      = stageOf c (T c) ((Rect.unit (s := S8192x256) (rowOf c (I (ix1 n))) S1x256.size (rowOf_inb c (I (ix1 n)))).emb (ix2 0 b))
        * inHalf (F := Ideal) (base c) (I (ix1 n)) := rfl
  rw [e, base_eq, scale (half c) (half_lt c) (I (ix1 n)) (hI _)]
  by_cases hc : (named I hI n).val / 8192 = half c
  · have hc0 : (I (ix1 n)).toNat / 8192 = half c := hc
    rw [if_pos hc0, if_pos hc]
    refine (mul_one _).trans ?_
    have hr := row_found (I (ix1 n)) (hI _) c hc
    refine (hT c _).trans (congrArg W ?_)
    have e0 (a : Fin 2) : (((Rect.unit (s := S8192x256) (rowOf c (I (ix1 n))) S1x256.size (rowOf_inb c (I (ix1 n)))).emb (ix2 0 b)) a).val
        = (![(I (ix1 n)).toNat % 8192, 0] : Fin 2 → ℕ) a + ((ix2 0 b : S1x256.Idx) a).val := by
      rw [Rect.emb_apply, Rect.off_unit, Rect.stride_unit, Nat.one_mul]
      exact congrArg (· + ((ix2 0 b : S1x256.Idx) a).val) (congrFun hr a)
    have h0 := e0 0
    have h1 := e0 1
    refine congrArg₂ ix2 (Fin.ext ?_) ?_
    · show 8192 * half c + _ = (I (ix1 n)).toNat
      have hc' : (I (ix1 n)).toNat / 8192 = half c := hc
      have h0' : _ = (I (ix1 n)).toNat % 8192 + 0 := h0
      refine (congrArg (8192 * half c + ·) h0').trans ?_
      show 8192 * half c + ((I (ix1 n)).toNat % 8192 + 0) = _
      omega
    · refine congrArg (quarterCol c) (Fin.ext ?_)
      exact h1.trans (Nat.zero_add _)
  · have hc0 : ¬ (I (ix1 n)).toNat / 8192 = half c := hc
    rw [if_neg hc0, if_neg hc]
    exact mul_zero _

/-- What two neighbours along `x` gather adds up to the table's entry, -/
theorem total_value (c : Dev nD) (k : Fin 8) (r : Fin 128) (b : Fin 256) :
    total (F := Ideal) (fun c k => gathered c I (stageOf c (T c)) k) c k (ix2 r b)
      = W (ix2 (named I hI ⟨128 * k.val + r.val, by omega⟩) (quarterCol c b)) := by
  have e : total (F := Ideal) (fun c k => gathered c I (stageOf c (T c)) k) c k (ix2 r b)
      = gatheredAt c I (stageOf c (T c)) k r b + gatheredAt (xpeer c) I (stageOf (xpeer c) (T (xpeer c))) k r b :=
    congrFun (shapeCast_self _ _) (ix2 r b)
  have hq : quarterCol (xpeer c) b = quarterCol c b := Fin.ext (by
    show 256 * (quarterOf (xpeer c) .own).val + b.val = 256 * (quarterOf c .own).val + b.val
    rw [quarter_xpeer])
  rw [e, part_value W I T hI hT, part_value W I T hI hT, hq, half_xpeer]
  have hn : (named I hI ⟨128 * k.val + r.val, by omega⟩).val < 16384 := Fin.isLt _
  have hc := half_lt c
  by_cases h : (named I hI ⟨128 * k.val + r.val, by omega⟩).val / 8192 = half c
  · rw [if_pos h, if_neg (by omega)]
    exact add_zero _
  · rw [if_neg h, if_pos (by omega)]
    exact zero_add _

/-- so does every chunk of the result, -/
theorem chunk_value (c : Dev nD) (q : Quarter) (k : Fin 8) (r : Fin 128) (b : Fin 256) (j : Fin 1024)
    (hj : j.val = 256 * (quarterOf c q).val + b.val) :
    outChunk (F := Ideal) (fun c k => gathered c I (stageOf c (T c)) k) c q k (ix2 r b)
      = W (ix2 (named I hI ⟨128 * k.val + r.val, by omega⟩) j) := by
  have go (c' : Dev nD) (q : Quarter) (hj : j.val = 256 * (quarterOf c q).val + b.val) (hq : quarterOf c q = quarterOf c' .own) :
      total (F := Ideal) (fun c k => gathered c I (stageOf c (T c)) k) c' k (ix2 r b)
        = W (ix2 (named I hI ⟨128 * k.val + r.val, by omega⟩) j) := by
    rw [total_value W I T hI hT]
    exact congrArg (fun x => W (ix2 (named I hI ⟨128 * k.val + r.val, by omega⟩) x)) (Fin.ext (by rw [hj, hq]; rfl))
  match q, hj with
  | .own, hj => exact go c .own hj rfl
  | .byZ, hj => exact go _ .byZ hj (quarter_byZ c)
  | .byY, hj => exact go _ .byY hj (quarter_byY c)
  | .across, hj => exact go _ .across hj (quarter_across c)

/-- and so the whole of it. -/
theorem out_value (c : Dev nD) (i j : Fin 1024) :
    outAt (F := Ideal) c (fun c k => gathered c I (stageOf c (T c)) k) i j = W (ix2 (named I hI i) j) := by
  have hi : i.val < 1024 := i.isLt
  have hj : j.val < 1024 := j.isLt
  unfold outAt
  rw [chunk_value W I T hI hT c _ _ _ _ j (by
    rw [quarterOf_at]
    show j.val = 256 * (j.val / 256) + j.val % 256
    omega)]
  exact congrArg (fun x => W (ix2 (named I hI x) j)) (Fin.ext (by
    show 128 * (i.val / 128) + i.val % 128 = i.val
    omega))

end Cert.KernelIdealRun

end
-- ==== Proof.Lookup.lean ====
/-
The reference, over the extended reals: what the precondition says of an id, and the reference's result where it holds.
-/
module

public import proofs.«01_k».proof.Defs
public import proofs.«01_k».proof.Proof.Gen.ReferenceIdeal.Run
public import proofs.«01_k».proof.Proof.Gen.Pre_in_table_KernelIdeal
public import proofs.«01_k».proof.Proof.Value
public import Idealize.ShloMosaic.Lib.WordCmp
public import Idealize.ShloMosaic.Lib.Pointwise.Index

@[expose] public section

set_option maxRecDepth 4000

noncomputable section

namespace Cert.ReferenceRun

open Idealize.ShloMosaic
open Cert.ReferenceIdeal (S16384x1024 S1024x1 S1024x1024 S1024)

/-! ## The precondition -/

/-- An id of which the precondition holds is at least zero and below 16384. -/
theorem id_bound (w : BitVec 32)
    (h : IntOp.andi (IntOp.cmpi .sge w 0#32) (IntOp.cmpi .slt w 16384#32) = 1#1) : w.toNat < 16384 := by
  rw [WordCmp.cmpi_sge_eq, WordCmp.cmpi_slt_eq, show (0#32 : BitVec 32).toInt = 0 from rfl,
    show (16384#32 : BitVec 32).toInt = 16384 from rfl] at h
  have h0 : 0 ≤ w.toInt := by
    by_contra hc
    rw [decide_eq_false hc] at h
    revert h
    cases decide (w.toInt < 16384) <;> decide
  have h1 : w.toInt < 16384 := by
    by_contra hc
    rw [decide_eq_false hc] at h
    revert h
    cases decide (0 ≤ w.toInt) <;> decide
  rw [BitVec.toInt_eq_toNat_cond] at h0 h1
  split at h0 <;> omega

/-- So every id is. -/
theorem ids_bound (I : IVec S1024 32) (E : FVec Ideal Cert.Pre_in_table_KernelIdeal.S8192x1024 .f32)
    (h : Cert.Pre_in_table_KernelIdeal.fn I E = fun _ => 1#1) (n : S1024.Idx) : (I n).toNat < 16384 :=
  id_bound (I n) (congrFun h n)

/-! ## The gather -/

/-- Rows of the table gathered by a column of row numbers, at a place: the entry of that column in the row of that number, the
    number brought into the table. -/
theorem gather_rows (W : S16384x1024.Idx → EReal) (R : IVec S1024x1 32) (i j : Fin 1024) :
    Host.gather Cert.ReferenceIdeal.gather_S16384x1024_S1024x1_S1024x1024_1_0_n_n_0_1_11024 W R (ix2 i j)
      = W (ix2 ⟨min (R (ix2 i 0)).toInt.toNat 16383, by omega⟩ j) := by
  unfold Host.gather
  refine congrArg W (funext fun a => Fin.ext ?_)
  match a with
  | ⟨0, _⟩ => exact congrArg (fun x => min (R x).toInt.toNat 16383) (funext fun b => by match b with
      | ⟨0, _⟩ => rfl
      | ⟨1, _⟩ => rfl)
  | ⟨1, _⟩ => exact Nat.zero_add _

/-- The reference's result: the table's entry in column `j` of the row that id `i` names. -/
theorem result_value (W : S16384x1024.Idx → EReal) (I : IVec S1024 32) (hI : ∀ n, (I n).toNat < 16384) (i j : Fin 1024)
    (b0 : Cert.ReferenceIdeal.S_.BroadcastsInDim S1024 ![]) (b1 : S1024.BroadcastsInDim S1024x1 ![0]) (hb : FTy.bits .bf16 < FTy.bits .f32) :
    (truncf (F := Ideal) .bf16 (Host.gather (α := EReal) Cert.ReferenceIdeal.gather_S16384x1024_S1024x1_S1024x1024_1_0_n_n_0_1_11024 W
      (broadcastInDim S1024x1 ![0] b1 (select (cmpi .slt I (broadcastInDim S1024 ![] b0 (constantI Cert.ReferenceIdeal.S_ 32 0#32)))
        (addi I (broadcastInDim S1024 ![] b0 (constantI Cert.ReferenceIdeal.S_ 32 16384#32))) I))) hb : S1024x1024.Idx → EReal) (ix2 i j)
      = W (ix2 ⟨(I (ix1 i)).toNat, hI _⟩ j) := by
  refine (gather_rows W _ i j).trans (congrArg W ?_)
  have hi := hI (ix1 i)
  have hn : (I (ix1 i)).toInt = (I (ix1 i)).toNat := by
    rw [BitVec.toInt_eq_toNat_cond]
    split <;> omega
  have hs : (Scalar.select (IntOp.cmpi .slt (I (ix1 i)) 0#32) (IntOp.addi (I (ix1 i)) 16384#32) (I (ix1 i)) : BitVec 32) = I (ix1 i) := by
    rw [WordCmp.cmpi_slt_eq, hn, decide_eq_false (by rw [show (0#32 : BitVec 32).toInt = 0 from rfl]; omega)]
    rfl
  have hv : ∀ R : IVec S1024x1 32, R (ix2 i 0) = I (ix1 i) →
      (ix2 (⟨min (R (ix2 i 0)).toInt.toNat 16383, by omega⟩ : Fin 16384) j : S16384x1024.Idx) = ix2 ⟨(I (ix1 i)).toNat, hI _⟩ j := by
    intro R hR
    refine congrArg (fun x => ix2 x j) (Fin.ext ?_)
    show min (R (ix2 i 0)).toInt.toNat 16383 = (I (ix1 i)).toNat
    rw [hR, hn]
    omega
  refine hv _ (Eq.trans ?_ hs)
  refine (broadcastInDim_apply ![0] b1 _ (ix2 i 0) (ix1 i) fun a => ?_).trans rfl
  obtain rfl : a = 0 := Subsingleton.elim _ _
  rfl

end Cert.ReferenceRun

end
-- ==== Proof.Body.lean ====
/-
A device's whole run: the loops over slabs and chunks, one after another, from what the device starts with to what it ends
with.
-/
module

public import proofs.«01_k».proof.Proof.Buffers

@[expose] public section

set_option maxRecDepth 4000

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Phases

variable (pv : Parts F) (K : Dev nD × Cell → ℕ) (p : Places) (hp : Laid p) (c : Dev nD) (I : Ids F) (T : Half F) (G : Stage F)

/-! ## The loops over slabs and chunks -/

/-- The four slabs of the table set under way, each with a quarter of the table's share. -/
theorem starts_wp :
    iprop(facts pv K ∗ emp ∗ (bigSepL four fun s => owns (c : Thread nD τ) tab (quad s) T)
        ∗ (bigSepL four fun s => iprop(∃ Y, owns (c : Thread nD τ) (slabDst s) fullShare Y))
        ∗ bigSepL four fun s => semVal ((c : Thread nD τ), slabSem s) 0)
      ⊢ runs c (each four (startSlab p c)) fun _ => iprop(emp ∗ bigSepL four fun s => staging p c T (quad s) s) := by
  have step (s : Fin 4) (l : List (Fin 4)) : iprop(facts pv K ∗ emp ∗ toStage c T (quad s) s)
      ⊢ runs c (startSlab p c s) fun _ => iprop(emp ∗ staging p c T (quad s) s) := by
    have e : (fun _ : PUnit => (iprop(emp ∗ staging p c T (quad s) s) : sProp 𝕄)) = fun _ => staging p c T (quad s) s :=
      funext fun _ => equiv_iff.mp emp_sep
    rw [e]
    iintro ⟨-, -, H⟩
    iapply (startSlab_wp p c T (quad s) s)
    iexact H
  have h := each_wp c (startSlab p c) (facts pv K) (fun _ => iprop(emp))
    (fun s => iprop(owns (c : Thread nD τ) tab (quad s) T ∗ (∃ Y, owns (c : Thread nD τ) (slabDst s) fullShare Y)
      ∗ semVal ((c : Thread nD τ), slabSem s) 0)) (fun s => staging p c T (quad s) s) step four
  simp only [bigSepL_sep] at h
  exact h

/-- The four slabs awaited: the table's shares are back, and each slab of the staged quarter holds its rows. -/
theorem awaits_wp (L : List Lane) :
    iprop(facts pv K ∗ debt c L ∗ bigSepL four fun s => staging p c T (quad s) s)
      ⊢ runs c (each four (awaitSlab p c)) fun _ => iprop(debt c L ∗ (bigSepL four fun s => owns (c : Thread nD τ) tab (quad s) T)
        ∗ (bigSepL four fun s => owns (c : Thread nD τ) (slabDst s) fullShare (fun j => T ((p.slab s c).rect.emb j)))
        ∗ bigSepL four fun s => semVal ((c : Thread nD τ), slabSem s) 0) := by
  have h := each_wp c (awaitSlab p c) (facts pv K) (fun _ => debt c L) (fun s => staging p c T (quad s) s)
    (fun s => iprop(owns (c : Thread nD τ) tab (quad s) T
      ∗ owns (c : Thread nD τ) (slabDst s) fullShare (fun j => T ((p.slab s c).rect.emb j))
      ∗ semVal ((c : Thread nD τ), slabSem s) 0)) (fun s _ => awaitSlab_wp p c T (quad s) s pv K L) four
  simp only [bigSepL_sep] at h
  exact h

include hp

/-- The eight chunks of partial rows gathered and sent along `x`; half of each chunk's share stays. -/
theorem gathers_wp (hpv : ∀ k, pv c k = gathered c I G k) (L : List Lane) :
    iprop(facts pv K ∗ (debt c (eight.map Lane.x ++ L) ∗ desk c I G)
        ∗ (bigSepL eight fun k => iprop(∃ X, has8 c part k fullShare X)) ∗ bigSepL eight fun k => ready c (.x k))
      ⊢ runs c (each eight (gatherSend p c)) fun _ => iprop((debt c L ∗ desk c I G)
        ∗ (bigSepL eight fun k => has8 c part k fullShare.right (pv c k)) ∗ bigSepL eight fun k => going c (.x k)) := by
  have step (k : Fin 8) (l : List (Fin 8)) := gatherSend_wp p c I G pv K hp hpv k (l.map Lane.x ++ L)
  unfold toGather gatherSent at step
  have h := each_wp c (gatherSend p c) (facts pv K) (fun l => iprop(debt c (l.map Lane.x ++ L) ∗ desk c I G))
    (fun k => iprop((∃ X, has8 c part k fullShare X) ∗ ready c (.x k)))
    (fun k => iprop(has8 c part k fullShare.right (pv c k) ∗ going c (.x k)))
    step eight
  simp only [bigSepL_sep] at h
  exact h

/-- The eight chunks summed, sent along `y` and along `z`, and put in the result; the chunks received along `x` stay. -/
theorem reduces_wp (L : List Lane) (hL : ∀ l ∈ L, 2 < laneLevel l) :
    iprop(facts pv K ∗ debt c (eight.flatMap (fun k => [Lane.y k, Lane.z k]) ++ L)
        ∗ (bigSepL eight fun k => coming c (.x k)) ∗ (bigSepL eight fun k => has8 c part k fullShare.right (pv c k))
        ∗ (bigSepL eight fun k => iprop(∃ X, has8 c red k fullShare X)) ∗ (bigSepL eight fun k => ready c (.y k))
        ∗ (bigSepL eight fun k => ready c (.z k)) ∗ bigSepL eight fun k => iprop(∃ X, block p c .own k X))
      ⊢ runs c (each eight (reduce p c)) fun _ => iprop(debt c L
        ∗ (bigSepL eight fun k => landed pv c (.x k)) ∗ (bigSepL eight fun k => idle c (.x k) true)
        ∗ (bigSepL eight fun k => has8 c part k fullShare.right (pv c k))
        ∗ (bigSepL eight fun k => has8 c red k fullShare.right.right (total pv c k))
        ∗ (bigSepL eight fun k => going c (.y k)) ∗ (bigSepL eight fun k => going c (.z k))
        ∗ bigSepL eight fun k => block p c .own k (total pv c k)) := by
  have hl (l : List (Fin 8)) : ∀ a ∈ l.flatMap (fun k => [Lane.y k, .z k]) ++ L, 2 < laneLevel a := by
    intro a ha
    rcases List.mem_append.mp ha with h | h
    · obtain ⟨k, -, hk⟩ := List.mem_flatMap.mp h
      rcases List.mem_pair.mp hk with rfl | rfl <;> exact Nat.lt_succ_self 2
    · exact hL a h
  have step (k : Fin 8) (l : List (Fin 8)) := reduce_wp pv K p c hp k _ (hl l)
  unfold toReduce reduced at step
  have h := each_wp c (reduce p c) (facts pv K) (fun l => debt c (l.flatMap (fun k => [Lane.y k, Lane.z k]) ++ L))
    (fun k => iprop(coming c (.x k) ∗ has8 c part k fullShare.right (pv c k) ∗ (∃ X, has8 c red k fullShare X) ∗ ready c (.y k)
      ∗ ready c (.z k) ∗ ∃ X, block p c .own k X))
    (fun k => iprop(landed pv c (.x k) ∗ idle c (.x k) true ∗ has8 c part k fullShare.right (pv c k)
      ∗ has8 c red k fullShare.right.right (total pv c k) ∗ going c (.y k) ∗ going c (.z k) ∗ block p c .own k (total pv c k)))
    step eight
  simp only [bigSepL_sep] at h
  exact h

/-- The chunks of half a lane passed on. -/
theorem passes_wp (step : Fin 4 → Code F PUnit) (f g : Fin 4 → Lane) (q : Quarter) (n : Fin 4 → Fin 8) (L : List Lane)
    (hg : ∀ k, 3 < laneLevel (g k)) (hL : ∀ l ∈ L, 3 < laneLevel l)
    (h : ∀ k L, (∀ l ∈ L, 3 < laneLevel l) → iprop(facts pv K ∗ debt c (g k :: L) ∗ toPass p c (f k) (g k) q (n k))
      ⊢ runs c (step k) fun _ => iprop(debt c L ∗ passed pv p c (f k) (g k) q (n k))) :
    iprop(facts pv K ∗ debt c (four.map g ++ L) ∗ ((bigSepL four fun k => coming c (f k))
        ∗ bigSepL four fun k => iprop(∃ X, block p c q (n k) X)) ∗ bigSepL four fun k => ready c (g k))
      ⊢ runs c (each four step) fun _ => iprop(debt c L ∗ (bigSepL four fun k => idle c (f k) true)
        ∗ (bigSepL four fun k => block p c q (n k) (outChunk pv c q (n k))) ∗ bigSepL four fun k => going c (g k)) := by
  have hl (l : List (Fin 4)) : ∀ a ∈ l.map g ++ L, 3 < laneLevel a := by
    intro a ha
    rcases List.mem_append.mp ha with h | h
    · obtain ⟨k, -, rfl⟩ := List.mem_map.mp h
      exact hg k
    · exact hL a h
  have h := each_wp c step (facts pv K) (fun l => debt c (l.map g ++ L))
    (fun k => iprop((coming c (f k) ∗ ∃ X, block p c q (n k) X) ∗ ready c (g k)))
    (fun k => iprop(idle c (f k) true ∗ block p c q (n k) (outChunk pv c q (n k)) ∗ going c (g k)))
    (fun k l => h k _ (hl l)) four
  simp only [bigSepL_sep] at h
  exact h

omit hp

/-- The chunks of half a lane put in the result. -/
theorem takes_wp (step : Fin 4 → Code F PUnit) (f : Fin 4 → Lane) (q : Quarter) (n : Fin 4 → Fin 8)
    (h : ∀ k, iprop(facts pv K ∗ debt c [] ∗ toTake p c (f k) q (n k))
      ⊢ runs c (step k) fun _ => iprop(debt c [] ∗ taken pv p c (f k) q (n k))) :
    iprop(facts pv K ∗ debt c [] ∗ (bigSepL four fun k => coming c (f k)) ∗ bigSepL four fun k => iprop(∃ X, block p c q (n k) X))
      ⊢ runs c (each four step) fun _ => iprop(debt c [] ∗ (bigSepL four fun k => landed pv c (f k))
        ∗ (bigSepL four fun k => idle c (f k) true) ∗ bigSepL four fun k => block p c q (n k) (outChunk pv c q (n k))) := by
  have h := each_wp c step (facts pv K) (fun _ => debt c []) (fun k => iprop(coming c (f k) ∗ ∃ X, block p c q (n k) X))
    (fun k => iprop(landed pv c (f k) ∗ idle c (f k) true ∗ block p c q (n k) (outChunk pv c q (n k))))
    (fun k _ => h k) four
  simp only [bigSepL_sep] at h
  exact h

/-- The departures of a list of lanes awaited. -/
theorem drains_wp {J : Type} (l : List J) (f : J → Lane) :
    iprop(facts pv K ∗ debt c [] ∗ (bigSepL l fun k => going c (f k)) ∗ bigSepL l fun k => atPos ER (sendCell c (f k)) 0 ∅ 0)
      ⊢ runs (F := F) c (each l fun k => drain (f k)) fun _ => iprop(debt c [] ∗ (bigSepL l fun k => source pv c (f k))
        ∗ bigSepL l fun k => idle c (f k) false) := by
  have h := each_wp c (fun k => drain (f k)) (facts pv K) (fun _ => debt c [])
    (fun k => iprop(going c (f k) ∗ atPos ER (sendCell c (f k)) 0 ∅ 0)) (fun k => iprop(source pv c (f k) ∗ idle c (f k) false))
    (fun k _ => drain_wp pv K c (f k) [] fun _ h => absurd h List.not_mem_nil) l
  simp only [bigSepL_sep] at h
  exact h

/-! ## The buffers put together again -/

/-- The partial rows whole again, of the shares that the transfers gave back and those that stayed. -/
theorem collect_part : iprop((bigSepL eight fun k => source pv c (.x k)) ∗ bigSepL eight fun k => has8 c part k fullShare.right (pv c k))
    ⊢ some8 c part := by
  rw [← bigSepL_sep]
  exact (bigSepL_mono fun k _ => owns_join c (at8 part k) fullShare (pv c k) (pv c k)).trans (join8 c part _)

/-- The summed rows whole again, of the shares that came back from `y`, from `z`, and those that stayed. -/
theorem collect_red : iprop((bigSepL eight fun k => source pv c (.y k)) ∗ (bigSepL eight fun k => source pv c (.z k))
      ∗ bigSepL eight fun k => has8 c red k fullShare.right.right (total pv c k)) ⊢ some8 c red := by
  rw [← bigSepL_sep, ← bigSepL_sep]
  refine (bigSepL_mono fun k _ => ?_).trans (join8 c red fun k => total pv c k)
  exact (BIClass.sep_mono .rfl (owns_join c (at8 red k) fullShare.right (total pv c k) (total pv c k))).trans
    (owns_join c (at8 red k) fullShare (total pv c k) (total pv c k))

/-- The buffer received along `x` whole again. -/
theorem collect_rx : (bigSepL eight fun k => landed pv c (.x k)) ⊢ some8 c rx := join8 c rx fun k => pv (xpeer c) k

/-- The buffer received along `y` whole again: its first chunks as they landed, the others as they came back from being
    passed on. -/
theorem collect_ry : iprop((bigSepL four fun k => landed pv c (.y (lo k))) ∗ bigSepL four fun k => source pv c (.v k)) ⊢ some8 c ry := by
  have h := join8 c ry fun k => total pv (ypeer c) k
  rw [halves] at h
  exact h

/-- The buffer received along `z` whole again: its first chunks as they came back from being passed on, the others as they
    landed. -/
theorem collect_rz : iprop((bigSepL four fun k => source pv c (.u k)) ∗ bigSepL four fun k => landed pv c (.z (hi k))) ⊢ some8 c rz := by
  have h := join8 c rz fun k => total pv (zpeer c) k
  rw [halves] at h
  exact h

/-- The buffer of what was passed on along `y` whole again. -/
theorem collect_ru : (bigSepL four fun k => landed pv c (.u k)) ⊢ some4 c ru := join4 c ru fun k => total pv (zpeer (ypeer c)) (lo k)

/-- The buffer of what was passed on along `z` whole again. -/
theorem collect_rv : (bigSepL four fun k => landed pv c (.v k)) ⊢ some4 c rv := join4 c rv fun k => sent pv (.v k) (peer (.v k) c)

/-- The landing chunks of a device are its receiving buffers. -/
theorem landings : iprop(some8 c rx ∗ some8 c ry ∗ some8 c rz ∗ some4 c ru ∗ some4 c rv)
    ⊢ (bigSep Finset.univ fun d : Fin 3 => bigSep (along d) fun l => landing (F := F) c l) := by
  have e : (bigSep Finset.univ fun l : Lane => landing (F := F) c l)
      = bigSep Finset.univ fun d : Fin 3 => bigSep (along d) fun l => landing (F := F) c l := by
    rw [bigSep_fiberwise (Finset.univ : Finset Lane) axis, show (Finset.univ : Finset Lane).image axis = Finset.univ by decide]
    rfl
  rw [← e, all_lanes]
  exact BIClass.sep_mono (split8 c rx) (BIClass.sep_mono (split8 c ry) (BIClass.sep_mono (split8 c rz) (BIClass.sep_mono (split4 c ru) (split4 c rv))))

/-! ## The whole run -/

/-- The rights of device `c` to start a lane's transfer. -/
def rights (l : Lane) : sProp 𝕄 := iprop(dutyTok ER (sendCell c l) 0 0 ∗ dutyTok ER (recvCell (peer l c) l) 0 0)

/-- The buffers a run may leave holding anything. -/
def scratch : sProp 𝕄 :=
  iprop((∃ Y, owns (c : Thread nD τ) stg fullShare Y) ∗ some8 c part ∗ some8 c rx ∗ some8 c red ∗ some8 c ry ∗ some8 c rz
    ∗ some4 c ru ∗ some4 c rv)

/-- What device `c` starts with, its ids `I` and its half of the table `T`, -/
def atStart : sProp 𝕄 :=
  iprop((∃ W, owes (c : Thread nD τ) (owed₀ c) W)
    ∗ (bigSep Finset.univ fun d : Fin 3 => dutyTok ER (barCell (near d c)) 0 d)
    ∗ cred (tallyAt (barCell c) () 3) ∗ atPos ER (barCell c) 0 ∅ 0
    ∗ (bigSep Finset.univ fun l : Lane => rights (F := F) c l) ∗ (bigSep Finset.univ fun l : Lane => coming (F := F) c l)
    ∗ (bigSep Finset.univ fun l : Lane => atPos ER (sendCell c l) 0 ∅ 0)
    ∗ (bigSepL four fun s => semVal ((c : Thread nD τ), slabSem s) 0)
    ∗ owns (c : Thread nD τ) ids fullShare I ∗ owns (c : Thread nD τ) tab fullShare T ∗ (∃ Y, owns (c : Thread nD τ) res fullShare Y)
    ∗ scratch c)

/-- and ends with. -/
def atEnd : sProp 𝕄 :=
  iprop((∃ W, owes (c : Thread nD τ) 0 W) ∗ semVal (barCell c) 0
    ∗ (bigSep Finset.univ fun l : Lane => idle (F := F) c l true) ∗ (bigSep Finset.univ fun l : Lane => idle (F := F) c l false)
    ∗ (bigSepL four fun s => semVal ((c : Thread nD τ), slabSem s) 0)
    ∗ owns (c : Thread nD τ) ids fullShare I ∗ owns (c : Thread nD τ) tab fullShare T ∗ owns (c : Thread nD τ) res fullShare (outOf c pv)
    ∗ scratch c)

/-- A duty on each neighbour's barrier cell goes with the landing chunks that discharging it hands over. -/
theorem greetings : iprop((bigSep Finset.univ fun d : Fin 3 => dutyTok ER (barCell (near d c)) 0 d)
      ∗ bigSep Finset.univ fun d : Fin 3 => bigSep (along d) fun l => landing (F := F) c l)
    ⊢ (bigSep Finset.univ fun d : Fin 3 => iprop(dutyTok ER (barCell (near d c)) 0 d ∗ bigSep (along d) fun l => landing c l) : sProp 𝕄) :=
  Entails.of_eq (bigSep_sep' _ _ _).symm

/-- A peer's landing chunk, with the rights to fill it, makes a lane ready. -/
theorem readies : iprop((bigSep Finset.univ fun l : Lane => landing (peer l c) l) ∗ bigSep Finset.univ fun l : Lane => rights c l)
    ⊢ (bigSep Finset.univ fun l : Lane => ready (F := F) c l) :=
  Entails.of_eq (bigSep_sep' _ _ _).symm

include hp in
/-- A device's run: from what it starts with to what it ends with. -/
theorem run_wp (hpv : ∀ k, pv c k = gathered c I (stageOf c T) k) :
    iprop(facts pv K ∗ atStart c I T) ⊢ runs c (run p c) fun _ => atEnd pv c I T := by
  unfold run atStart atEnd scratch
  rw [all_lanes (fun l => coming (F := F) c l), all_lanes (fun l => (atPos ER (sendCell c l) 0 ∅ 0 : sProp 𝕄)),
    all_lanes (fun l => idle (F := F) c l true), all_lanes (fun l => idle (F := F) c l false),
    halves (fun k => coming (F := F) c (.y k)), halves (fun k => coming (F := F) c (.z k)),
    halves (fun k => idle (F := F) c (.y k) true), halves (fun k => idle (F := F) c (.z k) true)]
  iintro ⟨#HF, HO, HBD, HBC, HBA, HR, ⟨HCx, ⟨HCyl, HCyh⟩, ⟨HCzl, HCzh⟩, HCu, HCv⟩, ⟨HAx, HAy, HAz, HAu, HAv⟩, HV, HI, HT, HB,
    ⟨HG, HP, Hrx, HD, Hry, Hrz, Hru, Hrv⟩⟩
  -- the slabs started
  ihave HT := split_table c T $$ HT
  ihave HG := split_stage c $$ HG
  iapply (runs_then c (starts_wp pv K p c T)) $$ [HT HG HV]
  · isplitr; · iexact HF
    isplitr; · iempintro
    isplitl [HT]; · iexact HT
    isplitl [HG]; · iexact HG
    iexact HV
  iintro %_ ⟨-, HS⟩
  -- the handshake
  ihave HL := landings c $$ [Hrx Hry Hrz Hru Hrv]
  · isplitl [Hrx]; · iexact Hrx
    isplitl [Hry]; · iexact Hry
    isplitl [Hrz]; · iexact Hrz
    isplitl [Hru]; · iexact Hru
    iexact Hrv
  ihave HL := greetings c $$ [HBD HL]
  · isplitl [HBD]; · iexact HBD
    iexact HL
  iapply (runs_then c (greet_wp pv K c p hp)) $$ [HO HL HBC HBA]
  · isplitr; · iexact HF
    unfold toGreet
    isplitl [HO]; · iexact HO
    isplitl [HL]; · iexact HL
    isplitl [HBC]; · iexact HBC
    iexact HBA
  unfold greeted order
  iintro %_ ⟨HO, HL, HZ⟩
  ihave HL := readies c $$ [HL HR]
  · isplitl [HL]; · iexact HL
    iexact HR
  ihave HL := (Entails.of_eq (all_lanes fun l => ready (F := F) c l)) $$ HL
  icases HL with ⟨HRx, HRy, HRz, HRu, HRv⟩
  -- the slabs awaited
  iapply (runs_then c (awaits_wp pv K p c T (eight.map Lane.x ++ (eight.flatMap (fun k => [Lane.y k, Lane.z k]) ++ (four.map Lane.u ++ four.map Lane.v))))) $$ [HO HS]
  · isplitr; · iexact HF
    isplitl [HO]; · iexact HO
    iexact HS
  iintro %_ ⟨HO, HT, HG, HV⟩
  ihave HT := join_table c T $$ HT
  ihave HG := ((Entails.of_eq (all_four fun s => owns (c : Thread nD τ) (slabDst s) fullShare (fun j => T ((p.slab s c).rect.emb j))).symm).trans
    (staged_whole p hp c T)) $$ HG
  -- the chunks gathered
  ihave HP := split8 c part $$ HP
  iapply (runs_then c (gathers_wp pv K p hp c I (stageOf c T) hpv (eight.flatMap (fun k => [Lane.y k, Lane.z k]) ++ (four.map Lane.u ++ four.map Lane.v)))) $$ [HO HI HG HP HRx]
  · isplitr; · iexact HF
    isplitl [HO HI HG]
    · isplitl [HO]; · iexact HO
      unfold desk
      isplitl [HI]; · iexact HI
      iexact HG
    isplitl [HP]; · iexact HP
    iexact HRx
  iintro %_ ⟨⟨HO, HIG⟩, HP, HGx⟩
  unfold desk
  icases HIG with ⟨HI, HG⟩
  -- reduced
  ihave HD := split8 c red $$ HD
  ihave HB := split_result c p hp $$ HB
  ihave HB := (Entails.of_eq (all_quarters fun q => bigSepL eight fun k => iprop(∃ X, block (F := F) p c q k X))) $$ HB
  icases HB with ⟨HBo, HBz, HBy, HBa⟩
  iapply (runs_then c (reduces_wp pv K p hp c (four.map Lane.u ++ four.map Lane.v) (by decide))) $$ [HO HCx HP HD HRy HRz HBo]
  · isplitr; · iexact HF
    isplitl [HO]; · iexact HO
    isplitl [HCx]; · iexact HCx
    isplitl [HP]; · iexact HP
    isplitl [HD]; · iexact HD
    isplitl [HRy]; · iexact HRy
    isplitl [HRz]; · iexact HRz
    iexact HBo
  iintro %_ ⟨HO, Hrx, HIx, HP, HD, HGy, HGz, HBo⟩
  -- passed on
  ihave HBz := (Entails.of_eq (halves fun k => iprop(∃ X, block (F := F) p c .byZ k X))) $$ HBz
  icases HBz with ⟨HBzl, HBzh⟩
  ihave HBy := (Entails.of_eq (halves fun k => iprop(∃ X, block (F := F) p c .byY k X))) $$ HBy
  icases HBy with ⟨HByl, HByh⟩
  ihave HBa := (Entails.of_eq (halves fun k => iprop(∃ X, block (F := F) p c .across k X))) $$ HBa
  icases HBa with ⟨HBal, HBah⟩
  iapply (runs_then c (passes_wp pv K p hp c (passU p c) (fun k => .z (lo k)) .u .byZ lo (four.map Lane.v) (fun _ => Nat.lt_succ_self 3) (by decide)
    (passU_wp pv K p c hp))) $$ [HO HCzl HBzl HRu]
  · isplitr; · iexact HF
    isplitl [HO]; · iexact HO
    isplitl [HCzl HBzl]
    · isplitl [HCzl]; · iexact HCzl
      iexact HBzl
    iexact HRu
  iintro %_ ⟨HO, HIzl, HBzl, HGu⟩
  iapply (runs_then c (passes_wp pv K p hp c (passV p c) (fun k => .y (hi k)) .v .byY hi [] (fun _ => Nat.lt_succ_self 3) (by decide)
    (passV_wp pv K p c hp))) $$ [HO HCyh HByh HRv]
  · isplitr; · iexact HF
    isplitl [HO]; · iapply (Entails.of_eq (congrArg (debt (F := F) c) (List.append_nil _).symm)); iexact HO
    isplitl [HCyh HByh]
    · isplitl [HCyh]; · iexact HCyh
      iexact HByh
    iexact HRv
  iintro %_ ⟨HO, HIyh, HByh, HGv⟩
  -- taken
  iapply (runs_then c (takes_wp pv K p c (takeZ p c) (fun k => .z (hi k)) .byZ hi (takeZ_wp pv K p c))) $$ [HO HCzh HBzh]
  · isplitr; · iexact HF
    isplitl [HO]; · iexact HO
    isplitl [HCzh]; · iexact HCzh
    iexact HBzh
  iintro %_ ⟨HO, Hrzh, HIzh, HBzh⟩
  iapply (runs_then c (takes_wp pv K p c (takeY p c) (fun k => .y (lo k)) .byY lo (takeY_wp pv K p c))) $$ [HO HCyl HByl]
  · isplitr; · iexact HF
    isplitl [HO]; · iexact HO
    isplitl [HCyl]; · iexact HCyl
    iexact HByl
  iintro %_ ⟨HO, Hryl, HIyl, HByl⟩
  iapply (runs_then c (takes_wp pv K p c (takeU p c) .u .across lo (takeU_wp pv K p c))) $$ [HO HCu HBal]
  · isplitr; · iexact HF
    isplitl [HO]; · iexact HO
    isplitl [HCu]; · iexact HCu
    iexact HBal
  iintro %_ ⟨HO, Hru, HIu, HBal⟩
  iapply (runs_then c (takes_wp pv K p c (takeV p c) .v .across hi (takeV_wp pv K p c))) $$ [HO HCv HBah]
  · isplitr; · iexact HF
    isplitl [HO]; · iexact HO
    isplitl [HCv]; · iexact HCv
    iexact HBah
  iintro %_ ⟨HO, Hrv, HIv, HBah⟩
  -- drained
  iapply (runs_then c (drains_wp pv K c eight .x)) $$ [HO HGx HAx]
  · isplitr; · iexact HF
    isplitl [HO]; · iexact HO
    isplitl [HGx]; · iexact HGx
    iexact HAx
  iintro %_ ⟨HO, HSx, HJx⟩
  iapply (runs_then c (drains_wp pv K c eight .y)) $$ [HO HGy HAy]
  · isplitr; · iexact HF
    isplitl [HO]; · iexact HO
    isplitl [HGy]; · iexact HGy
    iexact HAy
  iintro %_ ⟨HO, HSy, HJy⟩
  iapply (runs_then c (drains_wp pv K c eight .z)) $$ [HO HGz HAz]
  · isplitr; · iexact HF
    isplitl [HO]; · iexact HO
    isplitl [HGz]; · iexact HGz
    iexact HAz
  iintro %_ ⟨HO, HSz, HJz⟩
  iapply (runs_then c (drains_wp pv K c four .u)) $$ [HO HGu HAu]
  · isplitr; · iexact HF
    isplitl [HO]; · iexact HO
    isplitl [HGu]; · iexact HGu
    iexact HAu
  iintro %_ ⟨HO, HSu, HJu⟩
  iapply (runs_last c (drains_wp pv K c four .v)) $$ [HO HGv HAv]
  · isplitr; · iexact HF
    isplitl [HO]; · iexact HO
    isplitl [HGv]; · iexact HGv
    iexact HAv
  iintro %_ ⟨HO, HSv, HJv⟩
  -- what is left
  isplitl [HO]
  · unfold debt owedL
    iexact HO
  isplitl [HZ]; · iexact HZ
  isplitl [HIx HIyl HIyh HIzl HIzh HIu HIv]
  · isplitl [HIx]; · iexact HIx
    isplitl [HIyl HIyh]
    · isplitl [HIyl]; · iexact HIyl
      iexact HIyh
    isplitl [HIzl HIzh]
    · isplitl [HIzl]; · iexact HIzl
      iexact HIzh
    isplitl [HIu]; · iexact HIu
    iexact HIv
  isplitl [HJx HJy HJz HJu HJv]
  · isplitl [HJx]; · iexact HJx
    isplitl [HJy]; · iexact HJy
    isplitl [HJz]; · iexact HJz
    isplitl [HJu]; · iexact HJu
    iexact HJv
  isplitl [HV]; · iexact HV
  isplitl [HI]; · iexact HI
  isplitl [HT]; · iexact HT
  isplitl [HBo HBzl HBzh HByl HByh HBal HBah]
  · iapply (join_result c pv p hp)
    iapply (Entails.of_eq (all_quarters fun q => bigSepL eight fun k => block p c q k (outChunk pv c q k)).symm)
    isplitl [HBo]; · iexact HBo
    isplitl [HBzl HBzh]
    · iapply (Entails.of_eq (halves fun k => block p c .byZ k (outChunk pv c .byZ k)).symm)
      isplitl [HBzl]; · iexact HBzl
      iexact HBzh
    isplitl [HByl HByh]
    · iapply (Entails.of_eq (halves fun k => block p c .byY k (outChunk pv c .byY k)).symm)
      isplitl [HByl]; · iexact HByl
      iexact HByh
    iapply (Entails.of_eq (halves fun k => block p c .across k (outChunk pv c .across k)).symm)
    isplitl [HBal]; · iexact HBal
    iexact HBah
  isplitl [HG]; · iexists _; iexact HG
  isplitl [HSx HP]
  · iapply (collect_part pv c)
    isplitl [HSx]; · iexact HSx
    iexact HP
  isplitl [Hrx]
  · iapply (collect_rx pv c)
    iexact Hrx
  isplitl [HSy HSz HD]
  · iapply (collect_red pv c)
    isplitl [HSy]; · iexact HSy
    isplitl [HSz]; · iexact HSz
    iexact HD
  isplitl [Hryl HSv]
  · iapply (collect_ry pv c)
    isplitl [Hryl]; · iexact Hryl
    iexact HSv
  isplitl [HSu Hrzh]
  · iapply (collect_rz pv c)
    isplitl [HSu]; · iexact HSu
    iexact Hrzh
  isplitl [Hru]
  · iapply (collect_ru pv c)
    iexact Hru
  iapply (collect_rv pv c)
  iexact Hrv

end Phases

end Cert.KernelIdealRun

end
-- ==== Proof.Owed.lean ====
/-
What the devices owe one another when they start: for each lane one transfer to its peer, and one unit to each neighbour's
barrier cell; and so what each device may count on receiving.
-/
module

public import proofs.«01_k».proof.Proof.Body

@[expose] public section

set_option maxRecDepth 4000

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Who owes what at launch -/

/-- Each lane is listed once. -/
theorem count_order : ∀ l : Lane, order.count l = 1 := by decide

/-- Towards the arrivals of a lane at device `c` only its peer owes: a transfer for each time it is listed. -/
theorem owedL_recv (d c : Dev nD) (l : Lane) :
    ∀ L : List Lane, owedL d L (recvCell c l) () = if d = peer l c then L.count l * N else 0
  | [] => by
    rw [List.count_nil, Nat.zero_mul, ite_self]
    rfl
  | l' :: L => by
    show owedL d L (recvCell c l) () + (tallyAt (recvCell (peer l' d) l') () N : CellTallies nD τ sig Unit) (recvCell c l) () = _
    rw [owedL_recv d c l L, tallyAt_apply]
    by_cases hl : l' = l
    · subst hl
      rw [List.count_cons_self]
      by_cases hd : d = peer l' c
      · subst hd
        rw [if_pos rfl, if_pos rfl, if_pos ⟨by rw [peer_peer], rfl⟩, Nat.succ_mul]
      · rw [if_neg hd, if_neg hd, if_neg (fun h => hd (by rw [(Prod.mk.inj (kcell_injective h.1)).1, peer_peer]))]
    · rw [List.count_cons_of_ne hl, if_neg (c := recvCell c l = recvCell (peer l' d) l' ∧ () = ()) (fun h => hl (Prod.mk.inj (Option.some.inj (Prod.mk.inj (kcell_injective h.1)).2)).1.symm), Nat.add_zero]

/-- And nothing towards a barrier cell. -/
theorem owedL_bar (d c : Dev nD) : ∀ L : List Lane, owedL d L (barCell c) () = 0
  | [] => rfl
  | l :: L => by
    show owedL d L (barCell c) () + (tallyAt (recvCell (peer l d) l) () N : CellTallies nD τ sig Unit) (barCell c) () = _
    rw [owedL_bar d c L, tallyAt_apply, if_neg (fun h => by cases (Prod.mk.inj (kcell_injective h.1)).2)]

/-- A unit owed to the barrier of the neighbour along an axis, as a barrier cell sees it, -/
theorem tally_bar (d c : Dev nD) (a : Fin 3) :
    (tallyAt (barCell (near a d)) () 1 : CellTallies nD τ sig Unit) (barCell c) () = if d = near a c then 1 else 0 := by
  rw [tallyAt_apply]
  by_cases h : d = near a c
  · subst h
    rw [if_pos rfl, if_pos ⟨by rw [near_near], rfl⟩]
  · rw [if_neg h, if_neg (fun e => h (by rw [(Prod.mk.inj (kcell_injective e.1)).1, near_near]))]

/-- and as a lane's arrivals see it: not at all. -/
theorem tally_recv (d c : Dev nD) (a : Fin 3) (l : Lane) :
    (tallyAt (barCell (near a d)) () 1 : CellTallies nD τ sig Unit) (recvCell c l) () = 0 := by
  rw [tallyAt_apply, if_neg (fun h => by cases (Prod.mk.inj (kcell_injective h.1)).2)]

/-- Towards a barrier cell each neighbour owes a unit, -/
theorem owed_bar (d c : Dev nD) : owed₀ d (barCell c) ()
    = (if d = near 2 c then 1 else 0) + (if d = near 1 c then 1 else 0) + (if d = near 0 c then 1 else 0) := by
  show owedL d order (barCell c) () + (tallyAt (barCell (near 2 d)) () 1 : CellTallies nD τ sig Unit) (barCell c) ()
    + (tallyAt (barCell (near 1 d)) () 1 : CellTallies nD τ sig Unit) (barCell c) ()
    + (tallyAt (barCell (near 0 d)) () 1 : CellTallies nD τ sig Unit) (barCell c) () = _
  rw [owedL_bar, tally_bar, tally_bar, tally_bar, Nat.zero_add]

/-- and towards the arrivals of a lane its peer a transfer. -/
theorem owed_recv (d c : Dev nD) (l : Lane) : owed₀ d (recvCell c l) () = if d = peer l c then N else 0 := by
  show owedL d order (recvCell c l) () + (tallyAt (barCell (near 2 d)) () 1 : CellTallies nD τ sig Unit) (recvCell c l) ()
    + (tallyAt (barCell (near 1 d)) () 1 : CellTallies nD τ sig Unit) (recvCell c l) ()
    + (tallyAt (barCell (near 0 d)) () 1 : CellTallies nD τ sig Unit) (recvCell c l) () = _
  rw [owedL_recv, tally_recv, tally_recv, tally_recv, count_order, Nat.one_mul]
  simp only [Nat.add_zero]

/-- So a barrier cell is owed three units, -/
theorem launch_bar (c : Dev nD) :
    tallyOn (barCell c) (launchCredit (Pipeline.owing owed₀) 0 (barCell c)) = (tallyAt (barCell c) () 3 : CellTallies nD τ sig Unit) := by
  unfold tallyAt
  refine congrArg _ (Finsupp.ext fun u => ?_)
  cases u
  rw [Pipeline.launchCredit_owing, Finsupp.single_eq_same, Finset.sum_congr rfl fun d _ => owed_bar d c, Finset.sum_add_distrib,
    Finset.sum_add_distrib, Finset.sum_ite_eq' Finset.univ (near 2 c) fun _ => 1, Finset.sum_ite_eq' Finset.univ (near 1 c) fun _ => 1,
    Finset.sum_ite_eq' Finset.univ (near 0 c) fun _ => 1, if_pos (Finset.mem_univ _), if_pos (Finset.mem_univ _), if_pos (Finset.mem_univ _)]

/-- and a lane's arrivals a transfer. -/
theorem launch_recv (c : Dev nD) (l : Lane) :
    tallyOn (recvCell c l) (launchCredit (Pipeline.owing owed₀) 0 (recvCell c l)) = (tallyAt (recvCell c l) () N : CellTallies nD τ sig Unit) := by
  unfold tallyAt
  refine congrArg _ (Finsupp.ext fun u => ?_)
  cases u
  rw [Pipeline.launchCredit_owing, Finsupp.single_eq_same, Finset.sum_congr rfl fun d _ => owed_recv d c l,
    Finset.sum_ite_eq' Finset.univ (peer l c) fun _ => N, if_pos (Finset.mem_univ _)]

/-- The semaphores a device waits at for others: its barrier's, and those of each lane's arrivals. -/
def awaited : Unit ⊕ Lane → SemLoc sig
  | .inl _ => cellSem none
  | .inr l => cellSem (some (l, true))

/-- They are different from one another. -/
theorem awaited_injective : Function.Injective awaited := by
  rintro (_ | l) (_ | l') h
  · rfl
  · cases cellSem_injective (show cellSem none = cellSem (some (l', true)) from h)
  · cases cellSem_injective (show cellSem (some (l, true)) = cellSem none from h)
  · cases cellSem_injective (show cellSem (some (l, true)) = cellSem (some (l', true)) from h)
    rfl

/-- What a device is owed at launch. -/
theorem creds (c : Dev nD) : (Pipeline.launchCred owed₀ c : sProp 𝕄)
    ⊢ iprop(cred (tallyAt (barCell c) () 3) ∗ bigSep Finset.univ fun l : Lane => cred (tallyAt (recvCell c l) () N)) := by
  unfold Pipeline.launchCred
  have h : (bigSep Finset.univ fun sm : SemLoc sig => cred (tallyOn ((c : Thread nD τ), sm) (launchCredit (Pipeline.owing owed₀) 0 ((c : Thread nD τ), sm))) : sProp 𝕄)
      ⊢ bigSep (Finset.univ.map ⟨awaited, awaited_injective⟩)
          fun sm : SemLoc sig => cred (tallyOn ((c : Thread nD τ), sm) (launchCredit (Pipeline.owing owed₀) 0 ((c : Thread nD τ), sm))) :=
    bigSep_subset (Finset.subset_univ _)
  refine h.trans (Entails.of_eq ?_)
  rw [bigSep_map, bigSep_univ_sum, ← launch_bar c, bigSep_congr fun l _ => congrArg cred (launch_recv c l).symm]
  exact congrArg (fun P => iprop(P ∗ _)) (bigSep_singleton (i := ()))

end Cert.KernelIdealRun

end
-- ==== Proof.Printed.lean ====
/-
The printed per-device function is the short program of Text at the places it computes: both are brought to one sequence
of operations, which are compared one after the other, and each loop's trip likewise.
-/
module

public import proofs.«01_k».proof.Proof.Text

@[expose] public section

noncomputable section

namespace Cert.KernelIdealRun

open Cert.KernelIdeal Cert.KernelIdeal.Gen

open Idealize.ShloMosaic
open Idealize.ShloMosaic.TcCoe
open Idealize.SL Idealize.SL.Sem

variable {F : FTy → Type} [FloatOps F]

/-- Two programs that start with one operation and go on alike are one. -/
theorem op_congr {β γ : Type} {e e' : TpuEff nD τ sig (Elt F) Λ₀ .tc β} {k k' : β → Code F γ} (h : e = e') (hk : ∀ x, k x = k' x) :
   Prog.op e k = Prog.op e' k' := by
  subst h; exact congrArg _ (funext hk)

set_option maxRecDepth 65536 in
set_option maxHeartbeats 400000 in
/-- The printed function is the program of Text, at the places it computes. -/
theorem printed_eq : printed F = (do
    let c : Dev nD ← Prog.lift .deviceId
    run printedPlaces c) := by
  simp only [printed, cc0_body_eq_skeleton, cc0_body_skel, k0_part1_eq_skeleton, k0_part1_skel, k0_part2_eq_skeleton,
    k0_part2_skel, k0_part3_eq_skeleton, k0_part3_skel, k0_part4_eq_skeleton, k0_part4_skel, k0_part5_eq_skeleton,
    k0_part5_skel, k0_part6_eq_skeleton, k0_part6_skel, k0_part7_eq_skeleton, k0_part7_skel, k0_part8_eq_skeleton,
    k0_part8_skel, k0_part9_eq_skeleton, k0_part9_skel, k0_part10_eq_skeleton, k0_part10_skel, k0_part11_eq_skeleton,
    k0_part11_skel, k0_part12_eq_skeleton, k0_part12_skel, k0_part13_eq_skeleton, k0_part13_skel, k0_part14_eq_skeleton,
    k0_part14_skel, k0_part15_eq_skeleton, k0_part15_skel, k0_part16_eq_skeleton, k0_part16_skel, k0_part17_eq_skeleton,
    k0_part17_skel, k0_part18_eq_skeleton, k0_part18_skel, k0_part19_eq_skeleton, k0_part19_skel, k0_part20_eq_skeleton,
    k0_part20_skel, k0_part21_eq_skeleton, k0_part21_skel, k0_part22_eq_skeleton, k0_part22_skel, k0_part23_eq_skeleton,
    k0_part23_skel, k0_part24_eq_skeleton, k0_part24_skel, k0_part25_eq_skeleton, k0_part25_skel, k0_part26_eq_skeleton,
    k0_part26_skel, k0_part27_eq_skeleton, k0_part27_skel, k0_part28_eq_skeleton, k0_part28_skel, k0_part29_eq_skeleton,
    k0_part29_skel, k0_part30_eq_skeleton, k0_part30_skel, k0_part31_eq_skeleton, k0_part31_skel, k0_part32_eq_skeleton,
    k0_part32_skel, k0_part33_eq_skeleton, k0_part33_skel, k0_part34_eq_skeleton, k0_part34_skel, k0_part35_eq_skeleton,
    k0_part35_skel, k0_part36_eq_skeleton, k0_part36_skel, k0_part37_eq_skeleton, k0_part37_skel, k0_part38_eq_skeleton,
    k0_part38_skel, k0_part39_eq_skeleton, k0_part39_skel, k0_part40_eq_skeleton, k0_part40_skel, k0_part41_eq_skeleton,
    k0_part41_skel, k0_part42_eq_skeleton, k0_part42_skel, k0_part43_eq_skeleton, k0_part43_skel, k0_part44_eq_skeleton,
    k0_part44_skel, k0_part45_eq_skeleton, k0_part45_skel, k0_part46_eq_skeleton, k0_part46_skel, k0_part47_eq_skeleton,
    k0_part47_skel, k0_part48_eq_skeleton, k0_part48_skel, k0_part49_eq_skeleton, k0_part49_skel, k0_part50_eq_skeleton,
    k0_part50_skel, k0_part51_eq_skeleton, k0_part51_skel, k0_part52_eq_skeleton, k0_part52_skel, k0_part53_eq_skeleton,
    k0_part53_skel, k0_part54_eq_skeleton, k0_part54_skel, k0_part55_eq_skeleton, k0_part55_skel, k0_part56_eq_skeleton,
    k0_part56_skel, k0_part57_eq_skeleton, k0_part57_skel, k0_part58_eq_skeleton, k0_part58_skel, k0_part59_eq_skeleton,
    k0_part59_skel, k0_part60_eq_skeleton, k0_part60_skel, k0_part61_eq_skeleton, k0_part61_skel, k0_part62_eq_skeleton,
    k0_part62_skel, k0_part63_eq_skeleton, k0_part63_skel, k0_part64_eq_skeleton, k0_part64_skel, k0_part65_eq_skeleton,
    k0_part65_skel, semSignalWord, semWaitWord,
    Prog.lift, Prog.bind_assoc, Prog.bind_op, Prog.bind_ret, Prog.pure_eq_ret]
  simp only [run, each, eight, four, startSlab, greet, awaitSlab, gatherSend, reduce, addUp, load8, load4, place, passU, passV, takeZ, takeY, takeU, takeV,
    arrive, drain, send, semSignalWord, semWaitWord, Prog.lift, Prog.bind_assoc, Prog.bind_op, Prog.bind_ret, Prog.pure_eq_ret]
  repeat first
    | refine op_congr (F := F) (by with_reducible_and_instances rfl) fun _ => ?_
    | refine op_congr (F := F) (by set_option maxHeartbeats 20000 in rfl) fun _ => ?_
    | refine congrArg₂ (fun (a : Code F Unit) b => Prog.bind a b)
        (congrArg (Scf.Loop.for k0_t1_loop k0_t1_ok PUnit.unit) (funext fun t => funext fun s => ?_)) (funext fun _ => ?_)
      · simp only [k0_t1_body, k0_t2_body, k0_t3_body, k0_t4_body, k0_t5_body, k0_t6_body, k0_t7_body, k0_t8_body,
        k0_part1_eq_skeleton, k0_part1_skel, k0_part2_eq_skeleton, k0_part2_skel, k0_part3_eq_skeleton, k0_part3_skel,
        k0_part4_eq_skeleton, k0_part4_skel, k0_part5_eq_skeleton, k0_part5_skel, k0_part6_eq_skeleton, k0_part6_skel,
        k0_part7_eq_skeleton, k0_part7_skel, k0_part8_eq_skeleton, k0_part8_skel, k0_part9_eq_skeleton, k0_part9_skel,
        k0_part10_eq_skeleton, k0_part10_skel, k0_part11_eq_skeleton, k0_part11_skel, k0_part12_eq_skeleton, k0_part12_skel,
        k0_part13_eq_skeleton, k0_part13_skel, k0_part14_eq_skeleton, k0_part14_skel, k0_part15_eq_skeleton, k0_part15_skel,
        k0_part16_eq_skeleton, k0_part16_skel, k0_part17_eq_skeleton, k0_part17_skel, k0_part18_eq_skeleton, k0_part18_skel,
        k0_part19_eq_skeleton, k0_part19_skel, k0_part20_eq_skeleton, k0_part20_skel, k0_part21_eq_skeleton, k0_part21_skel,
        k0_part22_eq_skeleton, k0_part22_skel, k0_part23_eq_skeleton, k0_part23_skel, k0_part24_eq_skeleton, k0_part24_skel,
        trip, lookup, smemLoad, smemLoadElt,
          Prog.lift, Prog.bind_op, Prog.bind_ret, Prog.pure_eq_ret]
        rfl
  rfl

end Cert.KernelIdealRun

end
-- ==== Proof.Allot.lean ====
/-
What each device starts with: the protocol's resources, made once for all devices and dealt out to them, with every semaphore
of the launch at zero.
-/
module

public import proofs.«01_k».proof.Proof.Body

@[expose] public section

set_option maxRecDepth 4000

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (pv : Parts F)

/-! ## The cells of a device -/

/-- A cell is the barrier's, or an end of a lane. -/
def cellEquiv : Unit ⊕ (Lane × Bool) ≃ Cell :=
  ⟨fun | .inl _ => none | .inr p => some p, fun | none => .inl () | some p => .inr p, fun x => by rcases x with _ | _ <;> rfl,
    fun x => by rcases x with _ | _ <;> rfl⟩

/-- Something for each cell: for the barrier's, and for each end of each lane. -/
theorem bar_split (Φ : Cell → sProp 𝕄) : bigSep Finset.univ Φ = iprop(Φ none ∗ bigSep Finset.univ fun p : Lane × Bool => Φ (some p)) := by
  rw [bigSep_univ_equiv cellEquiv Φ, bigSep_univ_sum]
  exact congrArg (fun P => iprop(P ∗ _)) (bigSep_singleton (i := ()))

/-- Something for each end of each lane: for each departure, and for each arrival. -/
theorem ends_split (Φ : Lane × Bool → sProp 𝕄) : bigSep Finset.univ Φ
    = iprop((bigSep Finset.univ fun l : Lane => Φ (l, false)) ∗ bigSep Finset.univ fun l : Lane => Φ (l, true)) := by
  rw [bigSep_univ_prod, ← bigSep_sep']
  exact bigSep_congr fun l _ => bigSep_univ_eq_bigSepL [false, true] (by decide) (by decide) _

/-- The cells of a device one by one: the barrier's, the departures' and the arrivals'. -/
theorem cells_split (Φ : Cell → sProp 𝕄) : bigSep Finset.univ Φ
    = iprop(Φ none ∗ (bigSep Finset.univ fun l : Lane => Φ (some (l, false))) ∗ bigSep Finset.univ fun l : Lane => Φ (some (l, true))) := by
  rw [bar_split, ends_split]

/-- The semaphores of the slabs, at zero. -/
def slabs (c : Dev nD) : sProp 𝕄 := bigSepL four fun s => semVal ((c : Thread nD τ), slabSem s) 0

/-- The kernel's own semaphores are the slabs' and the lanes', -/
theorem ownSems0_eq (c : Dev nD) : (Pipeline.ownSems0 (Ix := Unit) (Name := ℕ) (U := UU) (Lvl := ℕ) (Val := Elt F) (τ := τ) ownSem c : sProp 𝕄)
    = iprop(slabs (F := F) c ∗ bigSep Finset.univ fun p : Lane × Bool => semVal (kcell (c, some p)) 0) := by
  unfold Pipeline.ownSems0 slabs
  rw [bigSep_univ_sum]
  exact congrArg (fun P => iprop(P ∗ _)) (bigSep_univ_eq_bigSepL four (by decide) (by decide) _)

/-- and the barrier's is the one that is not. -/
theorem unscopedSems0_eq (c : Dev nD) : (unscopedSems0 c : sProp 𝕄) = semVal (barCell c) 0 := by
  unfold unscopedSems0
  rw [bigSep_eq_bigSepL_of_eq [SemLoc.reg bar] (by decide) (by decide)]
  rfl

/-- So all of them are the slabs' and the cells'. -/
theorem sems0_eq (c : Dev nD) :
    iprop(Pipeline.ownSems0 (Ix := Unit) (Name := ℕ) (U := UU) (Lvl := ℕ) (Val := Elt F) (τ := τ) ownSem c ∗ unscopedSems0 c)
      ⊢ iprop(slabs (F := F) c ∗ bigSep Finset.univ fun k : Cell => semVal (kcell (c, k)) 0) := by
  rw [ownSems0_eq, unscopedSems0_eq, bar_split]
  iintro ⟨⟨HS, HL⟩, HB⟩
  isplitl [HS]; · iexact HS
  isplitl [HB]; · iexact HB
  iexact HL

/-! ## The ghost state dealt out -/

/-- The cells of all devices. -/
def ringCells : Finset (GSem nD τ sig) := Finset.univ.map ⟨kcell, kcell_injective⟩

/-- The duties of a device's cells: three on its barrier's, one on each end of a lane. -/
abbrev Duty : Type := Fin 3 ⊕ (Lane × Bool)

/-- A duty's token: its cell, its round, which is the first, and its name. -/
def tokOf : Dev nD × Duty → GSem nD τ sig × ℕ × Fin 3
  | (c, .inl d) => (barCell c, 0, d)
  | (c, .inr p) => (kcell (c, some p), 0, 0)

/-- Different duties have different tokens. -/
theorem tokOf_injective : Function.Injective tokOf := by
  rintro ⟨c, d | p⟩ ⟨c', d' | p'⟩ h
  · have h' : (barCell c, 0, d) = (barCell c', 0, d') := h
    rw [(Prod.mk.inj (kcell_injective (Prod.mk.inj h').1)).1, (Prod.mk.inj (Prod.mk.inj h').2).2]
  · have h' : (barCell c, 0, d) = (kcell (c', some p'), 0, (0 : Fin 3)) := h
    cases (Prod.mk.inj (kcell_injective (Prod.mk.inj h').1)).2
  · have h' : (kcell (c, some p), 0, (0 : Fin 3)) = (barCell c', 0, d') := h
    cases (Prod.mk.inj (kcell_injective (Prod.mk.inj h').1)).2
  · have h' : (kcell (c, some p), 0, (0 : Fin 3)) = (kcell (c', some p'), 0, (0 : Fin 3)) := h
    have e := Prod.mk.inj (kcell_injective (Prod.mk.inj h').1)
    rw [e.1, Option.some.inj e.2]

/-- The tokens of all devices' duties. -/
def ringToks : Finset (GSem nD τ sig × ℕ × Fin 3) := Finset.univ.map ⟨tokOf, tokOf_injective⟩

/-- What the machine starts with. -/
def u₀ : UU :=
  (initOf (Pipeline.cells cfgs cellOf_inj) (Pipeline.launchToks cfgs cellOf_inj), (initOf ringCells ringToks, 1))

/-- The duties of device `c`'s own cells. -/
def toks (c : Dev nD) : sProp 𝕄 :=
  iprop((bigSep Finset.univ fun d : Fin 3 => dutyTok ER (barCell c) 0 d) ∗ bigSep Finset.univ fun p : Lane × Bool => dutyTok ER (kcell (c, some p)) 0 0)

/-- What a device is dealt first: its cells' states, its place in each, and their duties. -/
def dealt (c : Dev nD) : sProp 𝕄 :=
  iprop((bigSep Finset.univ fun k : Cell => roundState ER (sched pv) (kcell (c, k)) 0)
    ∗ (bigSep Finset.univ fun k : Cell => iprop(atPos ER (kcell (c, k)) 0 ∅ 0 ∗ reached ER (kcell (c, k)) 0)) ∗ toks c)

/-- The protocol's ghost state, as it is at the start, is what each device is dealt first. -/
theorem fund_ring : BI.own (ER (initOf ringCells ringToks)) ⊢ (|==> bigSep Finset.univ (dealt pv) : sProp 𝕄) := by
  have hX (Φ : GSem nD τ sig → sProp 𝕄) : bigSep ringCells Φ = bigSep Finset.univ fun c : Dev nD => bigSep Finset.univ fun k : Cell => Φ (kcell (c, k)) := by
    unfold ringCells
    rw [bigSep_map, bigSep_univ_prod]
    rfl
  have hT : bigSep ringToks (fun x => (dutyTok ER x.1 x.2.1 x.2.2 : sProp 𝕄)) = bigSep Finset.univ fun c : Dev nD => toks c := by
    unfold ringToks
    rw [bigSep_map, bigSep_univ_prod]
    exact bigSep_congr fun c _ => bigSep_univ_sum _
  iintro HX
  imod (Rounds.fund ER (sched pv) ringCells ringToks) $$ HX with ⟨Hst, Hr, Hat, Htok⟩
  imodintro
  ihave Hst' := (Entails.of_eq (hX fun g => roundState ER (sched pv) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold dealt
  simp only [bigSep_sep']
  isplitl [Hst']; · iexact Hst'
  isplitl [Hat' Hr']
  · isplitl [Hat'] <;> iassumption
  iexact Htok'

/-- The cells of a device opened for sharing. -/
theorem core_alloc (c : Dev nD) :
    iprop(Pipeline.ownSems0 (Ix := Unit) (Name := ℕ) (U := UU) (Lvl := ℕ) (Val := Elt F) (τ := τ) ownSem c ∗ unscopedSems0 c ∗ dealt pv c)
      ⊢ |={Set.univ}=> iprop((bigSep Finset.univ fun k : Cell => iprop(∃ κ : ℕ, cellInv ER (sched pv) κ (kcell (c, k))))
          ∗ (bigSep Finset.univ fun k : Cell => iprop(atPos ER (kcell (c, k)) 0 ∅ 0 ∗ reached ER (kcell (c, k)) 0)) ∗ toks c ∗ slabs c) := by
  unfold dealt
  iintro ⟨Hos, Hus, Hst, Hat, Htok⟩
  ihave Hv := (sems0_eq (F := F) c) $$ [Hos Hus]
  · isplitl [Hos] <;> iassumption
  icases Hv with ⟨Hsl, Hv⟩
  imod (show iprop((bigSep Finset.univ fun k : Cell => semVal (kcell (c, k)) 0) ∗ bigSep Finset.univ fun k : Cell => roundState ER (sched pv) (kcell (c, k)) 0)
      ⊢ (|={Set.univ}=> bigSep Finset.univ fun k : Cell => iprop(∃ κ : ℕ, cellInv ER (sched pv) κ (kcell (c, k))) : sProp 𝕄) from by
        rw [← bigSep_sep']
        exact (bigSep_mono fun k _ => (Rounds.body_intro ER (sched pv) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact Hsl

/-- The duties device `c` discharges: one on each neighbour's barrier cell, and for each lane its departure and its arrival
    at the peer. -/
def pays (c : Dev nD) : sProp 𝕄 :=
  iprop((bigSep Finset.univ fun d : Fin 3 => dutyTok ER (barCell (near d c)) 0 d) ∗ bigSep Finset.univ fun l : Lane => rights (F := F) c l)

/-- What a device keeps for itself, -/
def kept (c : Dev nD) : sProp 𝕄 :=
  iprop((bigSep Finset.univ fun k : Cell => atPos ER (kcell (c, k)) 0 ∅ 0) ∗ pays c ∗ slabs c)

/-- and what it begins with: that, and what is known of all cells. -/
def begins (c : Dev nD) : sProp 𝕄 := iprop(∃ K, (bigSep Finset.univ (record pv K)) ∗ kept c)

/-- The neighbour along an axis, as a permutation of the devices. -/
def nearEquiv (d : Fin 3) : Dev nD ≃ Dev nD := ⟨near d, near d, near_near d, near_near d⟩

/-- The duties handed to the devices that discharge them. -/
theorem toks_around : (bigSep Finset.univ fun c : Dev nD => (toks c : sProp 𝕄)) ⊢ bigSep Finset.univ fun c : Dev nD => pays c := by
  have hB : (bigSep Finset.univ fun c : Dev nD => bigSep Finset.univ fun d : Fin 3 => (dutyTok ER (barCell c) 0 d : sProp 𝕄))
      = bigSep Finset.univ fun c : Dev nD => bigSep Finset.univ fun d : Fin 3 => dutyTok ER (barCell (near d c)) 0 d := by
    rw [bigSep_univ_comm, bigSep_univ_comm (fun (c : Dev nD) (d : Fin 3) => (dutyTok ER (barCell (near d c)) 0 d : sProp 𝕄))]
    exact bigSep_congr fun d _ => bigSep_univ_equiv (nearEquiv d) fun c => (dutyTok ER (barCell c) 0 d : sProp 𝕄)
  have hR : (bigSep Finset.univ fun c : Dev nD => bigSep Finset.univ fun l : Lane => (dutyTok ER (recvCell c l) 0 0 : sProp 𝕄))
      = bigSep Finset.univ fun c : Dev nD => bigSep Finset.univ fun l : Lane => dutyTok ER (recvCell (peer l c) l) 0 0 := by
    rw [bigSep_univ_comm, bigSep_univ_comm (fun (c : Dev nD) (l : Lane) => (dutyTok ER (recvCell (peer l c) l) 0 0 : sProp 𝕄))]
    exact bigSep_congr fun l _ => bigSep_univ_equiv (nearEquiv (axis l)) fun c => (dutyTok ER (recvCell c l) 0 0 : sProp 𝕄)
  unfold toks pays rights
  simp only [ends_split, bigSep_sep']
  rw [hB, hR]

/-- What lasts serves every member of a family. -/
theorem with_known {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- A device begins with what it keeps, once the names of the cells' invariants are known. -/
theorem begins_intro (K : Dev nD × Cell → ℕ) (c : Dev nD) : iprop((bigSep Finset.univ (record pv K)) ∗ kept (F := F) c) ⊢ begins pv c := by
  unfold begins
  iintro H
  iexists K
  iexact H

/-- What the devices opened and were dealt, regrouped: each has what it begins with. -/
theorem regroup :
    (bigSep Finset.univ fun c : Dev nD => iprop((bigSep Finset.univ fun k : Cell => iprop(∃ κ : ℕ, cellInv ER (sched pv) κ (kcell (c, k))))
          ∗ (bigSep Finset.univ fun k : Cell => iprop(atPos ER (kcell (c, k)) 0 ∅ 0 ∗ reached ER (kcell (c, k)) 0)) ∗ toks c ∗ slabs c) : sProp 𝕄)
      ⊢ bigSep Finset.univ (begins pv) := by
  rw [bigSep_sep', bigSep_sep', bigSep_sep', ← bigSep_univ_prod (fun ck : Dev nD × Cell => iprop(∃ κ : ℕ, cellInv ER (sched pv) κ (kcell ck))),
    bigSep_congr (s := Finset.univ) (fun (c : Dev nD) _ => bigSep_sep' Finset.univ (fun k : Cell => (atPos ER (kcell (c, k)) 0 ∅ 0 : sProp 𝕄)) (fun k => reached ER (kcell (c, k)) 0)),
    bigSep_sep', ← bigSep_univ_prod (fun ck : Dev nD × Cell => (reached ER (kcell ck) 0 : sProp 𝕄))]
  iintro ⟨HI, ⟨Hat, #HR⟩, Htok, Hsl⟩
  ihave HK := (BI.bigSep_exists_pi Finset.univ (fun (ck : Dev nD × Cell) (κ : ℕ) => (cellInv ER (sched pv) κ (kcell ck) : sProp 𝕄))) $$ HI
  icases HK with ⟨%K, #HI⟩
  ihave Htk := (toks_around (F := F)) $$ Htok
  iapply (with_known (R := bigSep Finset.univ (record pv K)) fun c _ => begins_intro pv K c)
  isplitr
  · iapply (Entails.of_eq (bigSep_sep' Finset.univ (fun p : Dev nD × Cell => (cellInv ER (sched pv) (K p) (kcell p) : sProp 𝕄)) fun p => reached ER (kcell p) 0).symm)
    isplitl; · iexact HI
    iexact HR
  · iapply (Entails.of_eq (show iprop((bigSep Finset.univ fun c : Dev nD => bigSep Finset.univ fun k : Cell => (atPos ER (kcell (c, k)) 0 ∅ 0 : sProp 𝕄))
        ∗ (bigSep Finset.univ fun c : Dev nD => pays c) ∗ bigSep Finset.univ fun c : Dev nD => slabs c) = bigSep Finset.univ (kept (F := F)) by
          unfold kept; rw [← bigSep_sep', ← bigSep_sep']))
    isplitl [Hat]; · iexact Hat
    isplitl [Htk]; · iexact Htk
    iexact Hsl

/-- All devices' semaphores and what they were dealt, turned into what each begins with. -/
theorem glob : (bigSep Finset.univ fun c => iprop(Pipeline.ownSems0 (Ix := Unit) (Name := ℕ) (U := UU) (Lvl := ℕ) (Val := Elt F) (τ := τ) ownSem c ∗ unscopedSems0 c ∗ dealt pv c) : sProp 𝕄)
    ⊢ |={Set.univ}=> bigSep Finset.univ (begins pv) :=
  ((bigSep_mono fun c _ => core_alloc pv c).trans (bigSep_fupd _ _)).trans (BI.fupd_mono (regroup pv))

end Cert.KernelIdealRun

end
-- ==== Proof.Device.lean ====
/-
The kernel's body on one device, as the launch runs it: the ids and the result are staged whole, the body is the run of Body,
and the result array ends holding what the body put in it.
-/
module

public import proofs.«01_k».proof.Proof.Owed
public import proofs.«01_k».proof.Proof.Printed
public import proofs.«01_k».proof.Proof.Allot
public import proofs.«01_k».proof.Proof.Gen.KernelIdeal.Points
public import Idealize.ShloMosaic.Lib.Pipeline.CollectiveSegs
public import Idealize.ShloMosaic.Lib.Pipeline.Value
public import Idealize.ShloMosaic.Lib.Quiescent

@[expose] public section

set_option maxRecDepth 4000

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## What a run starts from and makes -/

/-- A device's ids and its half of the table, -/
def idsOf (c : Dev nD) : Ids F := m ((c : Thread nD τ).loc main_arg0)
def halfOf (c : Dev nD) : Half F := m ((c : Thread nD τ).loc main_arg1)

/-- its partial rows, -/
def partsOf : Parts F := fun c k => gathered c (idsOf m c) (stageOf c (halfOf m c)) k

/-- and its result. -/
def resultOf (c : Dev nD) : S1024x1024.Idx → Elt F .bf16 := outOf c (partsOf m)

/-- Before its body runs a device has what it was dealt, what it is owed, the levels and its half of the table, -/
def start (c : Dev nD) : sProp 𝕄 :=
  iprop(begins (partsOf m) c ∗ cred (tallyAt (barCell c) () 3) ∗ (bigSep Finset.univ fun l : Lane => cred (tallyAt (recvCell c l) () N))
    ∗ levels ∗ owns (c : Thread nD τ) tab fullShare (halfOf m c))

/-- and its scratch buffers, -/
def before (c : Dev nD) : sProp 𝕄 := iprop(start m c ∗ scratch c)

/-- and after it every semaphore at zero, and its half of the table. -/
def after (c : Dev nD) : sProp 𝕄 :=
  iprop(semVal (barCell c) 0 ∗ (bigSep Finset.univ fun l : Lane => idle (F := F) c l true) ∗ (bigSep Finset.univ fun l : Lane => idle (F := F) c l false)
    ∗ slabs c ∗ owns (c : Thread nD τ) tab fullShare (halfOf m c) ∗ scratch c)

/-- What the launch is to know of a device: its arguments and result before and after, and what it has and owes. -/
def dats (_ : Fin 1) (c : Dev nD) : Dat τ (Elt F) Unit ℕ UU ℕ cfg0 c where
  A w := m ((cfg0.win w).arr.view.loc (c : Thread nD τ))
  after w _ := match w with
    | ⟨0, _⟩ => idsOf m c
    | ⟨1, _⟩ => resultOf m c
  Φ t := match t with
    | ⟨0, _⟩ => before m c
    | ⟨_ + 1, _⟩ => after m c
  q _ := fullShare
  owed t := match t with
    | ⟨0, _⟩ => owed₀ c
    | ⟨_ + 1, _⟩ => 0

/-! ## The body -/

/-- The ids' window is the whole array, -/
theorem rect_ids (j : S1024.Idx) : (win0_0.rect t0_0).emb j = j := by
  funext a
  refine Fin.ext ?_
  rw [Rect.emb_apply]
  show (0 : ℕ) * _ + 1 * (j a).val = (j a).val
  omega

/-- and so is the result's. -/
theorem rect_res (j : S1024x1024.Idx) : (win0_1.rect t0_0).emb j = j := by
  funext a
  refine Fin.ext ?_
  rw [Rect.emb_apply]
  show (0 : ℕ) * _ + 1 * (j a).val = (j a).val
  omega

/-- So the body finds the ids staged. -/
theorem before_ids (c : Dev nD) (d : (cfg0.win (0 : Fin 2)).block.Idx → Elt F .i32) :
    (dats m 0 c).before (0 : Fin 2) t0_0 d = idsOf m c := by
  have h : (dats m 0 c).before (0 : Fin 2) t0_0 d = (win0_0.blk t0_0).view.read (Elt F) (m ((c : Thread nD τ).loc main_arg0)) := by
    unfold Dat.before
    rw [if_pos (fetch0_0 t0_0)]
    rfl
  rw [h]
  funext j
  show m ((c : Thread nD τ).loc main_arg0) ((win0_0.rect t0_0).emb j) = m ((c : Thread nD τ).loc main_arg0) j
  exact congrArg (m ((c : Thread nD τ).loc main_arg0)) (rect_ids j)

/-- And the result ends as the body leaves it. -/
theorem final_res (c : Dev nD) : (dats m 0 c).arrAt (1 : Fin 2) cfg0.N = resultOf m c := by
  refine Dat.arrAt_eq_of_cover (dats m 0 c) (1 : Fin 2) (resultOf m c) (fun t _ => ?_) (fun i => ?_)
  · obtain rfl := fin_N0 t
    have ha : (dats m 0 c).after (1 : Fin 2) t0_0 = resultOf m c := by dsimp only [dats]
    unfold Dat.flushed
    rw [ha]
    funext j
    exact congrArg (resultOf m c) (rect_res j).symm
  · refine ⟨t0_0, flush0_1 t0_0, ?_⟩
    show i ∈ ((View.whole main_v1).slice (win0_1.rect t0_0)).set
    rw [View.set_slice_whole, ← Rect.map_emb_univ]
    exact Finset.mem_map.mpr ⟨i, Finset.mem_univ i, rect_res i⟩

/-- What the body is run from, -/
def bodyPre (c : Dev nD) : sProp 𝕄 :=
  iprop(before m c ∗ (dats m 0 c).owesAt () t0_0.castSucc
    ∗ (∃ d, owns (c : Thread nD τ) ids fullShare ((dats m 0 c).before (0 : Fin 2) t0_0 d))
    ∗ (∃ d, owns (c : Thread nD τ) res fullShare ((dats m 0 c).before (1 : Fin 2) t0_0 d)))

/-- and what it leaves. -/
def bodyPost (c : Dev nD) : sProp 𝕄 :=
  iprop(after m c ∗ (dats m 0 c).owesAt () t0_0.succ ∗ owns (c : Thread nD τ) ids fullShare (idsOf m c)
    ∗ owns (c : Thread nD τ) res fullShare (resultOf m c))

/-- What the launch gives a device is what its run starts with, -/
theorem body_start (c : Dev nD) : bodyPre m c ⊢ iprop(∃ K, facts (partsOf m) K ∗ atStart c (idsOf m c) (halfOf m c)) := by
  unfold bodyPre before start begins kept pays Dat.owesAt Pipeline.owesWithin
  rw [show (dats m 0 c).owed t0_0.castSucc = owed₀ c from rfl, cells_split]
  iintro ⟨⟨⟨⟨%K, HR, ⟨HaB, HaS, HaV⟩, ⟨HtB, HtL⟩, Hsl⟩, HcB, HcV, Hlev, Htab⟩, Hscr⟩, ⟨%W, %hW, HO⟩, ⟨%d0, Hids⟩, ⟨%d1, Hres⟩⟩
  iexists K
  unfold facts atStart
  isplitl [HR Hlev]
  · isplitl [HR]; · iexact HR
    iexact Hlev
  isplitl [HO]
  · iexists W
    iexact HO
  isplitl [HtB]; · iexact HtB
  isplitl [HcB]; · iexact HcB
  isplitl [HaB]; · iexact HaB
  isplitl [HtL]; · iexact HtL
  isplitl [HcV HaV]
  · unfold coming
    iapply (Entails.of_eq (bigSep_sep' Finset.univ (fun l : Lane => (cred (tallyAt (recvCell c l) () N) : sProp 𝕄)) fun l => atPos ER (recvCell c l) 0 ∅ 0).symm)
    isplitl [HcV] <;> iassumption
  isplitl [HaS]; · iexact HaS
  isplitl [Hsl]
  · unfold slabs
    iexact Hsl
  isplitl [Hids]
  · iapply (Entails.of_eq (congrArg (fun X => (owns (c : Thread nD τ) ids fullShare X : sProp 𝕄)) (before_ids m c d0)))
    iexact Hids
  isplitl [Htab]; · iexact Htab
  isplitl [Hres]
  · iexists _
    iexact Hres
  iexact Hscr

/-- and what the run ends with is what the launch asks for. -/
theorem body_end (c : Dev nD) : atEnd (partsOf m) c (idsOf m c) (halfOf m c) ⊢ bodyPost m c := by
  unfold bodyPost after atEnd slabs Dat.owesAt Pipeline.owesWithin resultOf
  rw [show (dats m 0 c).owed t0_0.succ = 0 from rfl]
  iintro ⟨⟨%W, HO⟩, HB, HV, HS, Hsl, Hids, Htab, Hres, Hscr⟩
  isplitl [HB HV HS Hsl Htab Hscr]
  · isplitl [HB]; · iexact HB
    isplitl [HV]; · iexact HV
    isplitl [HS]; · iexact HS
    isplitl [Hsl]; · iexact Hsl
    isplitl [Htab]; · iexact Htab
    iexact Hscr
  isplitl [HO]
  · iexists W
    isplitr
    · ipureintro
      exact fun _ _ => Or.inl trivial
    iexact HO
  isplitl [Hids]; · iexact Hids
  iexact Hres

/-- The printed body, from what it is run from to what it leaves. -/
theorem body_wp (c : Dev nD) : bodyPre m c ⊢ runs c (printed F) fun _ => bodyPost m c := by
  rw [printed_eq]
  simp only [Prog.lift, Prog.bind_op, Prog.bind_ret]
  have h (K : Dev nD × Cell → ℕ) : iprop(facts (partsOf m) K ∗ atStart c (idsOf m c) (halfOf m c))
      ⊢ runs c (run printedPlaces c) fun _ => bodyPost m c :=
    (run_wp (partsOf m) K printedPlaces printed_laid c (idsOf m c) (halfOf m c) fun _ => rfl).trans (wp_mono _ _ _ fun _ => body_end m c)
  have e : runs c (Prog.op TpuEff.deviceId fun c => run printedPlaces c) (fun _ => bodyPost m c)
      = runs c (run printedPlaces c) fun _ => bodyPost m c := wp_deviceId 𝒱₀ (c : Thread nD τ) none Set.univ
  rw [e]
  refine (body_start m c).trans ?_
  iintro ⟨%K, H⟩
  iapply (h K)
  iexact H

/-- The launch's obligation for a device's body, at its one step. -/
theorem body_obligation (c : Dev nD) : BodyObligation (dats (F := F) m 0 c) (defs₀ (F := F)) 𝒱₀ () Set.univ := fun t => by
  rw [show t = t0_0 from fin_N0 t]
  rw [bigSep_W0, bigSep_W0]
  exact body_wp m c

end Cert.KernelIdealRun

end
-- ==== Proof.Launch.lean ====
/-
The run of all sixteen devices: from any memory with every semaphore at zero the program ends without a fault, each device's
arguments are as they were, its result is as computed, and every semaphore is at zero again.
-/
module

public import proofs.«01_k».proof.Proof.Device
public import Idealize.ShloMosaic.Lib.Pipeline.CollectiveSegs
public import Idealize.ShloMosaic.Lib.Quiescent

@[expose] public section

set_option maxRecDepth 4000

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## The launch -/

/-- The kernel's own semaphores are different from one another and from those that stage its arguments. -/
theorem ownSemFacts : Pipeline.OwnSemFacts cfg0.spec ownSem := by decide

/-- The arguments and the result are held in full. -/
theorem share_eq (c : Dev nD) (w : Fin cfg0.W) : (dats m 0 c).share w = fullShare := by
  unfold Dat.share
  split <;> rfl

/-- A whole buffer, whatever it holds. -/
theorem some_whole (c : Dev nD) (b : Ref sig .tc) :
    (iprop(∃ Y, owns (c : Thread nD τ) (Memref.whole b) fullShare Y) : sProp 𝕄)
      = iprop(∃ f : Buf (Elt F) ((c : Thread nD τ).loc b), ((c : Thread nD τ).loc b) ↦{fullShare} f) := by
  unfold owns
  simp only [Memref.view_whole, View.read_whole, View.set_whole]
  refine equiv_iff.mp ⟨?_, ?_⟩
  · show (_ : sProp 𝕄) ⊢ _
    iintro ⟨%Y, %f, %h, H⟩
    iexists f
    iexact H
  · show (_ : sProp 𝕄) ⊢ _
    iintro ⟨%f, H⟩
    iexists f
    iexists f
    isplitr
    · ipureintro
      rfl
    iexact H

/-- A whole buffer with given contents. -/
theorem whole_eq (c : Dev nD) (b : Ref sig .tc) (X : b.ty.Contents (Elt F)) :
    (owns (c : Thread nD τ) (Memref.whole b) fullShare X : sProp 𝕄) = iprop(((c : Thread nD τ).loc b) ↦{fullShare} X) := by
  unfold owns
  simp only [Memref.view_whole, View.read_whole, View.set_whole]
  refine equiv_iff.mp ⟨?_, ?_⟩
  · show (_ : sProp 𝕄) ⊢ _
    iintro ⟨%f, %h, H⟩
    subst h
    iexact H
  · show (_ : sProp 𝕄) ⊢ _
    iintro H
    iexists X
    isplitr
    · ipureintro
      rfl
    iexact H

/-- The scratch buffers are the region's own. -/
theorem scratch_eq (c : Dev nD) : (Pipeline.scopedRest cfg0.spec c : sProp 𝕄) = scratch c := by
  rw [scopedRest0_eq]
  unfold scratch some8 some4
  rw [← some_whole c cc0_scratch0, ← some_whole c cc0_scratch1, ← some_whole c cc0_scratch2, ← some_whole c cc0_scratch3,
    ← some_whole c cc0_scratch4, ← some_whole c cc0_scratch5, ← some_whole c cc0_scratch6, ← some_whole c cc0_scratch7]
  rfl

/-- What the launch leaves outside the region, with what was dealt, is what a device starts from; -/
theorem start_intro (c : Dev nD) :
    iprop(Pipeline.unscopedRestP Pipeline.Prefetch.none cfg0.spec c (fun b => m ((c : Thread nD τ).loc b)) ∗ levAts lab lev
        ∗ Pipeline.launchCred owed₀ c ∗ prngReg c (ρ c) ∗ begins (partsOf m) c)
      ⊢ |={Set.univ}=> iprop(start m c ∗ emp) := by
  rw [Pipeline.unscopedRestP_none, unscopedRest0_eq]
  iintro ⟨Htab, Hlev, Hcr, -, HG⟩
  ihave Hc := (creds (F := F) c) $$ Hcr
  icases Hc with ⟨H1, HN⟩
  imodintro
  unfold start levels
  isplitl
  · isplitl [HG]; · iexact HG
    isplitl [H1]; · iexact H1
    isplitl [HN]; · iexact HN
    isplitl [Hlev]; · iexact Hlev
    iapply (Entails.of_eq (whole_eq c main_arg1 (halfOf m c)).symm)
    iexact Htab
  · iempintro

/-- with the region's scratch buffers it is what the body begins with. -/
theorem before_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = before m c from rfl, scratch_eq]
  unfold before
  iintro ⟨Hs, -, Hr⟩
  isplitl [Hs]; · iexact Hs
  iexact Hr

/-- What a device hands back: its barrier semaphore at zero and its half of the table. -/
def back (c : Dev nD) : sProp 𝕄 := iprop(unscopedSems0 c ∗ ((c : Thread nD τ).loc main_arg1) ↦{fullShare} m ((c : Thread nD τ).loc main_arg1))

/-- What the body ends with: what a device hands back, its own semaphores at zero, and its scratch buffers. -/
theorem after_exit (c : Dev nD) :
    (dats m 0 c).Φ (Fin.last cfg0.N) ⊢ iprop(back m c ∗ Pipeline.ownSems0 ownSem c ∗ Pipeline.scopedRest cfg0.spec c) := by
  rw [show (dats m 0 c).Φ (Fin.last cfg0.N) = after m c from rfl, scratch_eq, ownSems0_eq, ends_split]
  unfold after back idle
  rw [unscopedSems0_eq]
  iintro ⟨HB, HV, HS, Hsl, Htab, Hr⟩
  isplitl [HB Htab]
  · isplitl [HB]; · iexact HB
    iapply (Entails.of_eq (whole_eq c main_arg1 (halfOf m c)))
    iexact Htab
  isplitl [HV HS Hsl]
  · isplitl [Hsl]; · iexact Hsl
    isplitl [HS] <;> iassumption
  iexact Hr

/-- The semaphores that stage the arguments are no cells. -/
theorem stage_ne : ∀ (w : Fin cfg0.W) (s : Fin (cfg0.win w).nbuf) (k : Cell), SemLoc.dma ((cfg0.win w).sem s) ≠ cellSem k := by decide

/-- So waiting at them is allowed. -/
theorem waits (c : Dev nD) : (levAts lab lev : sProp 𝕄) ⊢ Pipeline.cellsWaits cfgs (dats m) () 0 c :=
  Pipeline.cellsWaits_intro cfgs (dats m) () 0 c fun w s t =>
    mayWait_stage c _ (stage_ne w s) _ (by
      rcases t with ⟨_ | _, ht⟩
      · exact Or.inl rfl
      · exact Or.inr rfl)

/-- What a run leaves: the ids and the table's halves as they were, and the result of each device. -/
def Ran (s : MemSt nD τ sig (Elt F)) : Prop :=
  (∀ c : Dev nD, s.mem ((c : Thread nD τ).loc main_arg0) = m ((c : Thread nD τ).loc main_arg0))
    ∧ (∀ c : Dev nD, s.mem ((c : Thread nD τ).loc main_arg1) = m ((c : Thread nD τ).loc main_arg1))
    ∧ ∀ c : Dev nD, s.mem ((c : Thread nD τ).loc main_v1) = resultOf m c

/-- From any memory whose semaphores are at zero, every execution of the sixteen devices ends, without a fault; each device's
    arguments end as they were, its result as computed, and every semaphore at zero. -/
theorem run_main : θ_run defs (onTc (τ := τ) (main (F := F))) ⟨m, fun _ => 0, ρ⟩ (fun r => Ran m r.2 ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := owed₀) (howed₀ := fun _ => rfl) (howedN := fun _ => rfl)
    (L := lab) (lv := lev) (hL := lab_of_ne) (hwaits := waits m)
    (G := dealt (partsOf m)) (G' := begins (partsOf m)) (u₀ := u₀)
    (hu₀ := by
      unfold u₀
      iintro Hu
      ihave H := (ownU_pair _ _) $$ Hu
      icases H with ⟨HP, HX⟩
      ihave HX' := (show BI.own ((embR : Emb (UB × Counters) 𝕄) (initOf ringCells ringToks, 1)) ⊢ BI.own (ER (initOf ringCells ringToks)) from .rfl) $$ HX
      imod (fund_ring (partsOf m)) $$ HX' with HG
      imodintro
      isplitl [HP] <;> iassumption)
    (hglob := glob (partsOf m))
    (hA := fun _ _ => rfl) (hpf := fun _ k => k.elim0)
    (X := start m) (Y := back m) (Z := fun _ => iprop(emp))
    (hX := start_intro m ρ) (hin := before_intro m) (hout := after_exit m)
    (QY := fun c s => (∀ sm : SemLoc sig, sm.isScoped .tc = false → s.sem ((c.tc : Thread nD τ), sm) = 0)
      ∧ s.mem ((c : Thread nD τ).loc main_arg1) = m ((c : Thread nD τ).loc main_arg1))
    (hY := fun c s' => by
      unfold back
      iintro ⟨⟨Hu, Htab⟩, -, HSI⟩
      ihave %h := SI_pointsTo_agree $$ [HSI Htab]
      · isplitl [HSI] <;> iassumption
      imod (Pipeline.unscopedSems0_read (X := unscopedSems0 c) (c := c) fupd_intro s') $$ [Hu HSI] with ⟨%hs, HSI⟩
      · isplitl [Hu] <;> iassumption
      imodintro
      isplitr
      · ipureintro
        exact ⟨hs, funext fun i => h i (Finset.mem_univ i)⟩
      iexact HSI)
    (hQ := fun s h hs => ⟨⟨fun c => ((h c).1 (0 : Fin 2)).trans ((dats m 0 c).arrAt_in (0 : Fin 2) rfl _), fun c => (h c).2.2.2,
      fun c => ((h c).1 (1 : Fin 2)).trans (final_res m c)⟩, sem_eq_zero hs fun c => (h c).2.2.1⟩)

end Cert.KernelIdealRun

end
-- ==== Proof.Agree.lean ====
/-
Every device's result is the reference's, when the devices' tables are the halves of the reference's, their ids are its ids,
and the precondition holds.
-/
module

public import proofs.«01_k».proof.Proof.Lookup
public import proofs.«01_k».proof.Proof.Launch

@[expose] public section

set_option maxRecDepth 4000

noncomputable section

namespace Cert.KernelIdealRun

open Cert.KernelIdeal Cert.KernelIdeal.Gen

open Idealize.ShloMosaic
open Idealize.ShloMosaic.TcCoe

variable (m : (ℓ : Loc nD τ sig) → Buf (Elt Ideal) ℓ)

/-- The block of the table a device holds is the half numbered by its place along `x`, -/
theorem block_half : ∀ c : Dev nD, Layout.meshLin [2, 2, 4] c.val [0] = half c := by decide

/-- and so a row of the block is a row of that half. -/
theorem block_row (W : Table) (c : Dev nD) (i : S8192x1024.Idx) :
    Layout.blockN ⟨2, ![8192, 1024]⟩ ⟨2, ![16384, 1024]⟩ (Layout.meshBlock [2, 2, 4] ![[0], []] c) W (by decide) i
      = W (ix2 (rowIn c (i 0)) (i 1)) := by
  refine congrArg W (funext fun a => Fin.ext ?_)
  match a with
  | ⟨0, _⟩ =>
    show Layout.meshLin [2, 2, 4] c.val [0] * 8192 + (i 0).val = 8192 * half c + (i 0).val
    rw [block_half, Nat.mul_comm]
  | ⟨1, _⟩ =>
    show 0 * 1024 + (i 1).val = (i 1).val
    omega

/-- The result of device `c`, at a place: the table's entry in that column of the row the id names. -/
theorem result_entry (W : Table) (I : Ids Ideal) (hI : ∀ n, (I n).toNat < 16384) (hi : ∀ c, idsOf m c = I)
    (hW : ∀ c, halfOf m c = Layout.blockN ⟨2, ![8192, 1024]⟩ ⟨2, ![16384, 1024]⟩ (Layout.meshBlock [2, 2, 4] ![[0], []] c) W (by decide))
    (c : Dev nD) (i j : Fin 1024) : resultOf m c (ix2 i j) = W (ix2 (named I hI i) j) := by
  have hT (c : Dev nD) (i : S8192x1024.Idx) : halfOf m c i = W (ix2 (rowIn c (i 0)) (i 1)) :=
    (congrFun (hW c) i).trans (block_row W c i)
  have hp : partsOf m = fun c k => gathered c I (stageOf c (halfOf m c)) k := by
    funext c k
    unfold partsOf
    rw [hi]
  unfold resultOf
  rw [hp]
  exact out_value W I (halfOf m) hI hT c i j

end Cert.KernelIdealRun

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_in_table_KernelIdeal
public import proofs.«01_k».proof.Proof.Gen.Pre_in_table_ReferenceIdeal
public import proofs.«01_k».proof.Proof.AtBits.Launch
public import proofs.«01_k».proof.Proof.Agree
public import Idealize.ShloMosaic.Adequacy
public import Idealize.ShloMosaic.Init

@[expose] public section

noncomputable section

namespace Cert.Proof

open Idealize.ShloMosaic Idealize.SL.Sem

/-! ## Frames -/

/-- The kernel as printed terminates, keeps its arguments and leaves every counter at zero. -/
theorem frame_kernel : Cert.quiescent_Kernel := fun m g _ =>
  (θ_run Cert.Kernel.defs _ _).mono (fun _ h => ⟨fun c => ⟨h.1.1 c, h.1.2.1 c⟩, h.2⟩) (Cert.KernelRun.run_main (F := Bits) m g)

/-- So does the kernel over the extended reals. -/
theorem frame_ideal : Cert.quiescent_KernelIdeal := fun m g _ =>
  (θ_run Cert.KernelIdeal.defs _ _).mono (fun _ h => ⟨fun c => ⟨h.1.1 c, h.1.2.1 c⟩, h.2⟩)
    (Cert.KernelIdealRun.run_main (F := Ideal) m g)

/-- So does the reference, which has no counter. -/
theorem frame_reference : Cert.quiescent_ReferenceIdeal := fun m g _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m g)

/-! ## The value -/

/-- Where the precondition holds every device ends with the reference's result. -/
theorem value : Cert.algebraic_KernelIdeal_ReferenceIdeal_pre_in_table_KernelIdeal := by
  intro m g m' g' hpre hargs
  refine ⟨_, ?_, (θ_run Cert.ReferenceIdeal.defs _ _).mono (fun r h => h 0) (Cert.ReferenceIdeal.Value.run (F := Ideal) m' g')⟩
  refine (θ_run Cert.KernelIdeal.defs _ _).mono (fun r h c => ⟨?_, h.1.1 c, h.1.2.1 c⟩)
    (Cert.KernelIdealRun.run_main (F := Ideal) m g)
  rw [h.1.2.2 c]
  have hI : ∀ n, ((m' (((0 : Dev Cert.ReferenceIdeal.nD).tc : Thread Cert.ReferenceIdeal.nD Cert.ReferenceIdeal.τ).loc
      Cert.ReferenceIdeal.main_arg0) : IVec Cert.ReferenceIdeal.S1024 32) n).toNat < 16384 := by
    intro n
    have hp := hpre 0
    rw [(hargs 0).1] at hp
    exact Cert.ReferenceRun.ids_bound _ _ hp n
  funext i
  rw [eq_ix2 i]
  exact (Cert.KernelIdealRun.result_entry m _ _ hI (fun c => (hargs c).1) (fun c => (hargs c).2) c (i 0) (i 1)).trans
    (Cert.ReferenceRun.result_value _ _ hI (i 0) (i 1) _ _ _).symm

/-- Everything claimed. -/
theorem claim : Cert.Claim := ⟨Cert.Kernel.Gen.facts, Cert.KernelIdeal.Gen.facts, Cert.ReferenceIdeal.Gen.facts,
  Cert.Pre_in_table_KernelIdeal.Gen.facts, Cert.Pre_in_table_ReferenceIdeal.Gen.facts,
  frame_kernel, frame_ideal, fun m g _ => frame_ideal m g trivial, frame_reference, fun m g _ => frame_reference m g trivial,
  trivial, value⟩

end Cert.Proof

end
